-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)) (v5 : (c : Dev Cert.KernelIdeal.nD) → Buf (Elt Ideal) ((c.tc : Thread Cert.KernelIdeal.nD Cert.KernelIdeal.τ).loc Cert.KernelIdeal.main_v64_5)) (v6 : (c : Dev Cert.KernelIdeal.nD) → Buf (Elt Ideal) ((c.tc : Thread Cert.KernelIdeal.nD Cert.KernelIdeal.τ).loc Cert.KernelIdeal.main_v64_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_v64_5) = v5 c
          ∧ r.2.mem ((c.tc : Thread Cert.KernelIdeal.nD Cert.KernelIdeal.τ).loc Cert.KernelIdeal.main_v64_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v265) = v1 c
          ∧ r.2.mem ((c.tc : Thread Cert.ReferenceIdeal.nD Cert.ReferenceIdeal.τ).loc Cert.ReferenceIdeal.main_v266) = v2 c
          ∧ r.2.mem ((c.tc : Thread Cert.ReferenceIdeal.nD Cert.ReferenceIdeal.τ).loc Cert.ReferenceIdeal.main_v268) = v3 c
          ∧ r.2.mem ((c.tc : Thread Cert.ReferenceIdeal.nD Cert.ReferenceIdeal.τ).loc Cert.ReferenceIdeal.main_v270) = v4 c
          ∧ r.2.mem ((c.tc : Thread Cert.ReferenceIdeal.nD Cert.ReferenceIdeal.τ).loc Cert.ReferenceIdeal.main_v260) = v5 c
          ∧ r.2.mem ((c.tc : Thread Cert.ReferenceIdeal.nD Cert.ReferenceIdeal.τ).loc Cert.ReferenceIdeal.main_v262) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)) (v5 : (c : Dev Cert.Kernel2Ideal.nD) → Buf (Elt Ideal) ((c.tc : Thread Cert.Kernel2Ideal.nD Cert.Kernel2Ideal.τ).loc Cert.Kernel2Ideal.main_v15_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_v15_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_v70) = v4 c
          ∧ r.2.mem ((c.tc : Thread Cert.Reference2Ideal.nD Cert.Reference2Ideal.τ).loc Cert.Reference2Ideal.main_v71) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x2048x1024 : Shape := ⟨3, ![4, 2048, 1024]⟩
abbrev S4x6144 : Shape := ⟨2, ![4, 6144]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x6144 : S_.BroadcastsInDim S4x6144 (![] : Fin 0 → Fin S4x6144.rank)
  reducesTo_S4x6144_S_d0_1 : S4x6144.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1x1024 .f32) (main_arg9 : FVec F S1x1024 .f32) (main_arg10 : FVec F S4x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S1x1024 .f32 := Host.absf main_arg9
  let main_cst_16 : FVec F S_ .f32 := constant S_ .f32 0x7F800000#32
  let main_v37 : FVec F S1x1024 .f32 := broadcastInDim S1x1024 ![] bcast_S_S1x1024 main_cst_16
  let main_v38 : IVec S1x1024 1 := cmpf .olt main_v36 main_v37
  let main_c_17 : IVec S_ 1 := constantI S_ 1 1#1
  let main_v39 : IVec S_ 1 := (fun x v => Host.reduce IntOp.andi x v reducesTo_S1x1024_S_d0_1 h_S_) main_v38 main_c_17
  let main_v40 : FVec F S4x2048x1024 .f32 := Host.absf main_arg10
  let main_cst_18 : FVec F S_ .f32 := constant S_ .f32 0x7F800000#32
  let main_v41 : FVec F S4x2048x1024 .f32 := broadcastInDim S4x2048x1024 ![] bcast_S_S4x2048x1024 main_cst_18
  let main_v42 : IVec S4x2048x1024 1 := cmpf .olt main_v40 main_v41
  let main_c_19 : IVec S_ 1 := constantI S_ 1 1#1
  let main_v43 : IVec S_ 1 := (fun x v => Host.reduce IntOp.andi x v reducesTo_S4x2048x1024_S_d0_1_2 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x1024 .f32) (main_arg5 : FVec F S1x1024 .f32) (main_arg6 : FVec F S1024x4096 .f32) (main_arg7 : FVec F S4096x1024 .f32) (main_arg8 : FVec F S1x1024 .f32) (main_arg9 : FVec F S1x1024 .f32) (main_arg10 : FVec F S4x2048x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x4096 .f32 := Host.absf main_arg6
  let main_cst_10 : FVec F S_ .f32 := constant S_ .f32 0x7F800000#32
  let main_v25 : FVec F S1024x4096 .f32 := broadcastInDim S1024x4096 ![] bcast_S_S1024x4096 main_cst_10
  let main_v26 : IVec S1024x4096 1 := cmpf .olt main_v24 main_v25
  let main_c_11 : IVec S_ 1 := constantI S_ 1 1#1
  let main_v27 : IVec S_ 1 := (fun x v => Host.reduce IntOp.andi x v reducesTo_S1024x4096_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S4x2048x1024 .f32) (main_arg1 : FVec F S4x2048x1024 .f32) (main_arg2 : FVec F S4x6144 .f32) (main_arg3 : FVec F S1024x1024 .f32) (main_arg4 : FVec F S1x1024 .f32) (main_arg5 : FVec F S1x1024 .f32) (main_arg6 : FVec F S1024x4096 .f32) (main_arg7 : FVec F S4096x1024 .f32) (main_arg8 : FVec F S1x1024 .f32) (main_arg9 : FVec F S1x1024 .f32) (main_arg10 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S4x6144 .f32 := Host.absf main_arg2
  let main_cst_2 : FVec F S_ .f32 := constant S_ .f32 0x7F800000#32
  let main_v9 : FVec F S4x6144 .f32 := broadcastInDim S4x6144 ![] bcast_S_S4x6144 main_cst_2
  let main_v10 : IVec S4x6144 1 := cmpf .olt main_v8 main_v9
  let main_c_3 : IVec S_ 1 := constantI S_ 1 1#1
  let main_v11 : IVec S_ 1 := (fun x v => Host.reduce IntOp.andi x v reducesTo_S4x6144_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_arg7 main_arg8 main_arg9 main_arg10 main_v3 main_v7 main_v11 main_v15
-- ==== Kernel.lean ====
abbrev S4x2048x1024 : Shape := ⟨3, ![4, 2048, 1024]⟩
abbrev S4x6144 : Shape := ⟨2, ![4, 6144]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S4x6x1024 : Shape := ⟨3, ![4, 6, 1024]⟩
abbrev S_ : Shape := ⟨0, ![]⟩
abbrev S4x8x1024 : Shape := ⟨3, ![4, 8, 1024]⟩
abbrev S4x1x1024 : Shape := ⟨3, ![4, 1, 1024]⟩
abbrev S4x2048 : Shape := ⟨2, ![4, 2048]⟩
abbrev S4x2048x1 : Shape := ⟨3, ![4, 2048, 1]⟩
abbrev S4x2048x4096 : Shape := ⟨3, ![4, 2048, 4096]⟩
abbrev S1024x4x1024 : Shape := ⟨3, ![1024, 4, 1024]⟩
abbrev S4x1024x1024 : Shape := ⟨3, ![4, 1024, 1024]⟩
abbrev S8x512x1024 : Shape := ⟨3, ![8, 512, 1024]⟩
abbrev S8x128x1024 : Shape := ⟨3, ![8, 128, 1024]⟩
abbrev S8x1152x1024 : Shape := ⟨3, ![8, 1152, 1024]⟩
abbrev S8192x1024 : Shape := ⟨2, ![8192, 1024]⟩
abbrev S8192x4096 : Shape := ⟨2, ![8192, 4096]⟩
abbrev S8x1024 : Shape := ⟨2, ![8, 1024]⟩
abbrev S256x1024 : Shape := ⟨2, ![256, 1024]⟩
abbrev S256x4096 : Shape := ⟨2, ![256, 4096]⟩
abbrev S1x8x1024 : Shape := ⟨3, ![1, 8, 1024]⟩
abbrev S256 : Shape := ⟨1, ![256]⟩
abbrev S256x1 : Shape := ⟨2, ![256, 1]⟩
abbrev S1024 : Shape := ⟨1, ![1024]⟩
abbrev S1x1x1024 : Shape := ⟨3, ![1, 1, 1024]⟩
abbrev S1x512x1024 : Shape := ⟨3, ![1, 512, 1024]⟩
abbrev S512x1024 : Shape := ⟨2, ![512, 1024]⟩
abbrev S256x512 : Shape := ⟨2, ![256, 512]⟩

abbrev nBuf : Space → Nat
  | .hbm => 92
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S4x2048x1024, .f32⟩
  | .hbm, ⟨11, _⟩ => ⟨S4x6x1024, .f32⟩
  | .hbm, ⟨12, _⟩ => ⟨S_, .f32⟩
  | .hbm, ⟨13, _⟩ => ⟨S4x8x1024, .f32⟩
  | .hbm, ⟨14, _⟩ => ⟨S_, .f32⟩
  | .hbm, ⟨15, _⟩ => ⟨S4x8x1024, .f32⟩
  | .hbm, ⟨16, _⟩ => ⟨S4x8x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x1x1024, .f32⟩
  | .hbm, ⟨51, _⟩ => ⟨S4x2048x1024, .f32⟩
  | .hbm, ⟨52, _⟩ => ⟨S4x2048x1024, .f32⟩
  | .hbm, ⟨53, _⟩ => ⟨S4x1x1024, .f32⟩
  | .hbm, ⟨54, _⟩ => ⟨S4x2048x1024, .f32⟩
  | .hbm, ⟨55, _⟩ => ⟨S4x2048x1024, .f32⟩
  | .hbm, ⟨56, _⟩ => ⟨S4x2048x4096, .f32⟩
  | .hbm, ⟨57, _⟩ => ⟨S_, .f32⟩
  | .hbm, ⟨58, _⟩ => ⟨S4x2048x4096, .f32⟩
  | .hbm, ⟨59, _⟩ => ⟨S4x2048x4096, .f32⟩
  | .hbm, ⟨60, _⟩ => ⟨S4x2048x4096, .f32⟩
  | .hbm, ⟨61, _⟩ => ⟨S4x2048x1024, .f32⟩
  | .hbm, ⟨62, _⟩ => ⟨S_, .f32⟩
  | .hbm, ⟨63, _⟩ => ⟨S4x2048x1024, .f32⟩
  | .hbm, ⟨64, _⟩ => ⟨S4x2048x1024, .f32⟩
  | .hbm, ⟨65, _⟩ => ⟨S4x1x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S1024x1024, .bf16⟩
  | .hbm, ⟨70, _⟩ => ⟨S1024x4096, .bf16⟩
  | .hbm, ⟨71, _⟩ => ⟨S1024x4x1024, .bf16⟩
  | .hbm, ⟨72, _⟩ => ⟨S4x1024x1024, .bf16⟩
  | .hbm, ⟨73, _⟩ => ⟨S8x512x1024, .bf16⟩
  | .hbm, ⟨74, _⟩ => ⟨S4096x1024, .bf16⟩
  | .hbm, ⟨75, _⟩ => ⟨S8x512x1024, .bf16⟩
  | .hbm, ⟨76, _⟩ => ⟨S8x128x1024, .bf16⟩
  | .hbm, ⟨77, _⟩ => ⟨S8x1152x1024, .bf16⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x4096, .f32⟩
  | .hbm, ⟨82, _⟩ => ⟨S8192x4096, .bf16⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S8192x1024, .f32⟩
  | .hbm, ⟨88, _⟩ => ⟨S8192x1024, .bf16⟩
  | .hbm, ⟨89, _⟩ => ⟨S8192x4096, .bf16⟩
  | .hbm, ⟨90, _⟩ => ⟨S8x1024, .f32⟩
  | .hbm, ⟨91, _⟩ => ⟨S4x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S8x512x1024, .bf16⟩
  | .local _ .vmem, ⟨19, _⟩ => ⟨S8x512x1024, .bf16⟩
  | .local _ .vmem, ⟨20, _⟩ => ⟨S1024x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S256x4096, .bf16⟩
  | .local _ .vmem, ⟨30, _⟩ => ⟨S256x4096, .bf16⟩
  | .local _ .vmem, ⟨31, _⟩ => ⟨S8x1024, .f32⟩
  | .local _ .vmem, ⟨32, _⟩ => ⟨S1x8x1024, .f32⟩
  | .local _ .vmem, ⟨33, _⟩ => ⟨S1x8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64_0 : Ref sig .tc := ⟨.hbm, 85, rfl⟩
abbrev main_v64_1 : Ref sig .tc := ⟨.hbm, 86, rfl⟩
abbrev main_v64_2 : Ref sig .tc := ⟨.hbm, 87, rfl⟩
abbrev main_v64_3 : Ref sig .tc := ⟨.hbm, 88, rfl⟩
abbrev main_v64_4 : Ref sig .tc := ⟨.hbm, 89, rfl⟩
abbrev main_v64_5 : Ref sig .tc := ⟨.hbm, 90, rfl⟩
abbrev main_v64_6 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S4x2048x1024 : Shape := ⟨3, ![4, 2048, 1024]⟩
abbrev S4x6144 : Shape := ⟨2, ![4, 6144]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S4x1024 : Shape := ⟨2, ![4, 1024]⟩
abbrev S4x1x1024 : Shape := ⟨3, ![4, 1, 1024]⟩
abbrev S_ : Shape := ⟨0, ![]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S8x1024 : Shape := ⟨2, ![8, 1024]⟩
abbrev S4x8x1024 : Shape := ⟨3, ![4, 8, 1024]⟩
abbrev S8192x1024 : Shape := ⟨2, ![8192, 1024]⟩
abbrev S8192x4096 : Shape := ⟨2, ![8192, 4096]⟩

abbrev nBuf : Space → Nat
  | .hbm => 354
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x6144, .f32⟩
  | 3 => ⟨S1024x1024, .f32⟩
  | 4 => ⟨S1x1024, .f32⟩
  | 5 => ⟨S1x1024, .f32⟩
  | 6 => ⟨S1024x4096, .f32⟩
  | 7 => ⟨S4096x1024, .f32⟩
  | 8 => ⟨S1x1024, .f32⟩
  | 9 => ⟨S1x1024, .f32⟩
  | 10 => ⟨S4x2048x1024, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x2048x1024, .f32⟩
  | 24 => ⟨S_, .f32⟩
  | 25 => ⟨S4x2048x1024, .f32⟩
  | 26 => ⟨S4x2048x1024, .f32⟩
  | 27 => ⟨S_, .f32⟩
  | 28 => ⟨S4x1x1024, .f32⟩
  | 29 => ⟨S4x1x1024, .f32⟩
  | 30 => ⟨S4x2048x1024, .f32⟩
  | 31 => ⟨S4x2048x1024, .f32⟩
  | 32 => ⟨S4x2048x1024, .f32⟩
  | 33 => ⟨S1024, .f32⟩
  | 34 => ⟨S1024, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S4x2048x1024, .f32⟩
  | 42 => ⟨S4x2048x1024, .f32⟩
  | 43 => ⟨S4x2048x1024, .f32⟩
  | 44 => ⟨S_, .f32⟩
  | 45 => ⟨S4x2048x1024, .f32⟩
  | 46 => ⟨S4x2048x1024, .f32⟩
  | 47 => ⟨S_, .f32⟩
  | 48 => ⟨S4x2048, .f32⟩
  | 49 => ⟨S4x2048x1, .f32⟩
  | 50 => ⟨S_, .f32⟩
  | 51 => ⟨S4x2048x1, .f32⟩
  | 52 => ⟨S4x2048x1, .f32⟩
  | 53 => ⟨S4x2048x1024, .f32⟩
  | 54 => ⟨S4x2048x1024, .f32⟩
  | 55 => ⟨S_, .f32⟩
  | 56 => ⟨S4x2048x1, .f32⟩
  | 57 => ⟨S4x2048x1, .f32⟩
  | 58 => ⟨S4x2048x1, .f32⟩
  | 59 => ⟨S4x2048x1, .f32⟩
  | 60 => ⟨S_, .f32⟩
  | 61 => ⟨S4x2048x1, .f32⟩
  | 62 => ⟨S4x2048x1, .f32⟩
  | 63 => ⟨S4x2048x1024, .f32⟩
  | 64 => ⟨S4x2048x1024, .f32⟩
  | 65 => ⟨S1x1x1024, .f32⟩
  | 66 => ⟨S4x2048x1024, .f32⟩
  | 67 => ⟨S4x2048x1024, .f32⟩
  | 68 => ⟨S1x1x1024, .f32⟩
  | 69 => ⟨S4x2048x1024, .f32⟩
  | 70 => ⟨S4x2048x1024, .f32⟩
  | 71 => ⟨S_, .f32⟩
  | 72 => ⟨S4x1x1024, .f32⟩
  | 73 => ⟨S4x1x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x4096, .f32⟩
  | 79 => ⟨S_, .f32⟩
  | 80 => ⟨S4x2048x4096, .f32⟩
  | 81 => ⟨S4x2048x4096, .f32⟩
  | 82 => ⟨S_, .f32⟩
  | 83 => ⟨S4x2048x4096, .f32⟩
  | 84 => ⟨S4x2048x4096, .i1⟩
  | 85 => ⟨S_, .f32⟩
  | 86 => ⟨S4x2048x4096, .f32⟩
  | 87 => ⟨S4x2048x4096, .f32⟩
  | 88 => ⟨S_, .f32⟩
  | 89 => ⟨S4x2048x4096, .f32⟩
  | 90 => ⟨S4x2048x4096, .f32⟩
  | 91 => ⟨S4x2048x1024, .f32⟩
  | 92 => ⟨S1024, .f32⟩
  | 93 => ⟨S1024, .f32⟩
  | 94 => ⟨S_, .f32⟩
  | 95 => ⟨S4x2048x1024, .f32⟩
  | 96 => ⟨S4x2048x1024, .f32⟩
  | 97 => ⟨S_, .f32⟩
  | 98 => ⟨S4x1x1024, .f32⟩
  | 99 => ⟨S4x1x1024, .f32⟩
  | 100 => ⟨S4x2048x1024, .f32⟩
  | 101 => ⟨S4x2048x1024, .f32⟩
  | 102 => ⟨S4x2048x1024, .f32⟩
  | 103 => ⟨S_, .f32⟩
  | 104 => ⟨S4x2048, .f32⟩
  | 105 => ⟨S4x2048x1, .f32⟩
  | 106 => ⟨S_, .f32⟩
  | 107 => ⟨S4x2048x1, .f32⟩
  | 108 => ⟨S4x2048x1, .f32⟩
  | 109 => ⟨S4x2048x1024, .f32⟩
  | 110 => ⟨S4x2048x1024, .f32⟩
  | 111 => ⟨S4x2048x1024, .f32⟩
  | 112 => ⟨S_, .f32⟩
  | 113 => ⟨S4x2048x1024, .f32⟩
  | 114 => ⟨S4x2048x1024, .f32⟩
  | 115 => ⟨S_, .f32⟩
  | 116 => ⟨S4x2048, .f32⟩
  | 117 => ⟨S4x2048x1, .f32⟩
  | 118 => ⟨S_, .f32⟩
  | 119 => ⟨S4x2048x1, .f32⟩
  | 120 => ⟨S4x2048x1, .f32⟩
  | 121 => ⟨S4x2048x1024, .f32⟩
  | 122 => ⟨S4x2048x1024, .f32⟩
  | 123 => ⟨S_, .f32⟩
  | 124 => ⟨S4x2048x1, .f32⟩
  | 125 => ⟨S4x2048x1, .f32⟩
  | 126 => ⟨S4x2048x1, .f32⟩
  | 127 => ⟨S4x2048x1, .f32⟩
  | _ => ⟨S4x2048x1024, .f32⟩

abbrev hbmTy0_1 (i : Nat) : BufTy := match i % 128 with
  | 0 => ⟨S_, .f32⟩
  | 1 => ⟨S4x2048x1, .f32⟩
  | 2 => ⟨S4x2048x1, .f32⟩
  | 3 => ⟨S4x2048x1024, .f32⟩
  | 4 => ⟨S4x2048x1024, .f32⟩
  | 5 => ⟨S1x1x1024, .f32⟩
  | 6 => ⟨S4x2048x1024, .f32⟩
  | 7 => ⟨S4x2048x1024, .f32⟩
  | 8 => ⟨S1x1x1024, .f32⟩
  | 9 => ⟨S4x2048x1024, .f32⟩
  | 10 => ⟨S4x2048x1024, .f32⟩
  | 11 => ⟨S4x2048x1024, .f32⟩
  | 12 => ⟨S4x2048x1024, .f32⟩
  | 13 => ⟨S_, .f32⟩
  | 14 => ⟨S4x2048x1024, .f32⟩
  | 15 => ⟨S4x2048x1024, .f32⟩
  | 16 => ⟨S_, .f32⟩
  | 17 => ⟨S4x2048, .f32⟩
  | 18 => ⟨S_, .f32⟩
  | 19 => ⟨S4x2048, .f32⟩
  | 20 => ⟨S4x2048, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4x2048, .f32⟩
  | 29 => ⟨S_, .f32⟩
  | 30 => ⟨S4x2048, .f32⟩
  | 31 => ⟨S4x2048, .f32⟩
  | 32 => ⟨S4x2048x1024, .f32⟩
  | 33 => ⟨S4x2048x1024, .f32⟩
  | 34 => ⟨S_, .f32⟩
  | 35 => ⟨S1024, .f32⟩
  | 36 => ⟨S1x1x1024, .f32⟩
  | 37 => ⟨S_, .f32⟩
  | 38 => ⟨S1024, .f32⟩
  | 39 => ⟨S4x2048x1024, .f32⟩
  | 40 => ⟨S_, .f32⟩
  | 41 => ⟨S1024, .f32⟩
  | 42 => ⟨S1x1x1024, .f32⟩
  | 43 => ⟨S4x2048x1024, .f32⟩
  | 44 => ⟨S4x2048x1024, .f32⟩
  | 45 => ⟨S_, .f32⟩
  | 46 => ⟨S1024, .f32⟩
  | 47 => ⟨S4x2048x1024, .f32⟩
  | 48 => ⟨S_, .f32⟩
  | 49 => ⟨S4x2048, .f32⟩
  | 50 => ⟨S4x2048x1, .f32⟩
  | 51 => ⟨S4x2048x1024, .f32⟩
  | 52 => ⟨S4x2048x1024, .f32⟩
  | 53 => ⟨S4x2048x1, .f32⟩
  | 54 => ⟨S4x2048x1024, .f32⟩
  | 55 => ⟨S_, .f32⟩
  | 56 => ⟨S4x2048, .f32⟩
  | 57 => ⟨S4x2048x1, .f32⟩
  | 58 => ⟨S_, .f32⟩
  | 59 => ⟨S4x2048x1, .f32⟩
  | 60 => ⟨S4x2048x1, .f32⟩
  | 61 => ⟨S_, .f32⟩
  | 62 => ⟨S4x2048, .f32⟩
  | 63 => ⟨S4x2048x1024, .f32⟩
  | 64 => ⟨S4x2048x1024, .f32⟩
  | 65 => ⟨S4x2048x1024, .f32⟩
  | 66 => ⟨S_, .f32⟩
  | 67 => ⟨S4x2048, .f32⟩
  | 68 => ⟨S4x2048x1, .f32⟩
  | 69 => ⟨S4x2048x1024, .f32⟩
  | 70 => ⟨S4x2048x1, .f32⟩
  | 71 => ⟨S_, .f32⟩
  | 72 => ⟨S4x2048x1, .f32⟩
  | 73 => ⟨S4x2048x1, .f32⟩
  | 74 => ⟨S_, .f32⟩
  | 75 => ⟨S4x2048, .f32⟩
  | 76 => ⟨S4x2048x1024, .f32⟩
  | 77 => ⟨S4x2048x1024, .f32⟩
  | 78 => ⟨S4x2048x1024, .f32⟩
  | 79 => ⟨S4x2048x1024, .f32⟩
  | 80 => ⟨S4x2048x1024, .f32⟩
  | 81 => ⟨S_, .f32⟩
  | 82 => ⟨S4x1024, .f32⟩
  | 83 => ⟨S4x1x1024, .f32⟩
  | 84 => ⟨S_, .f32⟩
  | 85 => ⟨S4x2048x1024, .f32⟩
  | 86 => ⟨S4x2048x1024, .f32⟩
  | 87 => ⟨S4x2048x4096, .f32⟩
  | 88 => ⟨S4x2048x4096, .f32⟩
  | 89 => ⟨S_, .f32⟩
  | 90 => ⟨S4x2048x4096, .f32⟩
  | 91 => ⟨S4x2048x4096, .f32⟩
  | 92 => ⟨S4x2048x1024, .f32⟩
  | 93 => ⟨S_, .f32⟩
  | 94 => ⟨S4x1024, .f32⟩
  | 95 => ⟨S4x1x1024, .f32⟩
  | 96 => ⟨S4x2048x1024, .f32⟩
  | 97 => ⟨S_, .f32⟩
  | 98 => ⟨S4x1024, .f32⟩
  | 99 => ⟨S4x1x1024, .f32⟩
  | 100 => ⟨S4x2048x1024, .f32⟩
  | 101 => ⟨S4x2048x1024, .f32⟩
  | 102 => ⟨S4x2048x1024, .f32⟩
  | 103 => ⟨S_, .f32⟩
  | 104 => ⟨S1024, .f32⟩
  | 105 => ⟨S1x1x1024, .f32⟩
  | 106 => ⟨S_, .f32⟩
  | 107 => ⟨S1024, .f32⟩
  | 108 => ⟨S4x2048x1024, .f32⟩
  | 109 => ⟨S_, .f32⟩
  | 110 => ⟨S1024, .f32⟩
  | 111 => ⟨S1x1x1024, .f32⟩
  | 112 => ⟨S4x2048x1024, .f32⟩
  | 113 => ⟨S4x2048x1024, .f32⟩
  | 114 => ⟨S_, .f32⟩
  | 115 => ⟨S1024, .f32⟩
  | 116 => ⟨S4x2048x1024, .f32⟩
  | 117 => ⟨S_, .f32⟩
  | 118 => ⟨S4x2048, .f32⟩
  | 119 => ⟨S4x2048x1, .f32⟩
  | 120 => ⟨S4x2048x1024, .f32⟩
  | 121 => ⟨S4x2048x1024, .f32⟩
  | 122 => ⟨S4x2048x1, .f32⟩
  | 123 => ⟨S4x2048x1024, .f32⟩
  | 124 => ⟨S_, .f32⟩
  | 125 => ⟨S4x2048, .f32⟩
  | 126 => ⟨S4x2048x1, .f32⟩
  | 127 => ⟨S_, .f32⟩
  | _ => ⟨S4x2048x1024, .f32⟩

abbrev hbmTy0_2 (i : Nat) : BufTy := match i % 128 with
  | 0 => ⟨S4x2048x1, .f32⟩
  | 1 => ⟨S4x2048x1, .f32⟩
  | 2 => ⟨S_, .f32⟩
  | 3 => ⟨S4x2048, .f32⟩
  | 4 => ⟨S4x2048x1024, .f32⟩
  | 5 => ⟨S4x2048x1024, .f32⟩
  | 6 => ⟨S4x2048x1024, .f32⟩
  | 7 => ⟨S_, .f32⟩
  | 8 => ⟨S4x2048, .f32⟩
  | 9 => ⟨S4x2048x1, .f32⟩
  | 10 => ⟨S4x2048x1024, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048, .f32⟩
  | 17 => ⟨S4x2048x1024, .f32⟩
  | 18 => ⟨S4x2048x1024, .f32⟩
  | 19 => ⟨S4x2048x1024, .f32⟩
  | 20 => ⟨S4x2048x1024, .f32⟩
  | 21 => ⟨S4x2048x1024, .f32⟩
  | 22 => ⟨S_, .f32⟩
  | 23 => ⟨S4x1024, .f32⟩
  | 24 => ⟨S4x1x1024, .f32⟩
  | 25 => ⟨S4x2048x1024, .f32⟩
  | 26 => ⟨S_, .f32⟩
  | 27 => ⟨S4x2048x1024, .f32⟩
  | 28 => ⟨S4x2048x1024, .f32⟩
  | 29 => ⟨S_, .f32⟩
  | 30 => ⟨S4x1x1024, .f32⟩
  | 31 => ⟨S4x1x1024, .f32⟩
  | 32 => ⟨S4x2048x1024, .f32⟩
  | 33 => ⟨S4x2048x1024, .f32⟩
  | 34 => ⟨S4x2048x1024, .f32⟩
  | 35 => ⟨S1024, .f32⟩
  | 36 => ⟨S1024, .f32⟩
  | 37 => ⟨S_, .f32⟩
  | 38 => ⟨S4x2048, .f32⟩
  | 39 => ⟨S4x2048x1, .f32⟩
  | 40 => ⟨S_, .f32⟩
  | 41 => ⟨S4x2048x1, .f32⟩
  | 42 => ⟨S4x2048x1, .f32⟩
  | 43 => ⟨S4x2048x1024, .f32⟩
  | 44 => ⟨S4x2048x1024, .f32⟩
  | 45 => ⟨S4x2048x1024, .f32⟩
  | 46 => ⟨S_, .f32⟩
  | 47 => ⟨S4x2048, .f32⟩
  | 48 => ⟨S4x2048x1, .f32⟩
  | 49 => ⟨S_, .f32⟩
  | 50 => ⟨S4x2048x1, .f32⟩
  | 51 => ⟨S4x2048x1, .f32⟩
  | 52 => ⟨S4x2048x1024, .f32⟩
  | 53 => ⟨S4x2048x1024, .f32⟩
  | 54 => ⟨S_, .f32⟩
  | 55 => ⟨S4x2048x1, .f32⟩
  | 56 => ⟨S4x2048x1, .f32⟩
  | 57 => ⟨S4x2048x1, .f32⟩
  | 58 => ⟨S4x2048x1024, .f32⟩
  | 59 => ⟨S4x2048x1024, .f32⟩
  | 60 => ⟨S1x1x1024, .f32⟩
  | 61 => ⟨S4x2048x1024, .f32⟩
  | 62 => ⟨S4x2048x1024, .f32⟩
  | 63 => ⟨S1x1x1024, .f32⟩
  | 64 => ⟨S4x2048x1024, .f32⟩
  | 65 => ⟨S4x2048x1024, .f32⟩
  | 66 => ⟨S4x2048x1024, .f32⟩
  | 67 => ⟨S4x2048x1024, .f32⟩
  | 68 => ⟨S_, .f32⟩
  | 69 => ⟨S4x2048x1024, .f32⟩
  | 70 => ⟨S4x2048x1024, .f32⟩
  | 71 => ⟨S_, .f32⟩
  | 72 => ⟨S4x2048x1024, .f32⟩
  | 73 => ⟨S4x2048x1024, .f32⟩
  | 74 => ⟨S_, .f32⟩
  | 75 => ⟨S1024, .f32⟩
  | 76 => ⟨S_, .f32⟩
  | 77 => ⟨S1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S8x1024, .f32⟩
  | 87 => ⟨S_, .f32⟩
  | 88 => ⟨S4x1x1024, .f32⟩
  | 89 => ⟨S4x8x1024, .f32⟩
  | 90 => ⟨S8192x1024, .f32⟩
  | 91 => ⟨S8192x1024, .f32⟩
  | 92 => ⟨S8192x1024, .bf16⟩
  | 93 => ⟨S8192x1024, .f32⟩
  | 94 => ⟨S8192x1024, .f32⟩
  | 95 => ⟨S8192x1024, .bf16⟩
  | 96 => ⟨S8192x4096, .f32⟩
  | 97 => ⟨S8192x4096, .bf16⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call0_cst : Ref sig .tc := ⟨.hbm, 79, rfl⟩
abbrev main_call0_v0 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_20 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_21 : Ref sig .tc := ⟨.hbm, 141, rfl⟩
abbrev main_v106 : Ref sig .tc := ⟨.hbm, 142, rfl⟩
abbrev main_v107 : Ref sig .tc := ⟨.hbm, 143, rfl⟩
abbrev main_cst_22 : Ref sig .tc := ⟨.hbm, 144, rfl⟩
abbrev main_v108 : Ref sig .tc := ⟨.hbm, 145, rfl⟩
abbrev main_cst_23 : Ref sig .tc := ⟨.hbm, 146, rfl⟩
abbrev main_v109 : Ref sig .tc := ⟨.hbm, 147, rfl⟩
abbrev main_v110 : Ref sig .tc := ⟨.hbm, 148, rfl⟩
abbrev main_cst_24 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_cst_26 : Ref sig .tc := ⟨.hbm, 153, rfl⟩
abbrev main_cst_27 : Ref sig .tc := ⟨.hbm, 154, rfl⟩
abbrev main_v113 : Ref sig .tc := ⟨.hbm, 155, rfl⟩
abbrev main_v114 : Ref sig .tc := ⟨.hbm, 156, rfl⟩
abbrev main_cst_28 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_29 : Ref sig .tc := ⟨.hbm, 162, rfl⟩
abbrev main_v119 : Ref sig .tc := ⟨.hbm, 163, rfl⟩
abbrev main_v120 : Ref sig .tc := ⟨.hbm, 164, rfl⟩
abbrev main_cst_30 : Ref sig .tc := ⟨.hbm, 165, rfl⟩
abbrev main_v121 : Ref sig .tc := ⟨.hbm, 166, rfl⟩
abbrev main_v122 : Ref sig .tc := ⟨.hbm, 167, rfl⟩
abbrev main_cst_31 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_32 : Ref sig .tc := ⟨.hbm, 173, rfl⟩
abbrev main_v127 : Ref sig .tc := ⟨.hbm, 174, rfl⟩
abbrev main_v128 : Ref sig .tc := ⟨.hbm, 175, rfl⟩
abbrev main_cst_33 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_34 : Ref sig .tc := ⟨.hbm, 183, rfl⟩
abbrev main_v135 : Ref sig .tc := ⟨.hbm, 184, rfl⟩
abbrev main_v136 : Ref sig .tc := ⟨.hbm, 185, rfl⟩
abbrev main_cst_35 : Ref sig .tc := ⟨.hbm, 186, rfl⟩
abbrev main_v137 : Ref sig .tc := ⟨.hbm, 187, rfl⟩
abbrev main_v138 : Ref sig .tc := ⟨.hbm, 188, rfl⟩
abbrev main_cst_36 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_37 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_38 : Ref sig .tc := ⟨.hbm, 199, rfl⟩
abbrev main_v147 : Ref sig .tc := ⟨.hbm, 200, rfl⟩
abbrev main_v148 : Ref sig .tc := ⟨.hbm, 201, rfl⟩
abbrev main_cst_39 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_40 : Ref sig .tc := ⟨.hbm, 209, rfl⟩
abbrev main_v155 : Ref sig .tc := ⟨.hbm, 210, rfl⟩
abbrev main_v156 : Ref sig .tc := ⟨.hbm, 211, rfl⟩
abbrev main_cst_41 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_42 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_cst_43 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_44 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_45 : Ref sig .tc := ⟨.hbm, 231, rfl⟩
abbrev main_v172 : Ref sig .tc := ⟨.hbm, 232, rfl⟩
abbrev main_v173 : Ref sig .tc := ⟨.hbm, 233, rfl⟩
abbrev main_cst_46 : Ref sig .tc := ⟨.hbm, 234, rfl⟩
abbrev main_v174 : Ref sig .tc := ⟨.hbm, 235, rfl⟩
abbrev main_v175 : Ref sig .tc := ⟨.hbm, 236, rfl⟩
abbrev main_cst_47 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_48 : Ref sig .tc := ⟨.hbm, 242, rfl⟩
abbrev main_v180 : Ref sig .tc := ⟨.hbm, 243, rfl⟩
abbrev main_v181 : Ref sig .tc := ⟨.hbm, 244, rfl⟩
abbrev main_cst_49 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_50 : Ref sig .tc := ⟨.hbm, 252, rfl⟩
abbrev main_v188 : Ref sig .tc := ⟨.hbm, 253, rfl⟩
abbrev main_v189 : Ref sig .tc := ⟨.hbm, 254, rfl⟩
abbrev main_cst_51 : Ref sig .tc := ⟨.hbm, 255, rfl⟩
abbrev main_v190 : Ref sig .tc := ⟨.hbm, 256, rfl⟩
abbrev main_v191 : Ref sig .tc := ⟨.hbm, 257, rfl⟩
abbrev main_cst_52 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_53 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_54 : Ref sig .tc := ⟨.hbm, 268, rfl⟩
abbrev main_v200 : Ref sig .tc := ⟨.hbm, 269, rfl⟩
abbrev main_v201 : Ref sig .tc := ⟨.hbm, 270, rfl⟩
abbrev main_cst_55 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_cst_56 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_cst_57 : Ref sig .tc := ⟨.hbm, 282, rfl⟩
abbrev main_v211 : Ref sig .tc := ⟨.hbm, 283, rfl⟩
abbrev main_v212 : Ref sig .tc := ⟨.hbm, 284, rfl⟩
abbrev main_cst_58 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_59 : Ref sig .tc := ⟨.hbm, 293, rfl⟩
abbrev main_v220 : Ref sig .tc := ⟨.hbm, 294, rfl⟩
abbrev main_v221 : Ref sig .tc := ⟨.hbm, 295, rfl⟩
abbrev main_cst_60 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_cst_61 : Ref sig .tc := ⟨.hbm, 302, rfl⟩
abbrev main_v227 : Ref sig .tc := ⟨.hbm, 303, rfl⟩
abbrev main_v228 : Ref sig .tc := ⟨.hbm, 304, rfl⟩
abbrev main_cst_62 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_cst_63 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_cst_64 : Ref sig .tc := ⟨.hbm, 324, rfl⟩
abbrev main_v246 : Ref sig .tc := ⟨.hbm, 325, rfl⟩
abbrev main_v247 : Ref sig .tc := ⟨.hbm, 326, rfl⟩
abbrev main_cst_65 : Ref sig .tc := ⟨.hbm, 327, rfl⟩
abbrev main_v248 : Ref sig .tc := ⟨.hbm, 328, rfl⟩
abbrev main_v249 : Ref sig .tc := ⟨.hbm, 329, rfl⟩
abbrev main_cst_66 : Ref sig .tc := ⟨.hbm, 330, rfl⟩
abbrev main_v250 : Ref sig .tc := ⟨.hbm, 331, rfl⟩
abbrev main_cst_67 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_cst_68 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x2048x512 : Shape := ⟨3, ![4, 2048, 512]⟩
abbrev S4x6144 : Shape := ⟨2, ![4, 6144]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S4x6x1024 : Shape := ⟨3, ![4, 6, 1024]⟩
abbrev S_ : Shape := ⟨0, ![]⟩
abbrev S4x8x1024 : Shape := ⟨3, ![4, 8, 1024]⟩
abbrev S1024x4x1024 : Shape := ⟨3, ![1024, 4, 1024]⟩
abbrev S4x1024x1024 : Shape := ⟨3, ![4, 1024, 1024]⟩
abbrev S8x512x1024 : Shape := ⟨3, ![8, 512, 1024]⟩
abbrev S8x128x1024 : Shape := ⟨3, ![8, 128, 1024]⟩
abbrev S8x1152x1024 : Shape := ⟨3, ![8, 1152, 1024]⟩
abbrev S8192x512 : Shape := ⟨2, ![8192, 512]⟩
abbrev S8192x1024 : Shape := ⟨2, ![8192, 1024]⟩
abbrev S8192x4096 : Shape := ⟨2, ![8192, 4096]⟩
abbrev S256x512 : Shape := ⟨2, ![256, 512]⟩
abbrev S256x1024 : Shape := ⟨2, ![256, 1024]⟩
abbrev S1x8x1024 : Shape := ⟨3, ![1, 8, 1024]⟩
abbrev S256x4096 : Shape := ⟨2, ![256, 4096]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩
abbrev S1x512x1024 : Shape := ⟨3, ![1, 512, 1024]⟩

abbrev nBuf : Space → Nat
  | .hbm => 31
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S4x6144, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S4x6x1024, .f32⟩
  | .hbm, ⟨10, _⟩ => ⟨S_, .f32⟩
  | .hbm, ⟨11, _⟩ => ⟨S4x8x1024, .f32⟩
  | .hbm, ⟨12, _⟩ => ⟨S1024x1024, .bf16⟩
  | .hbm, ⟨13, _⟩ => ⟨S1024x4096, .bf16⟩
  | .hbm, ⟨14, _⟩ => ⟨S1024x4x1024, .bf16⟩
  | .hbm, ⟨15, _⟩ => ⟨S4x1024x1024, .bf16⟩
  | .hbm, ⟨16, _⟩ => ⟨S8x512x1024, .bf16⟩
  | .hbm, ⟨17, _⟩ => ⟨S4096x1024, .bf16⟩
  | .hbm, ⟨18, _⟩ => ⟨S8x512x1024, .bf16⟩
  | .hbm, ⟨19, _⟩ => ⟨S8x128x1024, .bf16⟩
  | .hbm, ⟨20, _⟩ => ⟨S8x1152x1024, .bf16⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x4096, .bf16⟩
  | .hbm, ⟨29, _⟩ => ⟨S8192x1024, .f32⟩
  | .hbm, ⟨30, _⟩ => ⟨S8192x1024, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x8x1024, .f32⟩
  | .local _ .vmem, ⟨7, _⟩ => ⟨S1x8x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S8x512x1024, .bf16⟩
  | .local _ .vmem, ⟨12, _⟩ => ⟨S8x512x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S4x2048x1024 : Shape := ⟨3, ![4, 2048, 1024]⟩
abbrev S4x2048x512 : Shape := ⟨3, ![4, 2048, 512]⟩
abbrev S4x6144 : Shape := ⟨2, ![4, 6144]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S4x1024 : Shape := ⟨2, ![4, 1024]⟩
abbrev S4x1x1024 : Shape := ⟨3, ![4, 1, 1024]⟩
abbrev S_ : Shape := ⟨0, ![]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S8192x1024 : Shape := ⟨2, ![8192, 1024]⟩
abbrev S8192x4096 : Shape := ⟨2, ![8192, 4096]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S4x6144, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S4x1x1024, .f32⟩
  | .hbm, ⟨65, _⟩ => ⟨S4x1x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x4096, .f32⟩
  | .hbm, ⟨71, _⟩ => ⟨S_, .f32⟩
  | .hbm, ⟨72, _⟩ => ⟨S4x2048x4096, .f32⟩
  | .hbm, ⟨73, _⟩ => ⟨S4x2048x4096, .f32⟩
  | .hbm, ⟨74, _⟩ => ⟨S4x2048x4096, .f32⟩
  | .hbm, ⟨75, _⟩ => ⟨S4x2048x1024, .f32⟩
  | .hbm, ⟨76, _⟩ => ⟨S_, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S4x1x1024, .f32⟩
  | .hbm, ⟨81, _⟩ => ⟨S4x1x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S8192x4096, .f32⟩
  | .hbm, ⟨90, _⟩ => ⟨S8192x4096, .bf16⟩
  | .hbm, ⟨91, _⟩ => ⟨S8192x1024, .f32⟩
  | .hbm, ⟨92, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_cst : Ref sig .tc := ⟨.hbm, 71, rfl⟩
abbrev main_call0_v0 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S8x1152x1024 : Shape := ⟨3, ![8, 1152, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8x1152x1024, .f32⟩
  | .hbm, ⟨3, _⟩ => ⟨S8192x4096, .bf16⟩
  | .hbm, ⟨4, _⟩ => ⟨S8192x1024, .bf16⟩
  | .hbm, ⟨5, _⟩ => ⟨S8x1152x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S8192x4096 : Shape := ⟨2, ![8192, 4096]⟩
abbrev S8192x1024 : Shape := ⟨2, ![8192, 1024]⟩
abbrev S8x1152x1024 : Shape := ⟨3, ![8, 1152, 1024]⟩
abbrev S_ : Shape := ⟨0, ![]⟩
abbrev S4096x8192 : Shape := ⟨2, ![4096, 8192]⟩
abbrev S4096x1024 : Shape := ⟨2, ![4096, 1024]⟩
abbrev S8x512x1024 : Shape := ⟨3, ![8, 512, 1024]⟩
abbrev S8x128x1024 : Shape := ⟨3, ![8, 128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8x1152x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S4096x8192, .f32⟩
  | .hbm, ⟨8, _⟩ => ⟨S4096x1024, .f32⟩
  | .hbm, ⟨9, _⟩ => ⟨S8x512x1024, .f32⟩
  | .hbm, ⟨10, _⟩ => ⟨S8x512x1024, .f32⟩
  | .hbm, ⟨11, _⟩ => ⟨S8x128x1024, .f32⟩
  | .hbm, ⟨12, _⟩ => ⟨S8x1152x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S8x1152x1024 : Shape := ⟨3, ![8, 1152, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩
abbrev S8x512x1024 : Shape := ⟨3, ![8, 512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S8x1152x1024, .f32⟩
  | .hbm, ⟨5, _⟩ => ⟨S8x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩
abbrev S2x512x4x1024 : Shape := ⟨4, ![2, 512, 4, 1024]⟩
abbrev S4x2x512x1024 : Shape := ⟨4, ![4, 2, 512, 1024]⟩
abbrev S8x512x1024 : Shape := ⟨3, ![8, 512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x8192, .f32⟩
  | .hbm, ⟨3, _⟩ => ⟨S1024x4096, .f32⟩
  | .hbm, ⟨4, _⟩ => ⟨S2x512x4x1024, .f32⟩
  | .hbm, ⟨5, _⟩ => ⟨S4x2x512x1024, .f32⟩
  | .hbm, ⟨6, _⟩ => ⟨S8x512x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Bwd.RunA.lean ====
/- The body of the call run at the first grid point (case A of its two conditionals): the generated
   run of this case under a larger heartbeat budget, which the length of the body asks for. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x512x1024 .bf16) (harg12 : arg12.IsWhole) (arg13 : Memref sig .tc .vmem S8x512x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x4096 .bf16) (harg19 : arg19.IsWhole) (arg20 : Memref sig .tc .vmem S8x1024 .f32) (harg20 : arg20.IsWhole) (arg21 : Memref sig .tc .vmem S1x8x1024 .f32) (harg21 : arg21.IsWhole) (hc0 : cond0_0 i) (hc1 : cond0_1 i)
    (x0 : Vec F S256x1024 .f32) (x1 : Vec F S256x1024 .f32) (x2 : Vec F S256x1024 .f32) (x3 : Vec F S256x4096 .bf16) (x4 : Vec F S256x1024 .f32) (x5 : Vec F S256x1024 .f32) (x6 : Vec F S1x8x1024 .f32) (x7 : Vec F S1x1024 .f32) (x8 : Vec F S1x1024 .f32) (x9 : Vec F S1x1024 .f32) (x10 : Vec F S1x1024 .f32) (x11 : Vec F S8x512x1024 .bf16) (x12 : Vec F S8x512x1024 .bf16) (x13 : Vec F S1024x1024 .bf16) :
    Σ' (L14 : List (View.Piece (Elt F) S256x1024 .f32)), Σ' (L15 : List (View.Piece (Elt F) S256x1024 .bf16)), Σ' (L16 : List (View.Piece (Elt F) S256x1024 .f32)), Σ' (L17 : List (View.Piece (Elt F) S256x1024 .bf16)), Σ' (L18 : List (View.Piece (Elt F) S256x4096 .bf16)), Σ' (L19 : List (View.Piece (Elt F) S8x1024 .f32)), { L20 : List (View.Piece (Elt F) S1x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20)) -∗ K ⟨⟩))
          ⊢ wp frame (wpE (defs₀ (F := F)) Variants.none c none) E (cc0_bwd_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_bwd_out_eq_skeleton]; unfold cc0_bwd_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.KernelIdeal.Gen

end
-- ==== Proof.Bwd.RunB.lean ====
/- The body of the call run at the later points of a sequence (case B of its two conditionals): the generated
   run of this case under a larger heartbeat budget, which the length of the body asks for. -/
module

public import proofs.«01_k».proof.Proof.Bwd.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 31: 28 of 32), WITH the
    proof that on whole staging memrefs — the inputs' at their contents, the outputs it reads before covering (19, 20) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x512x1024 .bf16) (harg12 : arg12.IsWhole) (arg13 : Memref sig .tc .vmem S8x512x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x4096 .bf16) (harg19 : arg19.IsWhole) (arg20 : Memref sig .tc .vmem S8x1024 .f32) (harg20 : arg20.IsWhole) (arg21 : Memref sig .tc .vmem S1x8x1024 .f32) (harg21 : arg21.IsWhole) (hc0 : ¬cond0_0 i) (hc1 : ¬cond0_1 i)
    (x0 : Vec F S256x1024 .f32) (x1 : Vec F S256x1024 .f32) (x2 : Vec F S256x1024 .f32) (x3 : Vec F S256x4096 .bf16) (x4 : Vec F S256x1024 .f32) (x5 : Vec F S256x1024 .f32) (x6 : Vec F S1x8x1024 .f32) (x7 : Vec F S1x1024 .f32) (x8 : Vec F S1x1024 .f32) (x9 : Vec F S1x1024 .f32) (x10 : Vec F S1x1024 .f32) (x11 : Vec F S8x512x1024 .bf16) (x12 : Vec F S8x512x1024 .bf16) (x13 : Vec F S1024x1024 .bf16) (xo19 : Vec F S8x1024 .f32) (xo20 : Vec F S1x8x1024 .f32) :
    Σ' (L14 : List (View.Piece (Elt F) S256x1024 .f32)), Σ' (L15 : List (View.Piece (Elt F) S256x1024 .bf16)), Σ' (L16 : List (View.Piece (Elt F) S256x1024 .f32)), Σ' (L17 : List (View.Piece (Elt F) S256x1024 .bf16)), Σ' (L18 : List (View.Piece (Elt F) S256x4096 .bf16)), Σ' (L19 : List (View.Piece (Elt F) S8x1024 .f32)), { L20 : List (View.Piece (Elt F) S1x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo19 ∗ owns (c : Thread nD τ) arg21 fullShare xo20
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (arg20.view.loc (c : Thread nD τ) ↦[arg20.view.set]{fullShare} arg20.view.writes (Elt F) (harg20.unread xo19) L19) ∗ (arg21.view.loc (c : Thread nD τ) ↦[arg21.view.set]{fullShare} arg21.view.writes (Elt F) (harg21.unread xo20) L20)) -∗ K ⟨⟩))
          ⊢ wp frame (wpE (defs₀ (F := F)) Variants.none c none) E (cc0_bwd_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_bwd_out_eq_skeleton]; unfold cc0_bwd_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg20.eq_unread hf19; obtain rfl := harg21.eq_unread hf20
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    iexact H20

end Cert.KernelIdeal.Gen

end
-- ==== Proof.Bwd.RunC.lean ====
/- The body of the call run at the first point of a later sequence (case C of its two conditionals): the generated
   run of this case under a larger heartbeat budget, which the length of the body asks for. -/
module

public import proofs.«01_k».proof.Proof.Bwd.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 taken: points 8, 16, 24), WITH the
    proof that on whole staging memrefs — the inputs' at their contents, the outputs it reads before covering (19) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x512x1024 .bf16) (harg12 : arg12.IsWhole) (arg13 : Memref sig .tc .vmem S8x512x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x4096 .bf16) (harg19 : arg19.IsWhole) (arg20 : Memref sig .tc .vmem S8x1024 .f32) (harg20 : arg20.IsWhole) (arg21 : Memref sig .tc .vmem S1x8x1024 .f32) (harg21 : arg21.IsWhole) (hc0 : ¬cond0_0 i) (hc1 : cond0_1 i)
    (x0 : Vec F S256x1024 .f32) (x1 : Vec F S256x1024 .f32) (x2 : Vec F S256x1024 .f32) (x3 : Vec F S256x4096 .bf16) (x4 : Vec F S256x1024 .f32) (x5 : Vec F S256x1024 .f32) (x6 : Vec F S1x8x1024 .f32) (x7 : Vec F S1x1024 .f32) (x8 : Vec F S1x1024 .f32) (x9 : Vec F S1x1024 .f32) (x10 : Vec F S1x1024 .f32) (x11 : Vec F S8x512x1024 .bf16) (x12 : Vec F S8x512x1024 .bf16) (x13 : Vec F S1024x1024 .bf16) (xo19 : Vec F S8x1024 .f32) :
    Σ' (L14 : List (View.Piece (Elt F) S256x1024 .f32)), Σ' (L15 : List (View.Piece (Elt F) S256x1024 .bf16)), Σ' (L16 : List (View.Piece (Elt F) S256x1024 .f32)), Σ' (L17 : List (View.Piece (Elt F) S256x1024 .bf16)), Σ' (L18 : List (View.Piece (Elt F) S256x4096 .bf16)), Σ' (L19 : List (View.Piece (Elt F) S8x1024 .f32)), { L20 : List (View.Piece (Elt F) S1x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo19 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (arg20.view.loc (c : Thread nD τ) ↦[arg20.view.set]{fullShare} arg20.view.writes (Elt F) (harg20.unread xo19) L19) ∗ (∃ f, arg21.view.loc (c : Thread nD τ) ↦[arg21.view.set]{fullShare} arg21.view.writes (Elt F) f L20)) -∗ K ⟨⟩))
          ⊢ wp frame (wpE (defs₀ (F := F)) Variants.none c none) E (cc0_bwd_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_bwd_out_eq_skeleton]; unfold cc0_bwd_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg20.eq_unread hf19
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    iexists _; iexact H20

end Cert.KernelIdeal.Gen

end
-- ==== Proof.Bwd.Outs.lean ====
/- What each case of the body leaves in each output's staging buffer: the pieces its run found, read back. -/
module

public import proofs.«01_k».proof.Proof.Bwd.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x512x1024 .bf16) (harg12 : arg12.IsWhole) (arg13 : Memref sig .tc .vmem S8x512x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x4096 .bf16) (harg19 : arg19.IsWhole) (arg20 : Memref sig .tc .vmem S8x1024 .f32) (harg20 : arg20.IsWhole) (arg21 : Memref sig .tc .vmem S1x8x1024 .f32) (harg21 : arg21.IsWhole) (hc0 : cond0_0 i) (hc1 : cond0_1 i)
    (x0 : Vec F S256x1024 .f32) (x1 : Vec F S256x1024 .f32) (x2 : Vec F S256x1024 .f32) (x3 : Vec F S256x4096 .bf16) (x4 : Vec F S256x1024 .f32) (x5 : Vec F S256x1024 .f32) (x6 : Vec F S1x8x1024 .f32) (x7 : Vec F S1x1024 .f32) (x8 : Vec F S1x1024 .f32) (x9 : Vec F S1x1024 .f32) (x10 : Vec F S1x1024 .f32) (x11 : Vec F S8x512x1024 .bf16) (x12 : Vec F S8x512x1024 .bf16) (x13 : Vec F S1024x1024 .bf16)

/-- Case A's pieces for output 14 tile its block (1 store of `S256x1024`, checked by the kernel's evaluation: Lib/Ring.lean `Piece.tiledL`, linear in the pieces, through a loop's `@[irreducible]` trip theorem too), so they cover it. -/
theorem cover0_A_14 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).1 S256x1024.size (by sl_kernel_rfl) y

/-- What case A leaves in output 14's staging buffer: its pieces read back over junk. -/
def out0_A_14 : Vec F S256x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).1)

/-- Case A's pieces for output 15 tile its block (1 store of `S256x1024`, checked by the kernel's evaluation: Lib/Ring.lean `Piece.tiledL`, linear in the pieces, through a loop's `@[irreducible]` trip theorem too), so they cover it. -/
theorem cover0_A_15 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.1 S256x1024.size (by sl_kernel_rfl) y

/-- What case A leaves in output 15's staging buffer: its pieces read back over junk. -/
def out0_A_15 : Vec F S256x1024 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.1)

/-- Case A's pieces for output 16 tile its block (1 store of `S256x1024`, checked by the kernel's evaluation: Lib/Ring.lean `Piece.tiledL`, linear in the pieces, through a loop's `@[irreducible]` trip theorem too), so they cover it. -/
theorem cover0_A_16 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.1 S256x1024.size (by sl_kernel_rfl) y

/-- What case A leaves in output 16's staging buffer: its pieces read back over junk. -/
def out0_A_16 : Vec F S256x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.1)

/-- Case A's pieces for output 17 tile its block (1 store of `S256x1024`, checked by the kernel's evaluation: Lib/Ring.lean `Piece.tiledL`, linear in the pieces, through a loop's `@[irreducible]` trip theorem too), so they cover it. -/
theorem cover0_A_17 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.1 S256x1024.size (by sl_kernel_rfl) y

/-- What case A leaves in output 17's staging buffer: its pieces read back over junk. -/
def out0_A_17 : Vec F S256x1024 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.1)

/-- Case A's pieces for output 18 tile its block (8 stores of `S256x512`, checked by the kernel's evaluation: Lib/Ring.lean `Piece.tiledL`, linear in the pieces, through a loop's `@[irreducible]` trip theorem too), so they cover it. -/
theorem cover0_A_18 (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.1 S256x512.size (by sl_kernel_rfl) y

/-- What case A leaves in output 18's staging buffer: its pieces read back over junk. -/
def out0_A_18 : Vec F S256x4096 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.1)

/-- Case A's pieces for output 19 are of SEVERAL sizes (6 stores of `S1x1024`, `S8x1024`): cut into blocks of `![1, 1024]` they tile its block (checked by the kernel's evaluation: Lib/Ring.lean `Piece.tiledBy`), so they cover it. -/
theorem cover0_A_19 (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.2.1 ![1, 1024] (by sl_kernel_rfl) y

/-- What case A leaves in output 19's staging buffer: its pieces read back over junk. -/
def out0_A_19 : Vec F S8x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.2.1)

/-- Case A's pieces for output 20 are of SEVERAL sizes (5 stores of `S1x1x1024`, `S1x8x1024`): cut into blocks of `![1, 1, 1024]` they tile its block (checked by the kernel's evaluation: Lib/Ring.lean `Piece.tiledBy`), so they cover it. -/
theorem cover0_A_20 (y : S1x8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.2.2.1 ![1, 1, 1024] (by sl_kernel_rfl) y

/-- What case A leaves in output 20's staging buffer: its pieces read back over junk. -/
def out0_A_20 : Vec F S1x8x1024 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13).2.2.2.2.2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x512x1024 .bf16) (harg12 : arg12.IsWhole) (arg13 : Memref sig .tc .vmem S8x512x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x4096 .bf16) (harg19 : arg19.IsWhole) (arg20 : Memref sig .tc .vmem S8x1024 .f32) (harg20 : arg20.IsWhole) (arg21 : Memref sig .tc .vmem S1x8x1024 .f32) (harg21 : arg21.IsWhole) (hc0 : ¬cond0_0 i) (hc1 : ¬cond0_1 i)
    (x0 : Vec F S256x1024 .f32) (x1 : Vec F S256x1024 .f32) (x2 : Vec F S256x1024 .f32) (x3 : Vec F S256x4096 .bf16) (x4 : Vec F S256x1024 .f32) (x5 : Vec F S256x1024 .f32) (x6 : Vec F S1x8x1024 .f32) (x7 : Vec F S1x1024 .f32) (x8 : Vec F S1x1024 .f32) (x9 : Vec F S1x1024 .f32) (x10 : Vec F S1x1024 .f32) (x11 : Vec F S8x512x1024 .bf16) (x12 : Vec F S8x512x1024 .bf16) (x13 : Vec F S1024x1024 .bf16) (xo19 : Vec F S8x1024 .f32) (xo20 : Vec F S1x8x1024 .f32)

/-- Case B's pieces for output 14 tile its block (1 store of `S256x1024`, checked by the kernel's evaluation: Lib/Ring.lean `Piece.tiledL`, linear in the pieces, through a loop's `@[irreducible]` trip theorem too), so they cover it. -/
theorem cover0_B_14 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).1 S256x1024.size (by sl_kernel_rfl) y

/-- What case B leaves in output 14's staging buffer: its pieces read back over junk. -/
def out0_B_14 : Vec F S256x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).1)

/-- Case B's pieces for output 15 tile its block (1 store of `S256x1024`, checked by the kernel's evaluation: Lib/Ring.lean `Piece.tiledL`, linear in the pieces, through a loop's `@[irreducible]` trip theorem too), so they cover it. -/
theorem cover0_B_15 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.1 S256x1024.size (by sl_kernel_rfl) y

/-- What case B leaves in output 15's staging buffer: its pieces read back over junk. -/
def out0_B_15 : Vec F S256x1024 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.1)

/-- Case B's pieces for output 16 tile its block (1 store of `S256x1024`, checked by the kernel's evaluation: Lib/Ring.lean `Piece.tiledL`, linear in the pieces, through a loop's `@[irreducible]` trip theorem too), so they cover it. -/
theorem cover0_B_16 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.1 S256x1024.size (by sl_kernel_rfl) y

/-- What case B leaves in output 16's staging buffer: its pieces read back over junk. -/
def out0_B_16 : Vec F S256x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.1)

/-- Case B's pieces for output 17 tile its block (1 store of `S256x1024`, checked by the kernel's evaluation: Lib/Ring.lean `Piece.tiledL`, linear in the pieces, through a loop's `@[irreducible]` trip theorem too), so they cover it. -/
theorem cover0_B_17 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.1 S256x1024.size (by sl_kernel_rfl) y

/-- What case B leaves in output 17's staging buffer: its pieces read back over junk. -/
def out0_B_17 : Vec F S256x1024 .bf16 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.1)

/-- Case B's pieces for output 18 tile its block (8 stores of `S256x512`, checked by the kernel's evaluation: Lib/Ring.lean `Piece.tiledL`, linear in the pieces, through a loop's `@[irreducible]` trip theorem too), so they cover it. -/
theorem cover0_B_18 (y : S256x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.2.1 S256x512.size (by sl_kernel_rfl) y

/-- What case B leaves in output 18's staging buffer: its pieces read back over junk. -/
def out0_B_18 : Vec F S256x4096 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.2.1)

/-- What case B leaves in output 19's staging buffer: its stores read back over what the point before left there (they do not cover the block). -/
def out0_B_19 : Vec F S8x1024 .f32 :=
  arg20.view.read (Elt F) (arg20.view.writes (Elt F) (harg20.unread xo19) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.2.2.1)

/-- What case B leaves in output 20's staging buffer: its stores read back over what the point before left there (they do not cover the block). -/
def out0_B_20 : Vec F S1x8x1024 .f32 :=
  arg21.view.read (Elt F) (arg21.view.writes (Elt F) (harg21.unread xo20) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19 xo20).2.2.2.2.2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x512x1024 .bf16) (harg12 : arg12.IsWhole) (arg13 : Memref sig .tc .vmem S8x512x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S256x1024 .bf16) (harg18 : arg18.IsWhole) (arg19 : Memref sig .tc .vmem S256x4096 .bf16) (harg19 : arg19.IsWhole) (arg20 : Memref sig .tc .vmem S8x1024 .f32) (harg20 : arg20.IsWhole) (arg21 : Memref sig .tc .vmem S1x8x1024 .f32) (harg21 : arg21.IsWhole) (hc0 : ¬cond0_0 i) (hc1 : cond0_1 i)
    (x0 : Vec F S256x1024 .f32) (x1 : Vec F S256x1024 .f32) (x2 : Vec F S256x1024 .f32) (x3 : Vec F S256x4096 .bf16) (x4 : Vec F S256x1024 .f32) (x5 : Vec F S256x1024 .f32) (x6 : Vec F S1x8x1024 .f32) (x7 : Vec F S1x1024 .f32) (x8 : Vec F S1x1024 .f32) (x9 : Vec F S1x1024 .f32) (x10 : Vec F S1x1024 .f32) (x11 : Vec F S8x512x1024 .bf16) (x12 : Vec F S8x512x1024 .bf16) (x13 : Vec F S1024x1024 .bf16) (xo19 : Vec F S8x1024 .f32)

/-- Case C's pieces for output 14 tile its block (1 store of `S256x1024`, checked by the kernel's evaluation: Lib/Ring.lean `Piece.tiledL`, linear in the pieces, through a loop's `@[irreducible]` trip theorem too), so they cover it. -/
theorem cover0_C_14 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).1 S256x1024.size (by sl_kernel_rfl) y

/-- What case C leaves in output 14's staging buffer: its pieces read back over junk. -/
def out0_C_14 : Vec F S256x1024 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).1)

/-- Case C's pieces for output 15 tile its block (1 store of `S256x1024`, checked by the kernel's evaluation: Lib/Ring.lean `Piece.tiledL`, linear in the pieces, through a loop's `@[irreducible]` trip theorem too), so they cover it. -/
theorem cover0_C_15 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.1 S256x1024.size (by sl_kernel_rfl) y

/-- What case C leaves in output 15's staging buffer: its pieces read back over junk. -/
def out0_C_15 : Vec F S256x1024 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.1)

/-- Case C's pieces for output 16 tile its block (1 store of `S256x1024`, checked by the kernel's evaluation: Lib/Ring.lean `Piece.tiledL`, linear in the pieces, through a loop's `@[irreducible]` trip theorem too), so they cover it. -/
theorem cover0_C_16 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.1 S256x1024.size (by sl_kernel_rfl) y

/-- What case C leaves in output 16's staging buffer: its pieces read back over junk. -/
def out0_C_16 : Vec F S256x1024 .f32 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.1)

/-- Case C's pieces for output 17 tile its block (1 store of `S256x1024`, checked by the kernel's evaluation: Lib/Ring.lean `Piece.tiledL`, linear in the pieces, through a loop's `@[irreducible]` trip theorem too), so they cover it. -/
theorem cover0_C_17 (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.1 S256x1024.size (by sl_kernel_rfl) y

/-- What case C leaves in output 17's staging buffer: its pieces read back over junk. -/
def out0_C_17 : Vec F S256x1024 .bf16 :=
  VO0_17.read (Elt F) (VO0_17.writes (Elt F) VO0_17.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.1)

/-- Case C's pieces for output 18 tile its block (8 stores of `S256x512`, checked by the kernel's evaluation: Lib/Ring.lean `Piece.tiledL`, linear in the pieces, through a loop's `@[irreducible]` trip theorem too), so they cover it. -/
theorem cover0_C_18 (y : S256x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.2.1 S256x512.size (by sl_kernel_rfl) y

/-- What case C leaves in output 18's staging buffer: its pieces read back over junk. -/
def out0_C_18 : Vec F S256x4096 .bf16 :=
  VO0_18.read (Elt F) (VO0_18.writes (Elt F) VO0_18.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.2.1)

/-- What case C leaves in output 19's staging buffer: its stores read back over what the point before left there (they do not cover the block). -/
def out0_C_19 : Vec F S8x1024 .f32 :=
  arg20.view.read (Elt F) (arg20.view.writes (Elt F) (harg20.unread xo19) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.2.2.1)

/-- Case C's pieces for output 20 are of SEVERAL sizes (5 stores of `S1x1x1024`, `S1x8x1024`): cut into blocks of `![1, 1, 1024]` they tile its block (checked by the kernel's evaluation: Lib/Ring.lean `Piece.tiledBy`), so they cover it. -/
theorem cover0_C_20 (y : S1x8x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.2.2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.2.2.2.1 ![1, 1, 1024] (by sl_kernel_rfl) y

/-- What case C leaves in output 20's staging buffer: its pieces read back over junk. -/
def out0_C_20 : Vec F S1x8x1024 .f32 :=
  VO0_20.read (Elt F) (VO0_20.writes (Elt F) VO0_20.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo19).2.2.2.2.2.2.1)

end

/-! ## What the outputs hold after each point -/

end Cert.KernelIdeal.Gen

end
-- ==== Proof.Bwd.Frame.lean ====
/- The frame of the call over the three runs: what the outputs hold point by point, the body's obligation, the run. -/
module

public import proofs.«01_k».proof.Proof.Bwd.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S256x1024 .bf16 × Vec F S256x1024 .f32 × Vec F S256x1024 .bf16 × Vec F S256x4096 .bf16 × Vec F S8x1024 .f32 × Vec F S1x8x1024 .f32
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (X0_11 m c ⟨0, hn⟩) (X0_12 m c ⟨0, hn⟩) (iblk m c 13 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (X0_11 m c ⟨0, hn⟩) (X0_12 m c ⟨0, hn⟩) (iblk m c 13 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (X0_11 m c ⟨0, hn⟩) (X0_12 m c ⟨0, hn⟩) (iblk m c 13 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (X0_11 m c ⟨0, hn⟩) (X0_12 m c ⟨0, hn⟩) (iblk m c 13 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (X0_11 m c ⟨0, hn⟩) (X0_12 m c ⟨0, hn⟩) (iblk m c 13 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (X0_11 m c ⟨0, hn⟩) (X0_12 m c ⟨0, hn⟩) (iblk m c 13 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (X0_11 m c ⟨0, hn⟩) (X0_12 m c ⟨0, hn⟩) (iblk m c 13 ⟨0, hn⟩))
  | n + 1, hn =>
    if h0 : (n + 1) % 32 = 0 then
      if h1 : (n + 1) % 8 = 0 then
        (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩))
      else
        False.elim (by have hN : n + 1 < 32 := lt_of_lt_of_eq hn (show cfg0.N = 32 from N_0); omega)
    else
      if h1 : (n + 1) % 8 = 0 then
        (out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1, out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1, out0_C_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1, out0_C_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1, out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1)
      else
        (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1 (outsAt0 c n (Nat.lt_of_succ_lt hn)).2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1 (outsAt0 c n (Nat.lt_of_succ_lt hn)).2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1 (outsAt0 c n (Nat.lt_of_succ_lt hn)).2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1 (outsAt0 c n (Nat.lt_of_succ_lt hn)).2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1 (outsAt0 c n (Nat.lt_of_succ_lt hn)).2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1 (outsAt0 c n (Nat.lt_of_succ_lt hn)).2.2.2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (X0_11 m c ⟨n + 1, hn⟩) (X0_12 m c ⟨n + 1, hn⟩) (iblk m c 13 ⟨n + 1, hn⟩) (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 32 = 0) (h1 : t.val % 8 = 0) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : ¬t.val % 8 = 0) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 8 = 0) :
    outsAt0 m c t.val t.isLt = (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1, out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1, out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => X0_11 m c t
    | ⟨12, _⟩ => X0_12 m c t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨19, _⟩ => (outsAt0 m c t.val t.isLt).2.2.2.2.2.1
    | ⟨20, _⟩ => (outsAt0 m c t.val t.isLt).2.2.2.2.2.2
    | ⟨_ + 21, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = X0_12 m c t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = X0_11 m c t :=
  before0_11_of m (dats m 0 c) (A_eq m c 11) (after0_11 m c) t d
theorem before0_12 (c : Dev nD) (t : Fin cfg0.N) (d) : (dats m 0 c).before 12 t d = X0_12 m c t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 32 = 0) (h1 : ¬t.val % 8 = 0) (d) :
    (dats m 0 c).before 19 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 32 = 0) (h1 : ¬t.val % 8 = 0) (d) :
    (dats m 0 c).before 20 t d = (outsAt0 m c (t.val - 1) (Nat.lt_of_le_of_lt (Nat.sub_le _ _) t.isLt)).2.2.2.2.2.2 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]
/-- At a point of case C output 19's current staging buffer holds what the body left at the point before: the point is
    not the first, the buffer was not written back between (`flush0_19`), the window is live and uncut (Lib/Pipeline/Frame.lean
    `Dat.before_out_kept`). -/
theorem before0_19_C (c : Dev nD) (t : Fin cfg0.N) (h0 : ¬t.val % 32 = 0) (h1 : t.val % 8 = 0) (d) :
    (dats m 0 c).before 19 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 6000000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  have hN : t.val < 32 := lt_of_lt_of_eq t.isLt (show cfg0.N = 32 from N_0)
  by_cases h0 : t.val % 32 = 0
  · by_cases h1 : t.val % 8 = 0
    · rw [outsAt0_A m c t h0 h1]
      unfold out0_A_14 out0_A_15 out0_A_16 out0_A_17 out0_A_18 out0_A_19 out0_A_20; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega
  · by_cases h1 : t.val % 8 = 0
    · rw [outsAt0_C m c t h0 h1]
      simp only [before0_19_C m c t h0 h1]
      unfold out0_C_14 out0_C_15 out0_C_16 out0_C_17 out0_C_18 out0_C_19 out0_C_20; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexact H19
      isplitl [H20]; · iexists _; iexact H20
      iintro ⟨H0, H1, H2, H3, H4, H5, H6, H7, H8, H9, H10, H11, H12, H13, ⟨%e14, H14⟩, ⟨%e15, H15⟩, ⟨%e16, H16⟩, ⟨%e17, H17⟩, ⟨%e18, H18⟩, H19, ⟨%e20, H20⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; rfl
      unfold owns; iexists _; isplitr
      swap; · iexact H20
      ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [outsAt0_B m c t h0 h1]
      simp only [before0_19_B m c t h0 h1, before0_20_B m c t h0 h1]
      unfold out0_B_14 out0_B_15 out0_B_16 out0_B_17 out0_B_18 out0_B_19 out0_B_20; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexact H19
      isplitl [H20]; · iexact H20
      iintro ⟨H0, H1, H2, H3, H4, H5, H6, H7, H8, H9, H10, H11, H12, H13, ⟨%e14, H14⟩, ⟨%e15, H15⟩, ⟨%e16, H16⟩, ⟨%e17, H17⟩, ⟨%e18, H18⟩, H19, H20⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; rfl
      unfold owns; iexists _; isplitr
      swap; · iexact H20
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Gen

end
-- ==== Proof.Bwd.Blocks.lean ====
/- What each grid point writes back, and each result array block by block. -/
module

public import proofs.«01_k».proof.Proof.Bwd.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 14's array: the run's contents for that window after the body (`Gen.outsAt0`: its component 0), read through the window's block. -/
theorem flushed14 (c : Dev nD) (t : Fin cfg0.N) :
    (dats m 0 c).flushed 14 t = (cfg0.win 14).cut (grid0.coords t) ((outsAt0 m c t.val t.isLt).1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 32 = 0) (h1 : t.val % 8 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  simp only [flushed14, outsAt0_A m c t h0 h1]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 32 = 0) (h1 : ¬t.val % 8 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed14, outsAt0_B m c t h0 h1]

/-- … so at a point where case C runs, what its write-back would write is that case's NAMED TERM for the window (`Gen.out0_C_14`: the pieces
    its run found, read back) at the point's memrefs and input blocks, and for an output the case reads back what the point before left (`Gen.outsAt0` at `t - 1`) — by the frame's rewriting lemma for the case. -/
theorem flushed14_C (c : Dev nD) (t : Fin cfg0.N) (h0 : ¬t.val % 32 = 0) (h1 : t.val % 8 = 0) :
    (dats m 0 c).flushed 14 t = (cfg0.win 14).cut (grid0.coords t) (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  simp only [flushed14, outsAt0_C m c t h0 h1]

/-- The index map sends distinct grid points to distinct block indices (decided over the 32 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S8192x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 1), read through the window's block. -/
theorem flushed15 (c : Dev nD) (t : Fin cfg0.N) :
    (dats m 0 c).flushed 15 t = (cfg0.win 15).cut (grid0.coords t) ((outsAt0 m c t.val t.isLt).2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — by the frame's rewriting lemma for the case. -/
theorem flushed15_A (c : Dev nD) (t : Fin cfg0.N) (h0 : t.val % 32 = 0) (h1 : t.val % 8 = 0) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  simp only [flushed15, outsAt0_A m c t h0 h1]

/-- … so at a point where case B runs, what its write-back would write is that case's NAMED TERM for the window (`Gen.out0_B_15`: the pieces
    its run found, read back) at the point's memrefs and input blocks, and for an output the case reads back what the point before left (`Gen.outsAt0` at `t - 1`) — by the frame's rewriting lemma for the case. -/
theorem flushed15_B (c : Dev nD) (t : Fin cfg0.N) (h0 : ¬t.val % 32 = 0) (h1 : ¬t.val % 8 = 0) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed15, outsAt0_B m c t h0 h1]

/-- … so at a point where case C runs, what its write-back would write is that case's NAMED TERM for the window (`Gen.out0_C_15`: the pieces
    its run found, read back) at the point's memrefs and input blocks, and for an output the case reads back what the point before left (`Gen.outsAt0` at `t - 1`) — by the frame's rewriting lemma for the case. -/
theorem flushed15_C (c : Dev nD) (t : Fin cfg0.N) (h0 : ¬t.val % 32 = 0) (h1 : t.val % 8 = 0) :
    (dats m 0 c).flushed 15 t = (cfg0.win 15).cut (grid0.coords t) (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  simp only [flushed15, outsAt0_C m c t h0 h1]

/-- The index map sends distinct grid points to distinct block indices (decided over the 32 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S8192x1024.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 2), read through the window's block. -/
theorem flushed16 (c : Dev nD) (t : Fin cfg0.N) :
    (dats m 0 c).flushed 16 t = (cfg0.win 16).cut (grid0.coords t) ((outsAt0 m c t.val t.isLt).2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — by the frame's rewriting lemma for the case. -/
theorem flushed16_A (c : Dev nD) (t : Fin cfg0.N) (h0 : t.val % 32 = 0) (h1 : t.val % 8 = 0) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  simp only [flushed16, outsAt0_A m c t h0 h1]

/-- … so at a point where case B runs, what its write-back would write is that case's NAMED TERM for the window (`Gen.out0_B_16`: the pieces
    its run found, read back) at the point's memrefs and input blocks, and for an output the case reads back what the point before left (`Gen.outsAt0` at `t - 1`) — by the frame's rewriting lemma for the case. -/
theorem flushed16_B (c : Dev nD) (t : Fin cfg0.N) (h0 : ¬t.val % 32 = 0) (h1 : ¬t.val % 8 = 0) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed16, outsAt0_B m c t h0 h1]

/-- … so at a point where case C runs, what its write-back would write is that case's NAMED TERM for the window (`Gen.out0_C_16`: the pieces
    its run found, read back) at the point's memrefs and input blocks, and for an output the case reads back what the point before left (`Gen.outsAt0` at `t - 1`) — by the frame's rewriting lemma for the case. -/
theorem flushed16_C (c : Dev nD) (t : Fin cfg0.N) (h0 : ¬t.val % 32 = 0) (h1 : t.val % 8 = 0) :
    (dats m 0 c).flushed 16 t = (cfg0.win 16).cut (grid0.coords t) (out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  simp only [flushed16, outsAt0_C m c t h0 h1]

/-- The index map sends distinct grid points to distinct block indices (decided over the 32 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S8192x1024.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 3), read through the window's block. -/
theorem flushed17 (c : Dev nD) (t : Fin cfg0.N) :
    (dats m 0 c).flushed 17 t = (cfg0.win 17).cut (grid0.coords t) ((outsAt0 m c t.val t.isLt).2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — by the frame's rewriting lemma for the case. -/
theorem flushed17_A (c : Dev nD) (t : Fin cfg0.N) (h0 : t.val % 32 = 0) (h1 : t.val % 8 = 0) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  simp only [flushed17, outsAt0_A m c t h0 h1]

/-- … so at a point where case B runs, what its write-back would write is that case's NAMED TERM for the window (`Gen.out0_B_17`: the pieces
    its run found, read back) at the point's memrefs and input blocks, and for an output the case reads back what the point before left (`Gen.outsAt0` at `t - 1`) — by the frame's rewriting lemma for the case. -/
theorem flushed17_B (c : Dev nD) (t : Fin cfg0.N) (h0 : ¬t.val % 32 = 0) (h1 : ¬t.val % 8 = 0) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed17, outsAt0_B m c t h0 h1]

/-- … so at a point where case C runs, what its write-back would write is that case's NAMED TERM for the window (`Gen.out0_C_17`: the pieces
    its run found, read back) at the point's memrefs and input blocks, and for an output the case reads back what the point before left (`Gen.outsAt0` at `t - 1`) — by the frame's rewriting lemma for the case. -/
theorem flushed17_C (c : Dev nD) (t : Fin cfg0.N) (h0 : ¬t.val % 32 = 0) (h1 : t.val % 8 = 0) :
    (dats m 0 c).flushed 17 t = (cfg0.win 17).cut (grid0.coords t) (out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  simp only [flushed17, outsAt0_C m c t h0 h1]

/-- The index map sends distinct grid points to distinct block indices (decided over the 32 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S8192x1024.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 4), read through the window's block. -/
theorem flushed18 (c : Dev nD) (t : Fin cfg0.N) :
    (dats m 0 c).flushed 18 t = (cfg0.win 18).cut (grid0.coords t) ((outsAt0 m c t.val t.isLt).2.2.2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — by the frame's rewriting lemma for the case. -/
theorem flushed18_A (c : Dev nD) (t : Fin cfg0.N) (h0 : t.val % 32 = 0) (h1 : t.val % 8 = 0) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  simp only [flushed18, outsAt0_A m c t h0 h1]

/-- … so at a point where case B runs, what its write-back would write is that case's NAMED TERM for the window (`Gen.out0_B_18`: the pieces
    its run found, read back) at the point's memrefs and input blocks, and for an output the case reads back what the point before left (`Gen.outsAt0` at `t - 1`) — by the frame's rewriting lemma for the case. -/
theorem flushed18_B (c : Dev nD) (t : Fin cfg0.N) (h0 : ¬t.val % 32 = 0) (h1 : ¬t.val % 8 = 0) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed18, outsAt0_B m c t h0 h1]

/-- … so at a point where case C runs, what its write-back would write is that case's NAMED TERM for the window (`Gen.out0_C_18`: the pieces
    its run found, read back) at the point's memrefs and input blocks, and for an output the case reads back what the point before left (`Gen.outsAt0` at `t - 1`) — by the frame's rewriting lemma for the case. -/
theorem flushed18_C (c : Dev nD) (t : Fin cfg0.N) (h0 : ¬t.val % 32 = 0) (h1 : t.val % 8 = 0) :
    (dats m 0 c).flushed 18 t = (cfg0.win 18).cut (grid0.coords t) (out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  simp only [flushed18, outsAt0_C m c t h0 h1]

/-- The index map sends distinct grid points to distinct block indices (decided over the 32 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S8192x4096.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 5), read through the window's block. -/
theorem flushed19 (c : Dev nD) (t : Fin cfg0.N) :
    (dats m 0 c).flushed 19 t = (cfg0.win 19).cut (grid0.coords t) ((outsAt0 m c t.val t.isLt).2.2.2.2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — by the frame's rewriting lemma for the case. -/
theorem flushed19_A (c : Dev nD) (t : Fin cfg0.N) (h0 : t.val % 32 = 0) (h1 : t.val % 8 = 0) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  simp only [flushed19, outsAt0_A m c t h0 h1]

/-- … so at a point where case B runs, what its write-back would write is that case's NAMED TERM for the window (`Gen.out0_B_19`: the pieces
    its run found, read back) at the point's memrefs and input blocks, and for an output the case reads back what the point before left (`Gen.outsAt0` at `t - 1`) — by the frame's rewriting lemma for the case. -/
theorem flushed19_B (c : Dev nD) (t : Fin cfg0.N) (h0 : ¬t.val % 32 = 0) (h1 : ¬t.val % 8 = 0) :
    (dats m 0 c).flushed 19 t = (cfg0.win 19).cut (grid0.coords t) (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed19, outsAt0_B m c t h0 h1]

/-- … so at a point where case C runs, what its write-back would write is that case's NAMED TERM for the window (`Gen.out0_C_19`: the pieces
    its run found, read back) at the point's memrefs and input blocks, and for an output the case reads back what the point before left (`Gen.outsAt0` at `t - 1`) — by the frame's rewriting lemma for the case. -/
theorem flushed19_C (c : Dev nD) (t : Fin cfg0.N) (h0 : ¬t.val % 32 = 0) (h1 : t.val % 8 = 0) :
    (dats m 0 c).flushed 19 t = (cfg0.win 19).cut (grid0.coords t) (out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  simp only [flushed19, outsAt0_C m c t h0 h1]

-- no `blocks19`: window 19's index map revisits a block index, or its points could not be enumerated here;
-- the final array is still the frame's `arrAt`, to read with Lib/Pipeline/Value.lean's lemmas by hand

/-- An index that no flushing point's block covers keeps output window 19's array contents at region entry. -/
theorem entry19 (c : Dev nD) (i : S8x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 6), read through the window's block. -/
theorem flushed20 (c : Dev nD) (t : Fin cfg0.N) :
    (dats m 0 c).flushed 20 t = (cfg0.win 20).cut (grid0.coords t) ((outsAt0 m c t.val t.isLt).2.2.2.2.2.2) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — by the frame's rewriting lemma for the case. -/
theorem flushed20_A (c : Dev nD) (t : Fin cfg0.N) (h0 : t.val % 32 = 0) (h1 : t.val % 8 = 0) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t)) := by
  simp only [flushed20, outsAt0_A m c t h0 h1]

/-- … so at a point where case B runs, what its write-back would write is that case's NAMED TERM for the window (`Gen.out0_B_20`: the pieces
    its run found, read back) at the point's memrefs and input blocks, and for an output the case reads back what the point before left (`Gen.outsAt0` at `t - 1`) — by the frame's rewriting lemma for the case. -/
theorem flushed20_B (c : Dev nD) (t : Fin cfg0.N) (h0 : ¬t.val % 32 = 0) (h1 : ¬t.val % 8 = 0) :
    (dats m 0 c).flushed 20 t = (cfg0.win 20).cut (grid0.coords t) (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed20, outsAt0_B m c t h0 h1]

/-- … so at a point where case C runs, what its write-back would write is that case's NAMED TERM for the window (`Gen.out0_C_20`: the pieces
    its run found, read back) at the point's memrefs and input blocks, and for an output the case reads back what the point before left (`Gen.outsAt0` at `t - 1`) — by the frame's rewriting lemma for the case. -/
theorem flushed20_C (c : Dev nD) (t : Fin cfg0.N) (h0 : ¬t.val % 32 = 0) (h1 : t.val % 8 = 0) :
    (dats m 0 c).flushed 20 t = (cfg0.win 20).cut (grid0.coords t) (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (X0_11 m c t) (X0_12 m c t) (iblk m c 13 t) (outsAt0 m c (t.val - 1) (Nat.lt_of_le_of_lt (Nat.sub_le _ _) t.isLt)).2.2.2.2.2.1) := by
  simp only [flushed20, outsAt0_C m c t h0 h1]

-- no `blocks20`: window 20's index map revisits a block index, or its points could not be enumerated here;
-- the final array is still the frame's `arrAt`, to read with Lib/Pipeline/Value.lean's lemmas by hand

/-- An index that no flushing point's block covers keeps output window 20's array contents at region entry. -/
theorem entry20 (c : Dev nD) (i : S4x8x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v64_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v64_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v64_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v64_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v64_4) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v64_5) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v64_6) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 9 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 9).trans (((dats m 0 c).arrAt_in 9 rfl _).trans ((A_eq m c 9).trans (V_main_arg4 m c)))

/-- After the frame run, argument `main_arg5` is as launched: input window 10 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 10).trans (((dats m 0 c).arrAt_in 10 rfl _).trans ((A_eq m c 10).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 7 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 7).trans (((dats m 0 c).arrAt_in 7 rfl _).trans ((A_eq m c 7).trans (V_main_arg8 m c)))

/-- After the frame run, argument `main_arg9` is as launched: input window 8 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 8).trans (((dats m 0 c).arrAt_in 8 rfl _).trans ((A_eq m c 8).trans (V_main_arg9 m c)))

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v64_0) = (dats m 0 c).arrAt 14 cfg0.N
      ∧ r.2.mem ((c : Thread nD τ).loc main_v64_1) = (dats m 0 c).arrAt 15 cfg0.N
      ∧ r.2.mem ((c : Thread nD τ).loc main_v64_2) = (dats m 0 c).arrAt 16 cfg0.N
      ∧ r.2.mem ((c : Thread nD τ).loc main_v64_3) = (dats m 0 c).arrAt 17 cfg0.N
      ∧ r.2.mem ((c : Thread nD τ).loc main_v64_4) = (dats m 0 c).arrAt 18 cfg0.N
      ∧ r.2.mem ((c : Thread nD τ).loc main_v64_5) = (dats m 0 c).arrAt 19 cfg0.N
      ∧ r.2.mem ((c : Thread nD τ).loc main_v64_6) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Value

end
-- ==== Proof.Up.Basic.lean ====
/- Arrays of real numbers as arrays of the ideal instance, indexed by natural-number coordinates, and the real value of
   each constant the two programs use. -/
module

public import Idealize.ShloMosaic.Lib.Pointwise
public import Idealize.ShloMosaic.PureOps.Ideal.Laws
public import Idealize.ShloMosaic.Lib.IdealHost

@[expose] public section

noncomputable section

namespace Cert.Up

open Idealize.ShloMosaic

/-- A vector of real numbers, as contents at the ideal instance. -/
def up1 {A : ℕ} (a : ℕ → ℝ) : (⟨1, ![A]⟩ : Shape).Idx → EReal := fun j => ((a (j 0).val : ℝ) : EReal)
/-- A matrix of real numbers, as contents at the ideal instance. -/
def up2 {A B : ℕ} (a : ℕ → ℕ → ℝ) : (⟨2, ![A, B]⟩ : Shape).Idx → EReal := fun j => ((a (j 0).val (j 1).val : ℝ) : EReal)
/-- A rank-3 array of real numbers, as contents at the ideal instance. -/
def up3 {A B C : ℕ} (a : ℕ → ℕ → ℕ → ℝ) : (⟨3, ![A, B, C]⟩ : Shape).Idx → EReal :=
  fun j => ((a (j 0).val (j 1).val (j 2).val : ℝ) : EReal)

/-- The variance's offset in both layer norms. -/
def eps : ℝ := (2 ^ 23 + 2606508 : ℕ) * (2 : ℝ) ^ (-40 : ℤ)
/-- The residual's weight. -/
def alpha : ℝ := (2 ^ 23 + 1587184 : ℕ) * (2 : ℝ) ^ (-23 : ℤ)

theorem eps_pos : 0 < eps := by unfold eps; positivity

theorem lit_eps : Ideal.ofBits .f32 0x3727C5AC#32 = ((eps : ℝ) : EReal) := by
  simp [Ideal.ofBits, Ideal.ieee, eps]
theorem lit_alpha : Ideal.ofBits .f32 0x3F9837F0#32 = ((alpha : ℝ) : EReal) := by
  simp [Ideal.ofBits, Ideal.ieee, alpha]
theorem lit_1024 : Ideal.ofBits .f32 0x44800000#32 = ((1024 : ℝ) : EReal) := by
  simp [Ideal.ofBits, Ideal.ieee, -EReal.coe_mul, -EReal.coe_neg]; norm_num
theorem lit_inv1024 : Ideal.ofBits .f32 0x3A800000#32 = ((1 / 1024 : ℝ) : EReal) := by
  simp [Ideal.ofBits, Ideal.ieee, -EReal.coe_mul, -EReal.coe_neg]; norm_num
theorem lit_inv2048 : Ideal.ofBits .f32 0x3A000000#32 = ((1 / 2048 : ℝ) : EReal) := by
  simp [Ideal.ofBits, Ideal.ieee, -EReal.coe_mul, -EReal.coe_neg]; norm_num
theorem lit_half : Ideal.ofBits .f32 0x3F000000#32 = ((1 / 2 : ℝ) : EReal) := by
  simp [Ideal.ofBits, Ideal.ieee, -EReal.coe_mul, -EReal.coe_neg]; norm_num
theorem lit_neg_half : Ideal.ofBits .f32 0xBF000000#32 = ((-(1 / 2) : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul, -EReal.coe_neg]; norm_num

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div ((x : ℝ) : EReal) ((y : ℝ) : EReal) = ((x / y : ℝ) : EReal) := by
  rw [Ideal.div_coe h, ← EReal.coe_mul, mul_one_div]

theorem div_1024 (x : ℝ) : Ideal.div ((x : ℝ) : EReal) ((1024 : ℝ) : EReal) = ((x / 1024 : ℝ) : EReal) :=
  div_real _ _ (by norm_num)

theorem rsqrt_real (x : ℝ) (h : 0 < x) : Ideal.rsqrt ((x : ℝ) : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

theorem max_real (x y : ℝ) : max ((x : ℝ) : EReal) ((y : ℝ) : EReal) = ((max x y : ℝ) : EReal) :=
  (EReal.coe_strictMono.monotone.map_max).symm

theorem max_zero (x : ℝ) : max ((x : ℝ) : EReal) 0 = ((max x 0 : ℝ) : EReal) := by
  rw [← max_real, EReal.coe_zero]

theorem one_add_real (x : ℝ) : (1 : EReal) + ((x : ℝ) : EReal) = ((1 + x : ℝ) : EReal) := by
  rw [EReal.coe_add, EReal.coe_one]

theorem zero_add_real (x : ℝ) : (0 : EReal) + ((x : ℝ) : EReal) = ((x : ℝ) : EReal) := zero_add _

theorem add_real (x y : ℝ) : ((x : ℝ) : EReal) + ((y : ℝ) : EReal) = ((x + y : ℝ) : EReal) := (EReal.coe_add x y).symm
theorem sub_real (x y : ℝ) : ((x : ℝ) : EReal) - ((y : ℝ) : EReal) = ((x - y : ℝ) : EReal) := (EReal.coe_sub x y).symm
theorem mul_real (x y : ℝ) : ((x : ℝ) : EReal) * ((y : ℝ) : EReal) = ((x * y : ℝ) : EReal) := (EReal.coe_mul x y).symm
theorem neg_real (x : ℝ) : -((x : ℝ) : EReal) = ((-x : ℝ) : EReal) := (EReal.coe_neg x).symm
theorem ite_real (p : Prop) [Decidable p] (x y : ℝ) :
    (if p then ((x : ℝ) : EReal) else ((y : ℝ) : EReal)) = ((if p then x else y : ℝ) : EReal) := by split <;> rfl

/-- The mean of 1024 numbers. -/
def mean (f : ℕ → ℝ) : ℝ := (∑ k : Fin 1024, f k) / 1024
/-- A row less its mean. -/
def ctr (y : ℕ → ℝ) (c : ℕ) : ℝ := y c - mean y
/-- The reciprocal of a row's standard deviation. -/
def rstd (y : ℕ → ℝ) : ℝ := (Real.sqrt (mean (fun k => ctr y k * ctr y k) + eps))⁻¹
/-- A row normalised. -/
def nrm (y : ℕ → ℝ) (c : ℕ) : ℝ := ctr y c * rstd y
/-- The gradient of the normalisation, from the reciprocal deviation `r`, the normalised row `n` and the gradient `d` of it. -/
def lnb (r : ℝ) (n d : ℕ → ℝ) (c : ℕ) : ℝ := r * (d c - mean d - n c * mean (fun k => d k * n k))

theorem mean_sq_nonneg (f : ℕ → ℝ) : 0 ≤ mean (fun k => f k * f k) :=
  div_nonneg (Finset.sum_nonneg fun _ _ => mul_self_nonneg _) (by norm_num)

theorem var_pos (y : ℕ → ℝ) : 0 < mean (fun k => ctr y k * ctr y k) + eps :=
  add_pos_of_nonneg_of_pos (mean_sq_nonneg _) eps_pos

/-- The reciprocal square root the two programs take of a row's variance. -/
theorem rsqrt_var (y : ℕ → ℝ) :
    Ideal.rsqrt (((∑ k : Fin 1024, ctr y k * ctr y k) / 1024 + eps : ℝ) : EReal) = ((rstd y : ℝ) : EReal) :=
  rsqrt_real _ (var_pos y)

theorem div_var (x : ℝ) (y : ℕ → ℝ) :
    Ideal.div ((x : ℝ) : EReal) ((mean (fun k => ctr y k * ctr y k) + eps : ℝ) : EReal)
      = ((x / (mean (fun k => ctr y k * ctr y k) + eps) : ℝ) : EReal) := div_real _ _ (var_pos y).ne'

/-- The variance's part of the gradient of the normalisation. -/
def lnv (y d : ℕ → ℝ) (c : ℕ) : ℝ :=
  (∑ k : Fin 1024, ctr y k * d k) * (-(1 / 2) * (rstd y / (mean (fun k => ctr y k * ctr y k) + eps))) / 1024 * (2 * ctr y c)

theorem sum_ctr (y : ℕ → ℝ) : ∑ k : Fin 1024, ctr y k = 0 := by
  simp only [ctr, Finset.sum_sub_distrib, Finset.sum_const, Finset.card_univ, Fintype.card_fin, mean, nsmul_eq_mul]
  push_cast; ring

theorem rstd_div (y : ℕ → ℝ) : rstd y / (mean (fun k => ctr y k * ctr y k) + eps) = rstd y * rstd y * rstd y := by
  have h := var_pos y
  have e := Real.mul_self_sqrt h.le
  unfold rstd
  generalize mean (fun k => ctr y k * ctr y k) + eps = v at *
  have hi : v⁻¹ = (Real.sqrt v)⁻¹ * (Real.sqrt v)⁻¹ := by rw [← mul_inv, e]
  rw [div_eq_mul_inv, hi, mul_assoc]

/-- The gradient of the normalisation through the mean and the variance apart is the gradient in one step. -/
theorem ln_bwd (y d : ℕ → ℝ) (c : ℕ) :
    d c * rstd y + lnv y d c + ((∑ k : Fin 1024, -(d k * rstd y)) + ∑ k : Fin 1024, -lnv y d k) / 1024
      = lnb (rstd y) (nrm y) d c := by
  have hv : ∑ k : Fin 1024, -lnv y d k = 0 := by
    simp only [lnv, Finset.sum_neg_distrib, ← Finset.mul_sum, sum_ctr, mul_zero, neg_zero]
  have h1 : ∑ k : Fin 1024, -(d k * rstd y) = -((∑ k : Fin 1024, d k) * rstd y) := by
    rw [Finset.sum_neg_distrib, Finset.sum_mul]
  have h2 : ∑ k : Fin 1024, d k * nrm y k = (∑ k : Fin 1024, ctr y k * d k) * rstd y := by
    rw [Finset.sum_mul]; exact Finset.sum_congr rfl fun k _ => by unfold nrm; ring
  rw [hv, h1]
  unfold lnv lnb
  rw [rstd_div]
  show _ = rstd y * (d c - (∑ k : Fin 1024, d k) / 1024 - nrm y c * ((∑ k : Fin 1024, d k * nrm y k) / 1024))
  rw [h2]
  unfold nrm
  ring

/-- A host sum along the two leading axes of three. -/
theorem sum_lead {n0 n1 n2 : ℕ} (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ a : Fin n0, ∑ b : Fin n1, v (ix3 a b c) := by
  refine congrArg (init + ·) ?_
  refine (Finset.sum_filter_eq_sum_of_fiber _ (fun k : Fin n0 × Fin n1 => ix3 k.1 k.2 c)
    (fun _ _ e => Prod.ext (congrFun e 0) (congrFun e 1)) (fun i => ⟨fun e => ⟨(i 0, i 1), ?_⟩, ?_⟩) v).trans
    (Fintype.sum_prod_type _)
  · funext a; apply Fin.ext
    match a with
    | ⟨0, _⟩ => rfl
    | ⟨1, _⟩ => rfl
    | ⟨2, _⟩ => exact (congrArg Fin.val (congrFun e ⟨0, Nat.zero_lt_one⟩)).symm
  · rintro ⟨k, rfl⟩
    funext b; apply Fin.ext
    match b with
    | ⟨0, _⟩ => rfl

attribute [pointwise] sum_lead div_var lit_eps lit_alpha lit_1024 lit_inv1024 lit_inv2048 lit_half lit_neg_half lit_two coe_sum div_1024
  max_real max_zero one_add_real zero_add_real add_real sub_real mul_real neg_real

end Cert.Up

end
-- ==== Proof.Up.Pay.lean ====
/- What each payload of the call's body computes on arrays of real numbers. -/
module

public import proofs.«01_k».proof.Proof.Up.Basic
public import proofs.«01_k».proof.Proof.Gen.KernelIdeal.Skeleton

@[expose] public section

set_option maxRecDepth 16384

noncomputable section

namespace Cert.Up

open Idealize.ShloMosaic Cert.KernelIdeal Cert.KernelIdeal.Gen

variable (y n t u f x d e z : ℕ → ℕ → ℝ) (g b a : ℕ → ℕ → ℝ) (w w' w'' v : ℕ → ℕ → ℕ → ℝ)

theorem pay6 : k0_pay6 (F := Ideal) (up2 y) = up2 (fun i c => ctr (y i) c) := by
  funext j; idx_vars j; pointwise [k0_pay6, up2]; rfl

theorem pay7 : k0_pay7 (F := Ideal) (up2 y) = up2 (fun i _ => rstd (y i)) := by
  funext j; idx_vars j; unfold k0_pay7; rw [pay6]; pointwise [up2]; exact rsqrt_var _

theorem pay8 : k0_pay8 (F := Ideal) (up2 y) = up2 (fun i c => nrm (y i) c) := by
  funext j; idx_vars j; unfold k0_pay8; rw [pay6, pay7]; pointwise [up2]; rfl

/-- The error of a row's prediction. -/
def err (g b n t : ℕ → ℕ → ℝ) (i c : ℕ) : ℝ := n i c * g 0 c + b 0 c - t i c

theorem pay9 : k0_pay9 (F := Ideal) (up2 g) (up2 b) (up2 n) (up2 t) = up2 (err g b n t) := by
  funext j; idx_vars j; pointwise [k0_pay9, up2]; rfl

theorem pay10 : k0_pay10 (F := Ideal) (up2 g) (up2 b) (up2 n) (up2 t) = up2 (fun i c => err g b n t i c * (1 / 1024)) := by
  funext j; idx_vars j; unfold k0_pay10; rw [pay9]; pointwise [up2]

theorem pay11 : k0_pay11 (F := Ideal) (up2 g) (up2 b) (up2 n) (up2 t) (up2 a)
    = up2 (fun _ c => a 0 c + ∑ r : Fin 256, err g b n t r c * (1 / 1024) * n r c) := by
  funext j; idx_vars j; unfold k0_pay11; rw [pay10]; pointwise [up2]

theorem pay12 : k0_pay12 (F := Ideal) (up2 g) (up2 b) (up2 n) (up2 t) (up2 a)
    = up2 (fun _ c => a 0 c + ∑ r : Fin 256, err g b n t r c * (1 / 1024)) := by
  funext j; idx_vars j; unfold k0_pay12; rw [pay10]; pointwise [up2]

theorem pay13 : k0_pay13 (F := Ideal) (up2 g) (up2 b) (up2 n) (up2 t) (up2 a)
    = up2 (fun _ c => a 0 c + (∑ r : Fin 256, err g b n t r c * err g b n t r c) * (1 / 2048)) := by
  funext j; idx_vars j; unfold k0_pay13; rw [pay9]; pointwise [up2]

theorem pay14 : k0_pay14 (F := Ideal) (up2 g) (up2 b) (up2 n) (up2 t)
    = up2 (fun i c => err g b n t i c * (1 / 1024) * g 0 c) := by
  funext j; idx_vars j; unfold k0_pay14; rw [pay10]; pointwise [up2]

theorem pay15 : k0_pay15 (F := Ideal) (up2 g) (up2 b) (up2 n) (up2 t)
    = up2 (fun i _ => ∑ k : Fin 1024, err g b n t i k * (1 / 1024) * g 0 k) := by
  funext j; idx_vars j; unfold k0_pay15; rw [pay14]; pointwise [up2]

theorem pay16 : k0_pay16 (F := Ideal) = up2 (fun _ _ => 1024) := by
  funext j; idx_vars j; pointwise [k0_pay16, up2]

theorem pay17 (r : ℕ → ℝ) : k0_pay17 (F := Ideal) (up2 fun i _ => r i) (up2 n) (up2 d) (up2 fun i _ => ∑ k : Fin 1024, d i k) (up2 fun _ _ => 1024)
    = up2 (fun i c => lnb (r i) (n i) (d i) c) := by
  funext j; idx_vars j; pointwise [k0_pay17, up2]; rfl

theorem pay18 (r : ℕ → ℝ) : k0_pay18 (F := Ideal) (up2 fun i _ => r i) (up2 n) (up2 d) (up2 fun i _ => ∑ k : Fin 1024, d i k) (up2 fun _ _ => 1024) (up3 v) (up2 f)
    = up3 (fun _ _ c => v 0 0 c + ∑ i : Fin 256, lnb (r i) (n i) (d i) c * f i c) := by
  funext j; idx_vars j; unfold k0_pay18; rw [pay17]; pointwise [up2, up3]

theorem pay19 (r : ℕ → ℝ) : k0_pay19 (F := Ideal) (up2 fun i _ => r i) (up2 n) (up2 d) (up2 fun i _ => ∑ k : Fin 1024, d i k) (up2 fun _ _ => 1024) (up3 v)
    = up2 (fun i c => (1 + v 0 0 c) * lnb (r i) (n i) (d i) c) := by
  funext j; idx_vars j; unfold k0_pay19; rw [pay17]; pointwise [up2, up3]

theorem pay20 (r : ℕ → ℝ) : k0_pay20 (F := Ideal) (up2 fun i _ => r i) (up2 n) (up2 d) (up2 fun i _ => ∑ k : Fin 1024, d i k) (up2 fun _ _ => 1024) (up3 v) (up3 w)
    = up2 (fun i c => ∑ k : Fin 1024, (1 + v 0 0 k) * lnb (r i) (n i) (d i) k * w 0 c k) := by
  funext j; idx_vars j; unfold k0_pay20; rw [pay19]; pointwise [up2, up3]

theorem pay21 : k0_pay21 (F := Ideal) (up2 f) (up2 u) = up2 (fun i c => f i c * (2 * max (u i c) 0)) := by
  funext j; idx_vars j; pointwise [k0_pay21, up2]

theorem pay22 : k0_pay22 (F := Ideal) (up2 f) (up3 w) (up2 u)
    = up2 (fun i c => (∑ k : Fin 1024, f i k * w 0 c k) * (2 * max (u i c) 0)) := by
  funext j; idx_vars j; pointwise [k0_pay22, up2, up3]

theorem pay23 : k0_pay23 (F := Ideal) (up2 f) (up3 w) (up2 u)
    = up2 (fun i c => (∑ k : Fin 1024, f i k * w 0 c k) * (2 * max (u i c) 0)) := pay22 u f w

theorem pay24 : k0_pay24 (F := Ideal) (up2 f) (up3 w) (up2 u)
    = up2 (fun i c => (∑ k : Fin 1024, f i k * w 0 c k) * (2 * max (u i c) 0)) := pay22 u f w

theorem pay25 : k0_pay25 (F := Ideal) (up2 f) (up3 w) (up2 u)
    = up2 (fun i c => (∑ k : Fin 1024, f i k * w 0 c k) * (2 * max (u i c) 0)) := pay22 u f w

theorem pay26 : k0_pay26 (F := Ideal) (up2 f) (up3 w) = up2 (fun i c => ∑ k : Fin 1024, f i k * w 0 c k) := by
  funext j; idx_vars j; pointwise [k0_pay26, up2, up3]

theorem pay27 : k0_pay27 (F := Ideal) (up2 f) (up2 u) = up2 (fun i c => f i c * (2 * max (u i c) 0)) := pay21 u f

theorem pay28 : k0_pay28 (F := Ideal) (up2 f) (up3 w) (up2 u)
    = up2 (fun i c => (∑ k : Fin 1024, f i k * w 0 c k) * (2 * max (u i c) 0)) := pay22 u f w

theorem pay29 : k0_pay29 (F := Ideal) (up2 f) (up3 w) (up2 u)
    = up2 (fun i c => (∑ k : Fin 1024, f i k * w 0 c k) * (2 * max (u i c) 0)) := pay22 u f w

theorem pay30 : k0_pay30 (F := Ideal) (up2 y) = up2 (fun i c => ctr (y i) c) := pay6 y
theorem pay31 : k0_pay31 (F := Ideal) (up2 y) = up2 (fun i _ => rstd (y i)) := pay7 y
theorem pay32 : k0_pay32 (F := Ideal) (up2 y) = up2 (fun i c => nrm (y i) c) := pay8 y

theorem pay33 : k0_pay33 (F := Ideal) (up2 g) (up2 y) (up2 b) = up2 (fun i c => nrm (y i) c * g 0 c + b 0 c) := by
  funext j; idx_vars j; unfold k0_pay33; rw [pay32]; pointwise [up2]

theorem pay34 : k0_pay34 (F := Ideal) (up2 f) (up3 w) = up2 (fun i c => ∑ k : Fin 1024, f i k * w 0 c k) := by
  funext j; idx_vars j; pointwise [k0_pay34, up2, up3]

theorem pay35 : k0_pay35 (F := Ideal) (up2 f) = up2 f := by
  funext j; idx_vars j; pointwise [k0_pay35, up2]

theorem pay36 : k0_pay36 (F := Ideal) (up2 a) (up2 f) (up3 w) (up2 d) (up3 w') (up2 e) (up3 w'')
    = up2 (fun i c => a i c + (∑ k : Fin 1024, f i k * w 0 c k) + (∑ k : Fin 1024, d i k * w' 0 c k) + (∑ k : Fin 1024, e i k * w'' 0 c k)) := by
  funext j; idx_vars j; pointwise [k0_pay36, up2, up3]

theorem pay37 : k0_pay37 (F := Ideal) (up2 d) (up3 w') (up2 e) (up3 w'')
    = up2 (fun i c => (∑ k : Fin 1024, d i k * w' 0 c k) + (∑ k : Fin 1024, e i k * w'' 0 c k)) := by
  funext j; idx_vars j; pointwise [k0_pay37, up2, up3]

theorem pay38 : k0_pay38 (F := Ideal) (up2 f) = up2 f := by
  funext j; idx_vars j; pointwise [k0_pay38, up2]

theorem pay39 : k0_pay39 (F := Ideal) (up2 a) (up2 b) (up2 d) (up3 w') (up2 e) (up3 w'')
    = up2 (fun i c => if c < 512 then a i c
        else b i (c - 512) + (∑ k : Fin 1024, d i k * w' 0 (c - 512) k) + (∑ k : Fin 1024, e i k * w'' 0 (c - 512) k)) := by
  funext j; idx_vars j; pointwise [k0_pay39, up2, up3]; split_ifs <;> rfl

theorem pay42 : k0_pay42 (F := Ideal) (up2 d) = up2 (fun i c => alpha * d i c) := by
  funext j; idx_vars j; pointwise [k0_pay42, up2]

theorem pay43 : k0_pay43 (F := Ideal) (up3 v) = up2 (fun _ c => v 0 0 c) := by
  funext j; idx_vars j; pointwise [k0_pay43, up2, up3]

theorem pay44 : k0_pay44 (F := Ideal) (up2 f) (up2 d) (up2 g) = up2 (fun i c => d i c + f i c * (1 + g 0 c)) := by
  funext j; idx_vars j; pointwise [k0_pay44, up2]

theorem pay45 : k0_pay45 (F := Ideal) (up2 n) (up2 f) (up2 d) (up2 g) (up2 a)
    = up2 (fun _ c => a 0 c + ∑ i : Fin 256, (d i c + f i c * (1 + g 0 c)) * n i c) := by
  funext j; idx_vars j; unfold k0_pay45; rw [pay44]; pointwise [up2]

theorem pay46 : k0_pay46 (F := Ideal) (up2 f) (up2 d) (up2 g) (up2 a)
    = up2 (fun _ c => a 0 c + ∑ i : Fin 256, (d i c + f i c * (1 + g 0 c))) := by
  funext j; idx_vars j; unfold k0_pay46; rw [pay44]; pointwise [up2]

theorem pay47 (r : ℕ → ℝ) : k0_pay47 (F := Ideal) (up2 b) (up2 fun i _ => r i) (up2 n) (up2 f) (up2 d) (up2 g)
    = up2 (fun i c => lnb (r i) (n i) (fun k => (d i k + f i k * (1 + g 0 k)) * b 0 k) c) := by
  funext j; idx_vars j; unfold k0_pay47; rw [pay44]; pointwise [up2]; rfl

theorem pay1 : k0_pay1 (F := Ideal) (up2 d) (up3 v) (up2 f) = up3 (fun _ _ c => v 0 0 c + ∑ i : Fin 256, d i c * f i c) := by
  funext j; idx_vars j; pointwise [k0_pay1, up2, up3]

theorem pay2 : k0_pay2 (F := Ideal) (up2 d) (up3 v) = up2 (fun i c => (1 + v 0 0 c) * d i c) := by
  funext j; idx_vars j; pointwise [k0_pay2, up2, up3]

theorem pay3 : k0_pay3 (F := Ideal) (up2 d) (up3 v) (up2 a) = up2 (fun i c => ∑ k : Fin 1024, (1 + v 0 0 k) * d i k * a c k) := by
  funext j; idx_vars j; unfold k0_pay3; rw [pay2]; pointwise [up2]

theorem pay4 : k0_pay4 (F := Ideal) = up2 (fun _ _ => 0) := by
  funext j; idx_vars j; pointwise [k0_pay4, up2]; rfl

theorem pay5 : k0_pay5 (F := Ideal) = up3 (fun _ _ _ => 0) := by
  funext j; idx_vars j; pointwise [k0_pay5, up3]; rfl

theorem pay40 : k0_pay40 (F := Ideal) (up2 a) (up2 b) (up2 d) (up3 w') (up2 e) (up3 w'') (up3 v)
    = up3 (fun _ _ c => v 0 0 c + ∑ i : Fin 256, if c < 512 then a i c
        else b i (c - 512) + (∑ k : Fin 1024, d i k * w' 0 (c - 512) k) + (∑ k : Fin 1024, e i k * w'' 0 (c - 512) k)) := by
  funext j; idx_vars j; unfold k0_pay40; rw [pay39]; pointwise [up2, up3]

theorem pay41 : k0_pay41 (F := Ideal) (up2 x) (up2 a) (up2 b) (up2 d) (up3 w') (up2 e) (up3 w'') (up3 v)
    = up3 (fun _ _ c => v 0 0 c + ∑ i : Fin 256, (if c < 512 then a i c
        else b i (c - 512) + (∑ k : Fin 1024, d i k * w' 0 (c - 512) k) + (∑ k : Fin 1024, e i k * w'' 0 (c - 512) k)) * x i c) := by
  funext j; idx_vars j; unfold k0_pay41; rw [pay39]; pointwise [up2, up3]

end Cert.Up

end
-- ==== Proof.Up.Spec.lean ====
/- The block's forward values and the gradients through it, over the real numbers, by natural coordinates: batch row `b`,
   position `s`, feature `c`, hidden unit `e`. -/
module

public import proofs.«01_k».proof.Proof.Up.Basic

@[expose] public section

noncomputable section

namespace Cert.Spec

open Cert.Up

/-- The arguments as real numbers. -/
structure In where
  x : ℕ → ℕ → ℕ → ℝ
  att : ℕ → ℕ → ℕ → ℝ
  mod : ℕ → ℕ → ℝ
  wo : ℕ → ℕ → ℝ
  g1 : ℕ → ℝ
  b1 : ℕ → ℝ
  wu : ℕ → ℕ → ℝ
  wd : ℕ → ℕ → ℝ
  g2 : ℕ → ℝ
  b2 : ℕ → ℝ
  tg : ℕ → ℕ → ℕ → ℝ

variable (I : In)

/-- Part `k` of batch row `b`'s modulation. -/
def md (k b c : ℕ) : ℝ := I.mod b (1024 * k + c)
/-- The output projection. -/
def mix (b s c : ℕ) : ℝ := ∑ k : Fin 1024, I.att b s k * I.wo k c
/-- The first residual sum. -/
def y1 (b s c : ℕ) : ℝ := alpha * I.x b s c + (1 + md I 2 b c) * mix I b s c
/-- The first norm's result. -/
def x1 (b s c : ℕ) : ℝ := nrm (y1 I b s) c * I.g1 c + I.b1 c
/-- The hidden layer before its activation. -/
def u (b s e : ℕ) : ℝ := ∑ k : Fin 1024, (x1 I b s k * (1 + md I 4 b k) + md I 3 b k) * I.wu k e
/-- The feed-forward result. -/
def ff (b s c : ℕ) : ℝ := ∑ e : Fin 4096, max (u I b s e) 0 * max (u I b s e) 0 * I.wd e c
/-- The second residual sum. -/
def y2 (b s c : ℕ) : ℝ := alpha * x1 I b s c + (1 + md I 5 b c) * ff I b s c
/-- The second norm's result less the target. -/
def diff (b s c : ℕ) : ℝ := nrm (y2 I b s) c * I.g2 c + I.b2 c - I.tg b s c
/-- The loss's gradient of the second norm's result. -/
def dz (b s c : ℕ) : ℝ := diff I b s c * (1 / 1024)
/-- The gradient of the second residual sum. -/
def dy2 (b s c : ℕ) : ℝ := lnb (rstd (y2 I b s)) (nrm (y2 I b s)) (fun k => dz I b s k * I.g2 k) c
/-- The gradient of the feed-forward result. -/
def dff (b s c : ℕ) : ℝ := (1 + md I 5 b c) * dy2 I b s c
/-- The gradient of the hidden layer. -/
def du (b s e : ℕ) : ℝ := (∑ k : Fin 1024, dff I b s k * I.wd e k) * (2 * max (u I b s e) 0)
/-- The gradient of the modulated input of the feed-forward part. -/
def dh2 (b s c : ℕ) : ℝ := ∑ e : Fin 4096, du I b s e * I.wu c e
/-- The gradient of the first norm's result. -/
def dx1 (b s c : ℕ) : ℝ := alpha * dy2 I b s c + dh2 I b s c * (1 + md I 4 b c)
/-- The gradient of the first residual sum. -/
def dy1 (b s c : ℕ) : ℝ := lnb (rstd (y1 I b s)) (nrm (y1 I b s)) (fun k => dx1 I b s k * I.g1 k) c
/-- The gradient of the projection. -/
def dmix (b s c : ℕ) : ℝ := (1 + md I 2 b c) * dy1 I b s c
/-- The gradient of the attention's result. -/
def dat (b s c : ℕ) : ℝ := ∑ k : Fin 1024, dmix I b s k * I.wo c k
/-- A sum over every position of every batch row. -/
def tot (f : ℕ → ℕ → ℝ) : ℝ := ∑ b : Fin 4, ∑ s : Fin 2048, f b s
/-- The gradients of the two norms' weights and offsets and the loss by feature, one a row. -/
def accs (r c : ℕ) : ℝ :=
  if r = 0 then tot fun b s => dz I b s c * nrm (y2 I b s) c
  else if r = 1 then tot fun b s => dz I b s c
  else if r = 2 then tot fun b s => diff I b s c * diff I b s c * (1 / 2048)
  else if r = 3 then tot fun b s => dx1 I b s c * nrm (y1 I b s) c
  else if r = 4 then tot fun b s => dx1 I b s c
  else 0
/-- The gradient of batch row `b`'s modulation, one part a row. -/
def dmods (b r c : ℕ) : ℝ :=
  if r = 2 then ∑ s : Fin 2048, dy1 I b s c * mix I b s c
  else if r = 3 then ∑ s : Fin 2048, dh2 I b s c
  else if r = 4 then ∑ s : Fin 2048, dh2 I b s c * x1 I b s c
  else if r = 5 then ∑ s : Fin 2048, dy2 I b s c * ff I b s c
  else 0
/-- Rows counted batch row by batch row. -/
def flat (f : ℕ → ℕ → ℕ → ℝ) (r c : ℕ) : ℝ := f (r / 2048) (r % 2048) c
/-- A quantity of batch row `b`, its positions counted from `s0`. -/
def tl (b s0 : ℕ) (f : ℕ → ℕ → ℕ → ℝ) (i c : ℕ) : ℝ := f b (s0 + i) c
/-- A row of the modulation padded to eight rows, the two last nothing. -/
def mrow (I : In) (b k c : ℕ) : ℝ := if k < 6 then md I k b c else 0
/-- What one position gives to the gradient or the loss of row `r` of the running sums. -/
def qa (I : In) (r b s c : ℕ) : ℝ :=
  if r = 0 then dz I b s c * nrm (y2 I b s) c
  else if r = 1 then dz I b s c
  else if r = 2 then diff I b s c * diff I b s c * (1 / 2048)
  else if r = 3 then dx1 I b s c * nrm (y1 I b s) c
  else if r = 4 then dx1 I b s c
  else 0
/-- What one position gives to row `r` of its batch row's modulation gradient. -/
def qd (I : In) (r b s c : ℕ) : ℝ :=
  if r = 2 then dy1 I b s c * mix I b s c
  else if r = 3 then dh2 I b s c
  else if r = 4 then dh2 I b s c * x1 I b s c
  else if r = 5 then dy2 I b s c * ff I b s c
  else 0
theorem accs_eq (I : In) (r c : ℕ) : accs I r c = tot fun b s => qa I r b s c := by
  unfold accs qa
  split_ifs <;> simp [tot]
theorem dmods_eq (I : In) (b r c : ℕ) : dmods I b r c = ∑ s : Fin 2048, qd I r b s c := by
  unfold dmods qd
  split_ifs <;> simp

end Cert.Spec

end
-- ==== Proof.Up.Tile.lean ====
/- One point's values over its rows: batch row `b`, positions from `s0` on. -/
module

public import proofs.«01_k».proof.Proof.Up.Pay
public import proofs.«01_k».proof.Proof.Up.Spec
public import Idealize.ShloMosaic.Lib.Pipeline.ValueKit.Acc

@[expose] public section

set_option maxRecDepth 16384

noncomputable section

namespace Cert.Tile

open Cert.KernelIdeal Cert.KernelIdeal.Gen Idealize.ShloMosaic Idealize.ShloMosaic.TcCoe Idealize.SL.Sem
open Cert.Up Cert.Spec

theorem up2_congr {A B : ℕ} {f g : ℕ → ℕ → ℝ} (h : ∀ i < A, ∀ c < B, f i c = g i c) :
    (up2 f : (⟨2, ![A, B]⟩ : Shape).Idx → EReal) = up2 g :=
  funext fun j => congrArg _ (h _ (j 0).isLt _ (j 1).isLt)

theorem up3_congr {A B C : ℕ} {f g : ℕ → ℕ → ℕ → ℝ} (h : ∀ i < A, ∀ k < B, ∀ c < C, f i k c = g i k c) :
    (up3 f : (⟨3, ![A, B, C]⟩ : Shape).Idx → EReal) = up3 g :=
  funext fun j => congrArg _ (h _ (j 0).isLt _ (j 1).isLt _ (j 2).isLt)

/-! ## Loads of a part of a block -/

theorem ld2 {A B A' B' o0 o1 : ℕ} (f : ℕ → ℕ → ℝ)
    (inb : ∀ a, (![o0, o1] : Fin _ → ℕ) a + (![A', B'] : Fin _ → ℕ) a ≤ (![A, B] : Fin _ → ℕ) a) :
    View.ld (Val := Elt Ideal) (e' := .f32) (up2 f : (⟨2, ![A, B]⟩ : Shape).Idx → EReal) (Rect.unit ![o0, o1] ![A', B'] inb)
      = (up2 fun i c => f (o0 + i) (o1 + c) : (⟨2, ![A', B']⟩ : Shape).Idx → EReal) := by
  funext j
  show ((f (o0 + 1 * (j 0).val) (o1 + 1 * (j 1).val) : ℝ) : EReal) = ((f (o0 + (j 0).val) (o1 + (j 1).val) : ℝ) : EReal)
  rw [Nat.one_mul, Nat.one_mul]

theorem ld3 {A B C A' B' C' o0 o1 o2 : ℕ} (f : ℕ → ℕ → ℕ → ℝ)
    (inb : ∀ a, (![o0, o1, o2] : Fin _ → ℕ) a + (![A', B', C'] : Fin _ → ℕ) a ≤ (![A, B, C] : Fin _ → ℕ) a) :
    View.ld (Val := Elt Ideal) (e' := .f32) (up3 f : (⟨3, ![A, B, C]⟩ : Shape).Idx → EReal) (Rect.unit ![o0, o1, o2] ![A', B', C'] inb)
      = (up3 fun i k c => f (o0 + i) (o1 + k) (o2 + c) : (⟨3, ![A', B', C']⟩ : Shape).Idx → EReal) := by
  funext j
  show ((f (o0 + 1 * (j 0).val) (o1 + 1 * (j 1).val) (o2 + 1 * (j 2).val) : ℝ) : EReal) = ((f (o0 + (j 0).val) (o1 + (j 1).val) (o2 + (j 2).val) : ℝ) : EReal)
  rw [Nat.one_mul, Nat.one_mul, Nat.one_mul]

/-- A row of a block. -/
theorem ldRow {A B r : ℕ} (f : ℕ → ℕ → ℝ)
    (inb : ∀ a, (![r, 0] : Fin _ → ℕ) a + (![1, B] : Fin _ → ℕ) a ≤ (![A, B] : Fin _ → ℕ) a) :
    View.ld (Val := Elt Ideal) (e' := .f32) (up2 f : (⟨2, ![A, B]⟩ : Shape).Idx → EReal) (Rect.unit ![r, 0] ![1, B] inb)
      = (up2 fun _ c => f r c : (⟨2, ![1, B]⟩ : Shape).Idx → EReal) := by
  refine (ld2 f inb).trans (up2_congr fun i hi c _ => ?_)
  rw [show i = 0 by omega, Nat.add_zero, Nat.zero_add]

/-- Columns of a block. -/
theorem ldCol {A B B' o : ℕ} (f : ℕ → ℕ → ℝ)
    (inb : ∀ a, (![0, o] : Fin _ → ℕ) a + (![A, B'] : Fin _ → ℕ) a ≤ (![A, B] : Fin _ → ℕ) a) :
    View.ld (Val := Elt Ideal) (e' := .bf16) (up2 f : (⟨2, ![A, B]⟩ : Shape).Idx → EReal) (Rect.unit ![0, o] ![A, B'] inb)
      = (up2 fun i c => f i (o + c) : (⟨2, ![A, B']⟩ : Shape).Idx → EReal) := by
  refine (ld2 f inb).trans (up2_congr fun i _ c _ => ?_)
  rw [Nat.zero_add]

/-- One part of the packed weights. -/
theorem ldPart {A B C q : ℕ} (f : ℕ → ℕ → ℕ → ℝ)
    (inb : ∀ a, (![q, 0, 0] : Fin _ → ℕ) a + (![1, B, C] : Fin _ → ℕ) a ≤ (![A, B, C] : Fin _ → ℕ) a) :
    View.ld (Val := Elt Ideal) (e' := .bf16) (up3 f : (⟨3, ![A, B, C]⟩ : Shape).Idx → EReal) (Rect.unit ![q, 0, 0] ![1, B, C] inb)
      = (up3 fun _ r e => f q r e : (⟨3, ![1, B, C]⟩ : Shape).Idx → EReal) := by
  refine (ld3 f inb).trans (up3_congr fun i hi k _ c _ => ?_)
  rw [show i = 0 by omega, Nat.add_zero, Nat.zero_add, Nat.zero_add]

/-- One row of the modulation. -/
theorem ldMod {B C k : ℕ} (f : ℕ → ℕ → ℕ → ℝ)
    (inb : ∀ a, (![0, k, 0] : Fin _ → ℕ) a + (![1, 1, C] : Fin _ → ℕ) a ≤ (![1, B, C] : Fin _ → ℕ) a) :
    View.ld (Val := Elt Ideal) (e' := .f32) (up3 f : (⟨3, ![1, B, C]⟩ : Shape).Idx → EReal) (Rect.unit ![0, k, 0] ![1, 1, C] inb)
      = (up3 fun _ _ c => f 0 k c : (⟨3, ![1, 1, C]⟩ : Shape).Idx → EReal) := by
  refine (ld3 f inb).trans (up3_congr fun i hi r hr c _ => ?_)
  rw [show i = 0 by omega, show r = 0 by omega, Nat.add_zero, Nat.zero_add, Nat.add_zero]

/-! ## The hidden layer's gradient, stored eight column parts at a time -/

section
variable (D p0 p1 p2 p3 p4 p5 p6 p7 : ℕ → ℕ → ℝ)
  (i0 : ∀ a, (![0, 0] : Fin 2 → ℕ) a + (![256, 512] : Fin 2 → ℕ) a ≤ S256x4096.size a)
  (i1 : ∀ a, (![0, 512] : Fin 2 → ℕ) a + (![256, 512] : Fin 2 → ℕ) a ≤ S256x4096.size a)
  (i2 : ∀ a, (![0, 1024] : Fin 2 → ℕ) a + (![256, 512] : Fin 2 → ℕ) a ≤ S256x4096.size a)
  (i3 : ∀ a, (![0, 1536] : Fin 2 → ℕ) a + (![256, 512] : Fin 2 → ℕ) a ≤ S256x4096.size a)
  (i4 : ∀ a, (![0, 2048] : Fin 2 → ℕ) a + (![256, 512] : Fin 2 → ℕ) a ≤ S256x4096.size a)
  (i5 : ∀ a, (![0, 2560] : Fin 2 → ℕ) a + (![256, 512] : Fin 2 → ℕ) a ≤ S256x4096.size a)
  (i6 : ∀ a, (![0, 3072] : Fin 2 → ℕ) a + (![256, 512] : Fin 2 → ℕ) a ≤ S256x4096.size a)
  (i7 : ∀ a, (![0, 3584] : Fin 2 → ℕ) a + (![256, 512] : Fin 2 → ℕ) a ≤ S256x4096.size a)

/-- The eight parts of `D`, as they were stored. -/
abbrev parts : List (View.Piece (Elt Ideal) S256x4096 .bf16) :=
  [⟨Rect.unit ![0, 3584] ![256, 512] i7, (up2 fun i c => D i (3584 + c) : S256x512.Idx → EReal)⟩,
   ⟨Rect.unit ![0, 3072] ![256, 512] i6, (up2 fun i c => D i (3072 + c) : S256x512.Idx → EReal)⟩,
   ⟨Rect.unit ![0, 2560] ![256, 512] i5, (up2 fun i c => D i (2560 + c) : S256x512.Idx → EReal)⟩,
   ⟨Rect.unit ![0, 2048] ![256, 512] i4, (up2 fun i c => D i (2048 + c) : S256x512.Idx → EReal)⟩,
   ⟨Rect.unit ![0, 1536] ![256, 512] i3, (up2 fun i c => D i (1536 + c) : S256x512.Idx → EReal)⟩,
   ⟨Rect.unit ![0, 1024] ![256, 512] i2, (up2 fun i c => D i (1024 + c) : S256x512.Idx → EReal)⟩,
   ⟨Rect.unit ![0, 512] ![256, 512] i1, (up2 fun i c => D i (512 + c) : S256x512.Idx → EReal)⟩,
   ⟨Rect.unit ![0, 0] ![256, 512] i0, (up2 fun i c => D i (0 + c) : S256x512.Idx → EReal)⟩]

theorem part_cover (y : S256x4096.Idx) : ∃ p ∈ parts D i0 i1 i2 i3 i4 i5 i6 i7, y ∈ p.1.set := by
  have hy : (y 1).val < 4096 := (y 1).isLt
  have hx : (y 0).val < 256 := (y 0).isLt
  have key : ∀ (o : ℕ) (inb : ∀ a, (![0, o] : Fin 2 → ℕ) a + (![256, 512] : Fin 2 → ℕ) a ≤ S256x4096.size a),
      o ≤ (y 1).val → (y 1).val < o + 512 → y ∈ (Rect.unit (s := S256x4096) ![0, o] ![256, 512] inb).set := by
    intro o inb h1 h2
    rw [Rect.mem_set_unit]
    intro a
    match a with
    | ⟨0, _⟩ => exact ⟨Nat.zero_le _, by show (y 0).val < 0 + 256; omega⟩
    | ⟨1, _⟩ => exact ⟨h1, h2⟩
  rcases (by omega : (y 1).val < 512 ∨ (512 ≤ (y 1).val ∧ (y 1).val < 1024) ∨ (1024 ≤ (y 1).val ∧ (y 1).val < 1536) ∨ (1536 ≤ (y 1).val ∧ (y 1).val < 2048)
      ∨ (2048 ≤ (y 1).val ∧ (y 1).val < 2560) ∨ (2560 ≤ (y 1).val ∧ (y 1).val < 3072) ∨ (3072 ≤ (y 1).val ∧ (y 1).val < 3584) ∨ (3584 ≤ (y 1).val ∧ (y 1).val < 4096))
    with h | h | h | h | h | h | h | h
  · exact ⟨_, List.Mem.tail _ (List.Mem.tail _ (List.Mem.tail _ (List.Mem.tail _ (List.Mem.tail _ (List.Mem.tail _ (List.Mem.tail _ (List.Mem.head _))))))), key 0 i0 (Nat.zero_le _) (by omega)⟩
  · exact ⟨_, List.Mem.tail _ (List.Mem.tail _ (List.Mem.tail _ (List.Mem.tail _ (List.Mem.tail _ (List.Mem.tail _ (List.Mem.head _)))))), key 512 i1 h.1 (by omega)⟩
  · exact ⟨_, List.Mem.tail _ (List.Mem.tail _ (List.Mem.tail _ (List.Mem.tail _ (List.Mem.tail _ (List.Mem.head _))))), key 1024 i2 h.1 (by omega)⟩
  · exact ⟨_, List.Mem.tail _ (List.Mem.tail _ (List.Mem.tail _ (List.Mem.tail _ (List.Mem.head _)))), key 1536 i3 h.1 (by omega)⟩
  · exact ⟨_, List.Mem.tail _ (List.Mem.tail _ (List.Mem.tail _ (List.Mem.head _))), key 2048 i4 h.1 (by omega)⟩
  · exact ⟨_, List.Mem.tail _ (List.Mem.tail _ (List.Mem.head _)), key 2560 i5 h.1 (by omega)⟩
  · exact ⟨_, List.Mem.tail _ (List.Mem.head _), key 3072 i6 h.1 (by omega)⟩
  · exact ⟨_, List.Mem.head _, key 3584 i7 h.1 (by omega)⟩

theorem parts_apply (y : S256x4096.Idx) : View.canon (parts D i0 i1 i2 i3 i4 i5 i6 i7) y = (up2 D : S256x4096.Idx → EReal) y := by
  refine View.canon_apply_of_pieces (Val := Elt Ideal) (e := .bf16) (up2 D : S256x4096.Idx → EReal) _ ?_ y (part_cover D i0 i1 i2 i3 i4 i5 i6 i7 y)
  have key : ∀ (o : ℕ) (inb : ∀ a, (![0, o] : Fin 2 → ℕ) a + (![256, 512] : Fin 2 → ℕ) a ≤ S256x4096.size a) (x : S256x512.Idx),
      (up2 (fun i c => D i (o + c)) : S256x512.Idx → EReal) x = (up2 D : S256x4096.Idx → EReal) ((Rect.unit (s := S256x4096) ![0, o] ![256, 512] inb).emb x) := by
    intro o inb x
    show ((D (x 0).val (o + (x 1).val) : ℝ) : EReal) = ((D (0 + 1 * (x 0).val) (o + 1 * (x 1).val) : ℝ) : EReal)
    rw [Nat.one_mul, Nat.one_mul, Nat.zero_add]
  intro p hp
  simp only [List.mem_cons, List.not_mem_nil, or_false] at hp
  rcases hp with rfl | rfl | rfl | rfl | rfl | rfl | rfl | rfl
  · exact key 3584 i7
  · exact key 3072 i6
  · exact key 2560 i5
  · exact key 2048 i4
  · exact key 1536 i3
  · exact key 1024 i2
  · exact key 512 i1
  · exact key 0 i0

theorem parts_canon : View.canon (parts D i0 i1 i2 i3 i4 i5 i6 i7) = (up2 D : S256x4096.Idx → EReal) :=
  funext fun y => parts_apply D i0 i1 i2 i3 i4 i5 i6 i7 y

theorem parts_read {sp : Space} {κ : Kind} {sg : RefSig} (v : View sg κ sp S256x4096 .bf16) {o : ℕ}
    (inb : ∀ a, (![0, o] : Fin 2 → ℕ) a + (![256, 1024] : Fin 2 → ℕ) a ≤ S256x4096.size a) :
    v.readCov (Val := Elt Ideal) (parts D i0 i1 i2 i3 i4 i5 i6 i7) (Rect.unit ![0, o] ![256, 1024] inb).toLoadRect
      = (up2 fun i c => D i (o + c) : S256x1024.Idx → EReal) := by
  rw [View.readCov_eq_canon_ld _ _ _ (part_cover D i0 i1 i2 i3 i4 i5 i6 i7), parts_canon]
  exact ldCol D inb
end

/-! ## The rows' values -/

section
variable (I : In) (b s0 : ℕ)

/-- The second norm's normalised rows. -/
def n2 (b s c : ℕ) : ℝ := nrm (y2 I b s) c
/-- The first norm's normalised rows. -/
def n1 (b s c : ℕ) : ℝ := nrm (y1 I b s) c
/-- The scaled error under the second norm's weight. -/
def dzg (b s c : ℕ) : ℝ := dz I b s c * I.g2 c

abbrev B1024 := (S256x1024.Idx → EReal)

theorem t7 : k0_pay7 (F := Ideal) (up2 (tl b s0 (y2 I))) = up2 fun i _ => rstd (y2 I b (s0 + i)) := pay7 _
theorem t8 : k0_pay8 (F := Ideal) (up2 (tl b s0 (y2 I))) = up2 (tl b s0 (n2 I)) := pay8 _
theorem t9 : k0_pay9 (F := Ideal) (up2 fun _ k => I.g2 k) (up2 fun _ k => I.b2 k) (up2 (tl b s0 (n2 I))) (up2 (tl b s0 I.tg))
    = up2 (tl b s0 (diff I)) := pay9 ..
theorem t10 : k0_pay10 (F := Ideal) (up2 fun _ k => I.g2 k) (up2 fun _ k => I.b2 k) (up2 (tl b s0 (n2 I))) (up2 (tl b s0 I.tg))
    = up2 (tl b s0 (dz I)) := pay10 ..
theorem t14 : k0_pay14 (F := Ideal) (up2 fun _ k => I.g2 k) (up2 fun _ k => I.b2 k) (up2 (tl b s0 (n2 I))) (up2 (tl b s0 I.tg))
    = up2 (tl b s0 (dzg I)) := pay14 ..
theorem t15 : k0_pay15 (F := Ideal) (up2 fun _ k => I.g2 k) (up2 fun _ k => I.b2 k) (up2 (tl b s0 (n2 I))) (up2 (tl b s0 I.tg))
    = up2 (fun i _ => ∑ k : Fin 1024, tl b s0 (dzg I) i k) := pay15 ..
theorem t17 : k0_pay17 (F := Ideal) (up2 fun i _ => rstd (y2 I b (s0 + i))) (up2 (tl b s0 (n2 I))) (up2 (tl b s0 (dzg I)))
      (up2 (fun i _ => ∑ k : Fin 1024, tl b s0 (dzg I) i k)) k0_pay16
    = up2 (tl b s0 (dy2 I)) := by rw [pay16]; exact pay17 ..
theorem t19 : k0_pay19 (F := Ideal) (up2 fun i _ => rstd (y2 I b (s0 + i))) (up2 (tl b s0 (n2 I))) (up2 (tl b s0 (dzg I)))
      (up2 (fun i _ => ∑ k : Fin 1024, tl b s0 (dzg I) i k)) k0_pay16 (up3 fun _ _ c => md I 5 b c)
    = up2 (tl b s0 (dff I)) := by rw [pay16]; exact pay19 ..
theorem t30 : k0_pay30 (F := Ideal) (up2 (tl b s0 (y1 I))) = up2 (fun i c => ctr (y1 I b (s0 + i)) c) := pay30 _
theorem t31 : k0_pay31 (F := Ideal) (up2 (tl b s0 (y1 I))) = up2 fun i _ => rstd (y1 I b (s0 + i)) := pay31 _
theorem t32 : k0_pay32 (F := Ideal) (up2 (tl b s0 (y1 I))) = up2 (tl b s0 (n1 I)) := pay32 _
theorem t33 : k0_pay33 (F := Ideal) (up2 fun _ k => I.g1 k) (up2 (tl b s0 (y1 I))) (up2 fun _ k => I.b1 k) = up2 (tl b s0 (x1 I)) := pay33 ..
/-- A part of the hidden layer's gradient. -/
theorem tdu (o : ℕ) : k0_pay22 (F := Ideal) (up2 (tl b s0 (dff I))) (up3 fun _ r e => I.wd (o + r) e) (up2 fun i c => tl b s0 (u I) i (o + c))
    = up2 (fun i c => tl b s0 (du I) i (o + c)) := pay22 ..
theorem tdu21 (o : ℕ) : k0_pay21 (F := Ideal) (k0_pay20 (up2 fun i _ => rstd (y2 I b (s0 + i))) (up2 (tl b s0 (n2 I))) (up2 (tl b s0 (dzg I)))
      (up2 (fun i _ => ∑ k : Fin 1024, tl b s0 (dzg I) i k)) k0_pay16 (up3 fun _ _ c => md I 5 b c) (up3 fun _ r e => I.wd (o + r) e)) (up2 fun i c => tl b s0 (u I) i (o + c))
    = up2 (fun i c => tl b s0 (du I) i (o + c)) := by rw [pay16, pay20]; exact pay21 ..
theorem tdu27 (o : ℕ) : k0_pay27 (F := Ideal) (k0_pay26 (up2 (tl b s0 (dff I))) (up3 fun _ r e => I.wd (o + r) e)) (up2 fun i c => tl b s0 (u I) i (o + c))
    = up2 (fun i c => tl b s0 (du I) i (o + c)) := by rw [pay26]; exact pay27 ..
theorem tdu23 (o : ℕ) : k0_pay23 (F := Ideal) (up2 (tl b s0 (dff I))) (up3 fun _ r e => I.wd (o + r) e) (up2 fun i c => tl b s0 (u I) i (o + c))
    = up2 (fun i c => tl b s0 (du I) i (o + c)) := pay22 ..
theorem tdu24 (o : ℕ) : k0_pay24 (F := Ideal) (up2 (tl b s0 (dff I))) (up3 fun _ r e => I.wd (o + r) e) (up2 fun i c => tl b s0 (u I) i (o + c))
    = up2 (fun i c => tl b s0 (du I) i (o + c)) := pay22 ..
theorem tdu25 (o : ℕ) : k0_pay25 (F := Ideal) (up2 (tl b s0 (dff I))) (up3 fun _ r e => I.wd (o + r) e) (up2 fun i c => tl b s0 (u I) i (o + c))
    = up2 (fun i c => tl b s0 (du I) i (o + c)) := pay22 ..
theorem tdu28 (o : ℕ) : k0_pay28 (F := Ideal) (up2 (tl b s0 (dff I))) (up3 fun _ r e => I.wd (o + r) e) (up2 fun i c => tl b s0 (u I) i (o + c))
    = up2 (fun i c => tl b s0 (du I) i (o + c)) := pay22 ..
theorem tdu29 (o : ℕ) : k0_pay29 (F := Ideal) (up2 (tl b s0 (dff I))) (up3 fun _ r e => I.wd (o + r) e) (up2 fun i c => tl b s0 (u I) i (o + c))
    = up2 (fun i c => tl b s0 (du I) i (o + c)) := pay22 ..

/-- A sum over the hidden units, a quarter at a time. -/
theorem sum4 (f : ℕ → ℝ) : ∑ e : Fin 4096, f e
    = (∑ k : Fin 1024, f (0 + k)) + (∑ k : Fin 1024, f (1024 + k)) + (∑ k : Fin 1024, f (2048 + k)) + ∑ k : Fin 1024, f (3072 + k) := by
  simp only [Fin.sum_univ_eq_sum_range (fun k => f k), Fin.sum_univ_eq_sum_range (fun k => f (0 + k)), Fin.sum_univ_eq_sum_range (fun k => f (1024 + k)),
    Fin.sum_univ_eq_sum_range (fun k => f (2048 + k)), Fin.sum_univ_eq_sum_range (fun k => f (3072 + k))]
  rw [show (4096 : ℕ) = 1024 + 1024 + 1024 + 1024 from rfl, Finset.sum_range_add, Finset.sum_range_add, Finset.sum_range_add]
  simp only [Nat.zero_add]

theorem dhrow (i c : ℕ) :
    (if c < 512 then (∑ k : Fin 1024, tl b s0 (du I) i (0 + k) * I.wu (0 % 2 * 512 + c) (0 / 2 * 1024 + k))
        + (∑ k : Fin 1024, tl b s0 (du I) i (1024 + k) * I.wu (2 % 2 * 512 + c) (2 / 2 * 1024 + k))
        + (∑ k : Fin 1024, tl b s0 (du I) i (2048 + k) * I.wu (4 % 2 * 512 + c) (4 / 2 * 1024 + k))
        + (∑ k : Fin 1024, tl b s0 (du I) i (3072 + k) * I.wu (6 % 2 * 512 + c) (6 / 2 * 1024 + k))
      else (∑ k : Fin 1024, tl b s0 (du I) i (0 + k) * I.wu (1 % 2 * 512 + (c - 512)) (1 / 2 * 1024 + k))
        + (∑ k : Fin 1024, tl b s0 (du I) i (1024 + k) * I.wu (3 % 2 * 512 + (c - 512)) (3 / 2 * 1024 + k))
        + (∑ k : Fin 1024, tl b s0 (du I) i (2048 + k) * I.wu (5 % 2 * 512 + (c - 512)) (5 / 2 * 1024 + k))
        + (∑ k : Fin 1024, tl b s0 (du I) i (3072 + k) * I.wu (7 % 2 * 512 + (c - 512)) (7 / 2 * 1024 + k)))
    = tl b s0 (dh2 I) i c := by
  refine Eq.trans ?_ (sum4 fun e => du I b (s0 + i) e * I.wu c e).symm
  split_ifs with h
  · simp only [tl, show (0 % 2 * 512 + c) = c by omega, show (2 % 2 * 512 + c) = c by omega, show (4 % 2 * 512 + c) = c by omega, show (6 % 2 * 512 + c) = c by omega]
  · simp only [tl, show (1 % 2 * 512 + (c - 512)) = c by omega, show (3 % 2 * 512 + (c - 512)) = c by omega, show (5 % 2 * 512 + (c - 512)) = c by omega, show (7 % 2 * 512 + (c - 512)) = c by omega]

theorem t39 : k0_pay39 (F := Ideal)
      (k0_pay36
        (k0_pay34 (up2 fun i c => tl b s0 (du I) i (0 + c)) (up3 fun _ r e => I.wu (0 % 2 * 512 + r) (0 / 2 * 1024 + e)))
        (k0_pay35 (up2 fun i c => tl b s0 (du I) i (1024 + c))) (up3 fun _ r e => I.wu (2 % 2 * 512 + r) (2 / 2 * 1024 + e))
        (up2 fun i c => tl b s0 (du I) i (2048 + c)) (up3 fun _ r e => I.wu (4 % 2 * 512 + r) (4 / 2 * 1024 + e))
        (up2 fun i c => tl b s0 (du I) i (3072 + c)) (up3 fun _ r e => I.wu (6 % 2 * 512 + r) (6 / 2 * 1024 + e)))
      (k0_pay37 (up2 fun i c => tl b s0 (du I) i (0 + c)) (up3 fun _ r e => I.wu (1 % 2 * 512 + r) (1 / 2 * 1024 + e))
        (up2 fun i c => tl b s0 (du I) i (1024 + c)) (up3 fun _ r e => I.wu (3 % 2 * 512 + r) (3 / 2 * 1024 + e)))
      (k0_pay38 (up2 fun i c => tl b s0 (du I) i (2048 + c))) (up3 fun _ r e => I.wu (5 % 2 * 512 + r) (5 / 2 * 1024 + e))
      (up2 fun i c => tl b s0 (du I) i (3072 + c)) (up3 fun _ r e => I.wu (7 % 2 * 512 + r) (7 / 2 * 1024 + e))
    = up2 (tl b s0 (dh2 I)) := by
  rw [pay34, pay35, pay36, pay37, pay38, pay39]
  exact up2_congr fun i _ c _ => dhrow I b s0 i c

theorem t40 (v : ℕ → ℕ → ℕ → ℝ) : k0_pay40 (F := Ideal)
      (k0_pay36
        (k0_pay34 (up2 fun i c => tl b s0 (du I) i (0 + c)) (up3 fun _ r e => I.wu (0 % 2 * 512 + r) (0 / 2 * 1024 + e)))
        (k0_pay35 (up2 fun i c => tl b s0 (du I) i (1024 + c))) (up3 fun _ r e => I.wu (2 % 2 * 512 + r) (2 / 2 * 1024 + e))
        (up2 fun i c => tl b s0 (du I) i (2048 + c)) (up3 fun _ r e => I.wu (4 % 2 * 512 + r) (4 / 2 * 1024 + e))
        (up2 fun i c => tl b s0 (du I) i (3072 + c)) (up3 fun _ r e => I.wu (6 % 2 * 512 + r) (6 / 2 * 1024 + e)))
      (k0_pay37 (up2 fun i c => tl b s0 (du I) i (0 + c)) (up3 fun _ r e => I.wu (1 % 2 * 512 + r) (1 / 2 * 1024 + e))
        (up2 fun i c => tl b s0 (du I) i (1024 + c)) (up3 fun _ r e => I.wu (3 % 2 * 512 + r) (3 / 2 * 1024 + e)))
      (k0_pay38 (up2 fun i c => tl b s0 (du I) i (2048 + c))) (up3 fun _ r e => I.wu (5 % 2 * 512 + r) (5 / 2 * 1024 + e))
      (up2 fun i c => tl b s0 (du I) i (3072 + c)) (up3 fun _ r e => I.wu (7 % 2 * 512 + r) (7 / 2 * 1024 + e)) (up3 v)
    = up3 fun _ _ c => v 0 0 c + ∑ i : Fin 256, tl b s0 (dh2 I) i c := by
  rw [pay34, pay35, pay36, pay37, pay38, pay40]
  refine up3_congr fun _ _ _ _ c hc => congrArg (v 0 0 c + ·) (Finset.sum_congr rfl fun i _ => ?_)
  exact dhrow I b s0 i c

theorem t41 (x : ℕ → ℕ → ℝ) (v : ℕ → ℕ → ℕ → ℝ) : k0_pay41 (F := Ideal) (up2 x)
      (k0_pay36
        (k0_pay34 (up2 fun i c => tl b s0 (du I) i (0 + c)) (up3 fun _ r e => I.wu (0 % 2 * 512 + r) (0 / 2 * 1024 + e)))
        (k0_pay35 (up2 fun i c => tl b s0 (du I) i (1024 + c))) (up3 fun _ r e => I.wu (2 % 2 * 512 + r) (2 / 2 * 1024 + e))
        (up2 fun i c => tl b s0 (du I) i (2048 + c)) (up3 fun _ r e => I.wu (4 % 2 * 512 + r) (4 / 2 * 1024 + e))
        (up2 fun i c => tl b s0 (du I) i (3072 + c)) (up3 fun _ r e => I.wu (6 % 2 * 512 + r) (6 / 2 * 1024 + e)))
      (k0_pay37 (up2 fun i c => tl b s0 (du I) i (0 + c)) (up3 fun _ r e => I.wu (1 % 2 * 512 + r) (1 / 2 * 1024 + e))
        (up2 fun i c => tl b s0 (du I) i (1024 + c)) (up3 fun _ r e => I.wu (3 % 2 * 512 + r) (3 / 2 * 1024 + e)))
      (k0_pay38 (up2 fun i c => tl b s0 (du I) i (2048 + c))) (up3 fun _ r e => I.wu (5 % 2 * 512 + r) (5 / 2 * 1024 + e))
      (up2 fun i c => tl b s0 (du I) i (3072 + c)) (up3 fun _ r e => I.wu (7 % 2 * 512 + r) (7 / 2 * 1024 + e)) (up3 v)
    = up3 fun _ _ c => v 0 0 c + ∑ i : Fin 256, tl b s0 (dh2 I) i c * x i c := by
  rw [pay34, pay35, pay36, pay37, pay38, pay41]
  refine up3_congr fun _ _ _ _ c hc => congrArg (v 0 0 c + ·) (Finset.sum_congr rfl fun i _ => congrArg (· * x i c) ?_)
  exact dhrow I b s0 i c

theorem t47 : k0_pay47 (F := Ideal) (up2 fun _ k => I.g1 k) (up2 fun i _ => rstd (y1 I b (s0 + i))) (up2 (tl b s0 (n1 I))) (up2 (tl b s0 (dh2 I)))
      (k0_pay42 (up2 (tl b s0 (dy2 I)))) (k0_pay43 (up3 fun _ _ c => md I 4 b c))
    = up2 (tl b s0 (dy1 I)) := by rw [pay42, pay43]; exact pay47 ..
theorem t2 : k0_pay2 (F := Ideal) (up2 (tl b s0 (dy1 I))) (up3 fun _ _ c => md I 2 b c) = up2 (tl b s0 (dmix I)) := pay2 ..
theorem t3 : k0_pay3 (F := Ideal) (up2 (tl b s0 (dy1 I))) (up3 fun _ _ c => md I 2 b c) (up2 I.wo) = up2 (tl b s0 (dat I)) := pay3 ..

theorem mrow2 (b c : ℕ) : mrow I b 2 c = md I 2 b c := rfl
theorem mrow3 (b c : ℕ) : mrow I b 3 c = md I 3 b c := rfl
theorem mrow4 (b c : ℕ) : mrow I b 4 c = md I 4 b c := rfl
theorem mrow5 (b c : ℕ) : mrow I b 5 c = md I 5 b c := rfl
end

end Cert.Tile

end
-- ==== Proof.Up.Acc.lean ====
module
public import proofs.«01_k».proof.Proof.Up.Tile
public import Idealize.ShloMosaic.Lib.WritesUnit
@[expose] public section
set_option maxRecDepth 16384
noncomputable section
/-! The running sums: rows stored over what the window held. -/
namespace Cert.Acc
open Cert.KernelIdeal Cert.KernelIdeal.Gen Idealize.ShloMosaic Idealize.ShloMosaic.TcCoe Idealize.SL.Sem
open Cert.Up Cert.Spec Cert.Tile

/-- `A` with row `k` set to `B`. -/
def upd (A : ℕ → ℕ → ℝ) (k : ℕ) (B : ℕ → ℝ) (r c : ℕ) : ℝ := if r = k then B c else A r c

section
variable {sp : Space} {κ : Kind} {sg : RefSig}

/-- A row stored over a block of rows. -/
theorem wr2 {v : View sg κ sp S8x1024 .f32} {f : v.ty.Contents (Elt Ideal)} {L : List (View.Piece (Elt Ideal) S8x1024 .f32)} {A : ℕ → ℕ → ℝ}
    {k : ℕ} {inb : ∀ a, (![k, 0] : Fin 2 → ℕ) a + (![1, 1024] : Fin 2 → ℕ) a ≤ S8x1024.size a} {B : ℕ → ℕ → ℝ}
    (h : v.read (Elt Ideal) (v.writes (Elt Ideal) f L) = (up2 A : S8x1024.Idx → EReal)) :
    v.read (Elt Ideal) (v.writes (Elt Ideal) f (⟨Rect.unit ![k, 0] ![1, 1024] inb, (up2 B : S1x1024.Idx → EReal)⟩ :: L))
      = (up2 (upd A k (B 0)) : S8x1024.Idx → EReal) := by
  funext y
  have hy : (y 1).val < 1024 := (y 1).isLt
  by_cases hk : (y 0).val = k
  · refine (View.read_writes_cons_unit_of_mem v f inb _ L y (fun | ⟨0, _⟩ => ⟨0, Nat.one_pos⟩ | ⟨1, _⟩ => ⟨(y 1).val, hy⟩ : S1x1024.Idx) rfl ?_).trans ?_
    · intro a
      match a with
      | ⟨0, _⟩ => exact hk
      | ⟨1, _⟩ => exact (Nat.zero_add _).symm
    · show ((B 0 (y 1).val : ℝ) : EReal) = ((upd A k (B 0) (y 0).val (y 1).val : ℝ) : EReal)
      rw [upd, if_pos hk]
  · refine (View.read_writes_cons_unit_of_not_mem v f inb _ L y rfl 0 ?_).trans ?_
    · show (y 0).val < k ∨ k + 1 ≤ (y 0).val
      omega
    · rw [h]
      show ((A (y 0).val (y 1).val : ℝ) : EReal) = ((upd A k (B 0) (y 0).val (y 1).val : ℝ) : EReal)
      rw [upd, if_neg hk]

theorem wr3 {v : View sg κ sp S1x8x1024 .f32} {f : v.ty.Contents (Elt Ideal)} {L : List (View.Piece (Elt Ideal) S1x8x1024 .f32)} {A : ℕ → ℕ → ℝ}
    {k : ℕ} {inb : ∀ a, (![0, k, 0] : Fin 3 → ℕ) a + (![1, 1, 1024] : Fin 3 → ℕ) a ≤ S1x8x1024.size a} {B : ℕ → ℕ → ℕ → ℝ}
    (h : v.read (Elt Ideal) (v.writes (Elt Ideal) f L) = (up3 (fun _ => A) : S1x8x1024.Idx → EReal)) :
    v.read (Elt Ideal) (v.writes (Elt Ideal) f (⟨Rect.unit ![0, k, 0] ![1, 1, 1024] inb, (up3 B : S1x1x1024.Idx → EReal)⟩ :: L))
      = (up3 (fun _ => upd A k (B 0 0)) : S1x8x1024.Idx → EReal) := by
  funext y
  have hy : (y 2).val < 1024 := (y 2).isLt
  have hz : (y 0).val < 1 := (y 0).isLt
  by_cases hk : (y 1).val = k
  · refine (View.read_writes_cons_unit_of_mem v f inb _ L y (fun | ⟨0, _⟩ => ⟨0, Nat.one_pos⟩ | ⟨1, _⟩ => ⟨0, Nat.one_pos⟩ | ⟨2, _⟩ => ⟨(y 2).val, hy⟩ : S1x1x1024.Idx) rfl ?_).trans ?_
    · intro a
      match a with
      | ⟨0, _⟩ => show (y 0).val = 0 + 0; omega
      | ⟨1, _⟩ => exact hk
      | ⟨2, _⟩ => exact (Nat.zero_add _).symm
    · show ((B 0 0 (y 2).val : ℝ) : EReal) = ((upd A k (B 0 0) (y 1).val (y 2).val : ℝ) : EReal)
      rw [upd, if_pos hk]
  · refine (View.read_writes_cons_unit_of_not_mem v f inb _ L y rfl 1 ?_).trans ?_
    · show (y 1).val < k ∨ k + 1 ≤ (y 1).val
      omega
    · rw [h]
      show ((A (y 1).val (y 2).val : ℝ) : EReal) = ((upd A k (B 0 0) (y 1).val (y 2).val : ℝ) : EReal)
      rw [upd, if_neg hk]

/-- A row read after another row was stored. -/
theorem rd2 (v : View sg κ sp S8x1024 .f32) {k k' : ℕ} (h : k' ≠ k) (L : List (View.Piece (Elt Ideal) S8x1024 .f32))
    (inb : ∀ a, (![k, 0] : Fin 2 → ℕ) a + (![1, 1024] : Fin 2 → ℕ) a ≤ S8x1024.size a)
    (inb' : ∀ a, (![k', 0] : Fin 2 → ℕ) a + (![1, 1024] : Fin 2 → ℕ) a ≤ S8x1024.size a) (w : S1x1024.Idx → EReal) :
    v.readCov (Val := Elt Ideal) (⟨Rect.unit ![k', 0] ![1, 1024] inb', w⟩ :: L) (Rect.unit ![k, 0] ![1, 1024] inb).toLoadRect
      = v.readCov (Val := Elt Ideal) L (Rect.unit ![k, 0] ![1, 1024] inb).toLoadRect := by
  rw [View.readCov_eq_canon', View.readCov_eq_canon']
  funext j
  refine View.canon_cons_of_not_mem _ L fun hm => ?_
  have h0 := (Rect.mem_set_unit (s := S8x1024) (off := ![k', 0]) (size := ![1, 1024]) (inb := inb')).mp hm 0
  have hj : (j 0).val < 1 := (j 0).isLt
  have h1 : k' ≤ k + 1 * (j 0).val ∧ k + 1 * (j 0).val < k' + 1 := h0
  omega

theorem rd3 (v : View sg κ sp S1x8x1024 .f32) {k k' : ℕ} (h : k' ≠ k) (L : List (View.Piece (Elt Ideal) S1x8x1024 .f32))
    (inb : ∀ a, (![0, k, 0] : Fin 3 → ℕ) a + (![1, 1, 1024] : Fin 3 → ℕ) a ≤ S1x8x1024.size a)
    (inb' : ∀ a, (![0, k', 0] : Fin 3 → ℕ) a + (![1, 1, 1024] : Fin 3 → ℕ) a ≤ S1x8x1024.size a) (w : S1x1x1024.Idx → EReal) :
    v.readCov (Val := Elt Ideal) (⟨Rect.unit ![0, k', 0] ![1, 1, 1024] inb', w⟩ :: L) (Rect.unit ![0, k, 0] ![1, 1, 1024] inb).toLoadRect
      = v.readCov (Val := Elt Ideal) L (Rect.unit ![0, k, 0] ![1, 1, 1024] inb).toLoadRect := by
  rw [View.readCov_eq_canon', View.readCov_eq_canon']
  funext j
  refine View.canon_cons_of_not_mem _ L fun hm => ?_
  have h0 := (Rect.mem_set_unit (s := S1x8x1024) (off := ![0, k', 0]) (size := ![1, 1, 1024]) (inb := inb')).mp hm 1
  have hj : (j 1).val < 1 := (j 1).isLt
  have h1 : k' ≤ k + 1 * (j 1).val ∧ k + 1 * (j 1).val < k' + 1 := h0
  omega

/-- A row read after the whole block was cleared. -/
theorem rz2 (v : View sg κ sp S8x1024 .f32) {k : ℕ}
    (inb : ∀ a, (![k, 0] : Fin 2 → ℕ) a + (![1, 1024] : Fin 2 → ℕ) a ≤ S8x1024.size a)
    (inb' : ∀ a, (![0, 0] : Fin 2 → ℕ) a + (![8, 1024] : Fin 2 → ℕ) a ≤ S8x1024.size a) :
    v.readCov (Val := Elt Ideal) [⟨Rect.unit ![0, 0] ![8, 1024] inb', k0_pay4 (F := Ideal)⟩] (Rect.unit ![k, 0] ![1, 1024] inb).toLoadRect
      = (up2 fun _ _ => 0 : S1x1024.Idx → EReal) := by
  rw [View.readCov_eq_canon', pay4]
  funext j
  refine View.canon_apply_of_pieces (Val := Elt Ideal) (e := .f32) (up2 (fun _ _ => 0) : S8x1024.Idx → EReal) _ ?_ _ ⟨_, List.Mem.head _, ?_⟩
  · intro p hp
    obtain rfl := List.mem_singleton.mp hp
    exact fun _ => rfl
  · rw [Rect.mem_set_unit]
    intro a
    match a with
    | ⟨0, _⟩ => exact ⟨Nat.zero_le _, (Fin.isLt _ : _ < 8)⟩
    | ⟨1, _⟩ => exact ⟨Nat.zero_le _, (Fin.isLt _ : _ < 1024)⟩

theorem rz3 (v : View sg κ sp S1x8x1024 .f32) {k : ℕ}
    (inb : ∀ a, (![0, k, 0] : Fin 3 → ℕ) a + (![1, 1, 1024] : Fin 3 → ℕ) a ≤ S1x8x1024.size a)
    (inb' : ∀ a, (![0, 0, 0] : Fin 3 → ℕ) a + (![1, 8, 1024] : Fin 3 → ℕ) a ≤ S1x8x1024.size a) :
    v.readCov (Val := Elt Ideal) [⟨Rect.unit ![0, 0, 0] ![1, 8, 1024] inb', k0_pay5 (F := Ideal)⟩] (Rect.unit ![0, k, 0] ![1, 1, 1024] inb).toLoadRect
      = (up3 fun _ _ _ => 0 : S1x1x1024.Idx → EReal) := by
  rw [View.readCov_eq_canon', pay5]
  funext j
  refine View.canon_apply_of_pieces (Val := Elt Ideal) (e := .f32) (up3 (fun _ _ _ => 0) : S1x8x1024.Idx → EReal) _ ?_ _ ⟨_, List.Mem.head _, ?_⟩
  · intro p hp
    obtain rfl := List.mem_singleton.mp hp
    exact fun _ => rfl
  · rw [Rect.mem_set_unit]
    intro a
    match a with
    | ⟨0, _⟩ => exact ⟨Nat.zero_le _, (Fin.isLt _ : _ < 1)⟩
    | ⟨1, _⟩ => exact ⟨Nat.zero_le _, (Fin.isLt _ : _ < 8)⟩
    | ⟨2, _⟩ => exact ⟨Nat.zero_le _, (Fin.isLt _ : _ < 1024)⟩

/-- A row stored over the rows stored before it. -/
theorem cn2 {L : List (View.Piece (Elt Ideal) S8x1024 .f32)} {A : ℕ → ℕ → ℝ}
    {k : ℕ} {inb : ∀ a, (![k, 0] : Fin 2 → ℕ) a + (![1, 1024] : Fin 2 → ℕ) a ≤ S8x1024.size a} {B : ℕ → ℕ → ℝ}
    (v : View sg κ sp S8x1024 .f32) (h : View.canon L = (up2 A : S8x1024.Idx → EReal)) :
    View.canon (⟨Rect.unit ![k, 0] ![1, 1024] inb, (up2 B : S1x1024.Idx → EReal)⟩ :: L)
      = (up2 (upd A k (B 0)) : S8x1024.Idx → EReal) := by
  rw [← View.read_writes_junk_eq_canon v] at h ⊢
  exact wr2 h

theorem cn3 {L : List (View.Piece (Elt Ideal) S1x8x1024 .f32)} {A : ℕ → ℕ → ℝ}
    {k : ℕ} {inb : ∀ a, (![0, k, 0] : Fin 3 → ℕ) a + (![1, 1, 1024] : Fin 3 → ℕ) a ≤ S1x8x1024.size a} {B : ℕ → ℕ → ℕ → ℝ}
    (v : View sg κ sp S1x8x1024 .f32) (h : View.canon L = (up3 (fun _ => A) : S1x8x1024.Idx → EReal)) :
    View.canon (⟨Rect.unit ![0, k, 0] ![1, 1, 1024] inb, (up3 B : S1x1x1024.Idx → EReal)⟩ :: L)
      = (up3 (fun _ => upd A k (B 0 0)) : S1x8x1024.Idx → EReal) := by
  rw [← View.read_writes_junk_eq_canon v] at h ⊢
  exact wr3 h

theorem cz2 (v : View sg κ sp S8x1024 .f32)
    (inb' : ∀ a, (![0, 0] : Fin 2 → ℕ) a + (![8, 1024] : Fin 2 → ℕ) a ≤ S8x1024.size a) :
    View.canon (Val := Elt Ideal) (e := .f32) [⟨Rect.unit ![0, 0] ![8, 1024] inb', k0_pay4 (F := Ideal)⟩] = (up2 fun _ _ => 0 : S8x1024.Idx → EReal) := by
  rw [← View.read_writes_junk_eq_canon v, pay4]
  funext y
  refine View.read_writes_cons_unit_of_mem v _ inb' _ _ y y rfl ?_
  intro a
  match a with
  | ⟨0, _⟩ => exact (Nat.zero_add _).symm
  | ⟨1, _⟩ => exact (Nat.zero_add _).symm

theorem cz3 (v : View sg κ sp S1x8x1024 .f32)
    (inb' : ∀ a, (![0, 0, 0] : Fin 3 → ℕ) a + (![1, 8, 1024] : Fin 3 → ℕ) a ≤ S1x8x1024.size a) :
    View.canon (Val := Elt Ideal) (e := .f32) [⟨Rect.unit ![0, 0, 0] ![1, 8, 1024] inb', k0_pay5 (F := Ideal)⟩] = (up3 fun _ _ _ => 0 : S1x8x1024.Idx → EReal) := by
  rw [← View.read_writes_junk_eq_canon v, pay5]
  funext y
  refine View.read_writes_cons_unit_of_mem v _ inb' _ _ y y rfl ?_
  intro a
  match a with
  | ⟨0, _⟩ => exact (Nat.zero_add _).symm
  | ⟨1, _⟩ => exact (Nat.zero_add _).symm
  | ⟨2, _⟩ => exact (Nat.zero_add _).symm
end

/-! ## Each row's addition -/

section
variable (I : In) (b s0 : ℕ)

/-- What 256 positions give to a row of the running sums. -/
def sa (r c : ℕ) : ℝ := ∑ i : Fin 256, qa I r b (s0 + i) c
/-- What 256 positions give to a row of the modulation gradient. -/
def sd (r c : ℕ) : ℝ := ∑ i : Fin 256, qd I r b (s0 + i) c

theorem t11 (a : ℕ → ℕ → ℝ) : k0_pay11 (F := Ideal) (up2 fun _ k => I.g2 k) (up2 fun _ k => I.b2 k) (up2 (tl b s0 (n2 I))) (up2 (tl b s0 I.tg)) (up2 a)
    = up2 fun _ c => a 0 c + sa I b s0 0 c := pay11 ..
theorem t12 (a : ℕ → ℕ → ℝ) : k0_pay12 (F := Ideal) (up2 fun _ k => I.g2 k) (up2 fun _ k => I.b2 k) (up2 (tl b s0 (n2 I))) (up2 (tl b s0 I.tg)) (up2 a)
    = up2 fun _ c => a 0 c + sa I b s0 1 c := pay12 ..
theorem t13 (a : ℕ → ℕ → ℝ) : k0_pay13 (F := Ideal) (up2 fun _ k => I.g2 k) (up2 fun _ k => I.b2 k) (up2 (tl b s0 (n2 I))) (up2 (tl b s0 I.tg)) (up2 a)
    = up2 fun _ c => a 0 c + sa I b s0 2 c := by
  rw [pay13]
  refine up2_congr fun _ _ c _ => ?_
  rw [Finset.sum_mul]
  rfl
theorem t45 (a : ℕ → ℕ → ℝ) : k0_pay45 (F := Ideal) (up2 (tl b s0 (n1 I))) (up2 (tl b s0 (dh2 I))) (k0_pay42 (up2 (tl b s0 (dy2 I)))) (k0_pay43 (up3 fun _ _ c => md I 4 b c)) (up2 a)
    = up2 fun _ c => a 0 c + sa I b s0 3 c := by rw [pay42, pay43]; exact pay45 ..
theorem t46 (a : ℕ → ℕ → ℝ) : k0_pay46 (F := Ideal) (up2 (tl b s0 (dh2 I))) (k0_pay42 (up2 (tl b s0 (dy2 I)))) (k0_pay43 (up3 fun _ _ c => md I 4 b c)) (up2 a)
    = up2 fun _ c => a 0 c + sa I b s0 4 c := by rw [pay42, pay43]; exact pay46 ..
theorem t18 (v : ℕ → ℕ → ℕ → ℝ) : k0_pay18 (F := Ideal) (up2 fun i _ => rstd (y2 I b (s0 + i))) (up2 (tl b s0 (n2 I))) (up2 (tl b s0 (dzg I)))
      (up2 fun i _ => ∑ k : Fin 1024, tl b s0 (dzg I) i k) k0_pay16 (up3 v) (up2 (tl b s0 (ff I)))
    = up3 fun _ _ c => v 0 0 c + sd I b s0 5 c := by rw [pay16]; exact pay18 ..
theorem t1 (v : ℕ → ℕ → ℕ → ℝ) : k0_pay1 (F := Ideal) (up2 (tl b s0 (dy1 I))) (up3 v) (up2 (tl b s0 (mix I)))
    = up3 fun _ _ c => v 0 0 c + sd I b s0 2 c := pay1 ..

/-- The five rows stored, every row has had its addition. -/
theorem all5 (A : ℕ → ℕ → ℝ) :
    upd (upd (upd (upd (upd A 0 fun c => A 0 c + sa I b s0 0 c) 1 fun c => A 1 c + sa I b s0 1 c) 2 fun c => A 2 c + sa I b s0 2 c) 3 fun c => A 3 c + sa I b s0 3 c) 4
      (fun c => A 4 c + sa I b s0 4 c) = fun r c => A r c + sa I b s0 r c := by
  funext r c
  unfold upd
  split_ifs with h4 h3 h2 h1 h0
  · rw [h4]
  · rw [h3]
  · rw [h2]
  · rw [h1]
  · rw [h0]
  · have : sa I b s0 r c = 0 := Finset.sum_eq_zero fun i _ => by unfold qa; rw [if_neg h0, if_neg h1, if_neg h2, if_neg h3, if_neg h4]
    rw [this, add_zero]

theorem all4 (A : ℕ → ℕ → ℝ) :
    upd (upd (upd (upd A 5 fun c => A 5 c + sd I b s0 5 c) 3 fun c => A 3 c + sd I b s0 3 c) 4 fun c => A 4 c + sd I b s0 4 c) 2
      (fun c => A 2 c + sd I b s0 2 c) = fun r c => A r c + sd I b s0 r c := by
  funext r c
  unfold upd
  split_ifs with h2 h4 h3 h5
  · rw [h2]
  · rw [h4]
  · rw [h3]
  · rw [h5]
  · have : sd I b s0 r c = 0 := Finset.sum_eq_zero fun i _ => by unfold qd; rw [if_neg h2, if_neg h3, if_neg h4, if_neg h5]
    rw [this, add_zero]
end

end Cert.Acc
end
-- ==== Proof.Up.HostEq.lean ====
/- Each operation of the host program before the kernel read once, over what that program leaves in its buffers. -/
module

public import proofs.«01_k».proof.Proof.Gen.KernelIdeal.Launch
public import Idealize.ShloMosaic.Lib.StableHlo.RunRead

@[expose] public section

set_option maxRecDepth 16384

noncomputable section

namespace Cert.HostEq

open Cert.KernelIdeal Cert.KernelIdeal.Gen Idealize.ShloMosaic Idealize.ShloMosaic.TcCoe Idealize.SL.Sem
open StableHlo

variable {F : FTy → Type} [FloatOps F]

/-- What the host operations write, in order. -/
def outs : List (Ref sig .tc) := [main_v0, main_cst, main_v1, main_cst_0, main_v2, main_v3, main_v4, main_cst_1, main_v5, main_v6, main_v7, main_v8, main_v9, main_v10, main_cst_2, main_v11, main_v12, main_cst_3, main_v13, main_v14, main_v15, main_v16, main_v17, main_cst_4, main_v18, main_v19, main_cst_5, main_v20, main_v21, main_cst_6, main_v22, main_v23, main_v24, main_v25, main_v26, main_v27, main_v28, main_v29, main_v30, main_v31, main_v32, main_v33, main_v34, main_v35, main_v36, main_v37, main_cst_7, main_v38, main_v39, main_v40, main_v41, main_cst_8, main_v42, main_v43, main_v44, main_v45, main_v46, main_v47, main_v48, main_v49, main_v50, main_v51, main_v52, main_v53, main_v54, main_v55, main_v56, main_v57, main_v58, main_v59, main_v60, main_v61, main_v62, main_v63]

theorem writes_eq : (hostOps0 : List (HloOp τ sig (Elt F))).map HloOp.writes = outs.map fun w => {Proc.devRef (τ := τ) .tc w} := rfl

/-- A buffer not written from operation `i` on holds at the end what it held before operation `i`. -/
theorem upto_after (W : Valuation τ sig (Elt F)) (i : ℕ) {a : Ref sig .tc} (h : a ∉ outs.drop i) :
    upto hostOps0 W i (Proc.devRef .tc a) = after hostOps0 W (Proc.devRef .tc a) := by
  have e : after hostOps0 W = after ((hostOps0 (F := F)).drop i) (upto hostOps0 W i) := by
    have gen : ∀ (l₁ l₂ : List (HloOp τ sig (Elt F))) (V : Valuation τ sig (Elt F)), after (l₁ ++ l₂) V = after l₂ (after l₁ V) := by
      intro l₁
      induction l₁ with
      | nil => intro l₂ V; rfl
      | cons op l ih => intro l₂ V; exact ih _ _
    have := gen ((hostOps0 (F := F)).take i) ((hostOps0 (F := F)).drop i) W
    rwa [List.take_append_drop] at this
  rw [e, after_unwritten (outs.drop i) (by rw [List.map_drop, writes_eq, List.map_drop]) h]

/-- The buffer operation `i` writes last holds its result. -/
theorem last (W : Valuation τ sig (Elt F)) (i : ℕ) {op : HloOp τ sig (Elt F)} {rest : List (HloOp τ sig (Elt F))} {r : Ref sig .tc}
    (hseg : (hostOps0 (F := F)).drop i = op :: rest) (h : r ∉ outs.drop (i + 1)) :
    after hostOps0 W (Proc.devRef .tc r) = op.result (upto hostOps0 W i) (Proc.devRef .tc r) := by
  refine after_last_write (outs.drop (i + 1)) hseg ?_ h W
  have : rest = (hostOps0 (F := F)).drop (i + 1) := by rw [← List.drop_drop, hseg]; rfl
  rw [this, List.map_drop, writes_eq, List.map_drop]

variable (W : Valuation τ sig (Elt F))

theorem e_v0 : after hostOps0 W (Proc.devRef .tc main_v0) = shapeCast S4x6x1024 (after hostOps0 W (Proc.devRef .tc main_arg2)) shapeCasts_S4x6144_S4x6x1024 := by
  refine (last W 0 rfl (by decide)).trans ?_
  refine (reshape_result ..).trans ?_
  rw [upto_after W 0 (a := main_arg2) (by decide)]
  rfl

theorem e_cst : after hostOps0 W (Proc.devRef .tc main_cst) = (constant S_ .f32 0x00000000#32) := by
  refine (last W 1 rfl (by decide)).trans ?_
  refine (nullary_result ..).trans ?_
  rfl

theorem e_v1 : after hostOps0 W (Proc.devRef .tc main_v1) = ((fun x v => pad S4x8x1024 ![0, 0, 0] ![0, 2, 0] ![0, 0, 0] x v pads_S4x6x1024_S4x8x1024_000_020_000 h_S_) : (⟨S4x6x1024, .f32⟩ : BufTy).Contents (Elt F) → (⟨S_, .f32⟩ : BufTy).Contents (Elt F) → (⟨S4x8x1024, .f32⟩ : BufTy).Contents (Elt F)) (after hostOps0 W (Proc.devRef .tc main_v0)) (after hostOps0 W (Proc.devRef .tc main_cst)) := by
  refine (last W 2 rfl (by decide)).trans ?_
  refine (binary_result ..).trans ?_
  rw [upto_after W 2 (a := main_v0) (by decide), upto_after W 2 (a := main_cst) (by decide)]

theorem e_cst_0 : after hostOps0 W (Proc.devRef .tc main_cst_0) = (constant S_ .f32 0x3F800000#32) := by
  refine (last W 3 rfl (by decide)).trans ?_
  refine (nullary_result ..).trans ?_
  rfl

theorem e_v2 : after hostOps0 W (Proc.devRef .tc main_v2) = (broadcastInDim S4x8x1024 ![] bcast_S_S4x8x1024 : (⟨S_, .f32⟩ : BufTy).Contents (Elt F) → (⟨S4x8x1024, .f32⟩ : BufTy).Contents (Elt F)) (after hostOps0 W (Proc.devRef .tc main_cst_0)) := by
  refine (last W 4 rfl (by decide)).trans ?_
  refine (unary_result ..).trans ?_
  rw [upto_after W 4 (a := main_cst_0) (by decide)]

theorem e_v3 : after hostOps0 W (Proc.devRef .tc main_v3) = (addf : (⟨S4x8x1024, .f32⟩ : BufTy).Contents (Elt F) → (⟨S4x8x1024, .f32⟩ : BufTy).Contents (Elt F) → (⟨S4x8x1024, .f32⟩ : BufTy).Contents (Elt F)) (after hostOps0 W (Proc.devRef .tc main_v2)) (after hostOps0 W (Proc.devRef .tc main_v1)) := by
  refine (last W 5 rfl (by decide)).trans ?_
  refine (binary_result ..).trans ?_
  rw [upto_after W 5 (a := main_v2) (by decide), upto_after W 5 (a := main_v1) (by decide)]

theorem e_v4 : after hostOps0 W (Proc.devRef .tc main_v4) = ((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)) (after hostOps0 W (Proc.devRef .tc main_arg1)) (after hostOps0 W (Proc.devRef .tc main_arg3)) := by
  refine (last W 6 rfl (by decide)).trans ?_
  refine (binary_result ..).trans ?_
  rw [upto_after W 6 (a := main_arg1) (by decide), upto_after W 6 (a := main_arg3) (by decide)]

theorem e_cst_1 : after hostOps0 W (Proc.devRef .tc main_cst_1) = (constant S_ .f32 0x3F9837F0#32) := by
  refine (last W 7 rfl (by decide)).trans ?_
  refine (nullary_result ..).trans ?_
  rfl

theorem e_v5 : after hostOps0 W (Proc.devRef .tc main_v5) = (broadcastInDim S4x2048x1024 ![] bcast_S_S4x2048x1024 : (⟨S_, .f32⟩ : BufTy).Contents (Elt F) → (⟨S4x2048x1024, .f32⟩ : BufTy).Contents (Elt F)) (after hostOps0 W (Proc.devRef .tc main_cst_1)) := by
  refine (last W 8 rfl (by decide)).trans ?_
  refine (unary_result ..).trans ?_
  rw [upto_after W 8 (a := main_cst_1) (by decide)]

theorem e_v6 : after hostOps0 W (Proc.devRef .tc main_v6) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v5)) (after hostOps0 W (Proc.devRef .tc main_arg0)) := by
  refine (last W 9 rfl (by decide)).trans ?_
  refine (binary_result ..).trans ?_
  rw [upto_after W 9 (a := main_v5) (by decide), upto_after W 9 (a := main_arg0) (by decide)]

theorem e_v7 : after hostOps0 W (Proc.devRef .tc main_v7) = ((extractStridedSlice S4x1x1024 ![0, 2, 0] · slices_S4x8x1024_S4x1x1024_0_2_0) : (⟨S4x8x1024, .f32⟩ : BufTy).Contents (Elt F) → (⟨S4x1x1024, .f32⟩ : BufTy).Contents (Elt F)) (after hostOps0 W (Proc.devRef .tc main_v3)) := by
  refine (last W 10 rfl (by decide)).trans ?_
  refine (unary_result ..).trans ?_
  rw [upto_after W 10 (a := main_v3) (by decide)]

theorem e_v8 : after hostOps0 W (Proc.devRef .tc main_v8) = (broadcastInDim S4x2048x1024 ![0, 1, 2] bcast_S4x1x1024_S4x2048x1024_0_1_2 : (⟨S4x1x1024, .f32⟩ : BufTy).Contents (Elt F) → (⟨S4x2048x1024, .f32⟩ : BufTy).Contents (Elt F)) (after hostOps0 W (Proc.devRef .tc main_v7)) := by
  refine (last W 11 rfl (by decide)).trans ?_
  refine (unary_result ..).trans ?_
  rw [upto_after W 11 (a := main_v7) (by decide)]

theorem e_v9 : after hostOps0 W (Proc.devRef .tc main_v9) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v8)) (after hostOps0 W (Proc.devRef .tc main_v4)) := by
  refine (last W 12 rfl (by decide)).trans ?_
  refine (binary_result ..).trans ?_
  rw [upto_after W 12 (a := main_v8) (by decide), upto_after W 12 (a := main_v4) (by decide)]

theorem e_v10 : after hostOps0 W (Proc.devRef .tc main_v10) = (addf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v6)) (after hostOps0 W (Proc.devRef .tc main_v9)) := by
  refine (last W 13 rfl (by decide)).trans ?_
  refine (binary_result ..).trans ?_
  rw [upto_after W 13 (a := main_v6) (by decide), upto_after W 13 (a := main_v9) (by decide)]

theorem e_cst_2 : after hostOps0 W (Proc.devRef .tc main_cst_2) = (constant S_ .f32 0x00000000#32) := by
  refine (last W 14 rfl (by decide)).trans ?_
  refine (nullary_result ..).trans ?_
  rfl

theorem e_v11 : after hostOps0 W (Proc.devRef .tc main_v11) = ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)) (after hostOps0 W (Proc.devRef .tc main_v10)) (after hostOps0 W (Proc.devRef .tc main_cst_2)) := by
  refine (last W 15 rfl (by decide)).trans ?_
  refine (binary_result ..).trans ?_
  rw [upto_after W 15 (a := main_v10) (by decide), upto_after W 15 (a := main_cst_2) (by decide)]

theorem e_v12 : after hostOps0 W (Proc.devRef .tc main_v12) = (broadcastInDim S4x2048x1 ![0, 1] bcast_S4x2048_S4x2048x1_0_1 : (⟨S4x2048, .f32⟩ : BufTy).Contents (Elt F) → (⟨S4x2048x1, .f32⟩ : BufTy).Contents (Elt F)) (after hostOps0 W (Proc.devRef .tc main_v11)) := by
  refine (last W 16 rfl (by decide)).trans ?_
  refine (unary_result ..).trans ?_
  rw [upto_after W 16 (a := main_v11) (by decide)]

theorem e_cst_3 : after hostOps0 W (Proc.devRef .tc main_cst_3) = (constant S_ .f32 0x44800000#32) := by
  refine (last W 17 rfl (by decide)).trans ?_
  refine (nullary_result ..).trans ?_
  rfl

theorem e_v13 : after hostOps0 W (Proc.devRef .tc main_v13) = (broadcastInDim S4x2048x1 ![] bcast_S_S4x2048x1 : (⟨S_, .f32⟩ : BufTy).Contents (Elt F) → (⟨S4x2048x1, .f32⟩ : BufTy).Contents (Elt F)) (after hostOps0 W (Proc.devRef .tc main_cst_3)) := by
  refine (last W 18 rfl (by decide)).trans ?_
  refine (unary_result ..).trans ?_
  rw [upto_after W 18 (a := main_cst_3) (by decide)]

theorem e_v14 : after hostOps0 W (Proc.devRef .tc main_v14) = (Host.divf : (⟨S4x2048x1, .f32⟩ : BufTy).Contents (Elt F) → (⟨S4x2048x1, .f32⟩ : BufTy).Contents (Elt F) → (⟨S4x2048x1, .f32⟩ : BufTy).Contents (Elt F)) (after hostOps0 W (Proc.devRef .tc main_v12)) (after hostOps0 W (Proc.devRef .tc main_v13)) := by
  refine (last W 19 rfl (by decide)).trans ?_
  refine (binary_result ..).trans ?_
  rw [upto_after W 19 (a := main_v12) (by decide), upto_after W 19 (a := main_v13) (by decide)]

theorem e_v15 : after hostOps0 W (Proc.devRef .tc main_v15) = (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)) (after hostOps0 W (Proc.devRef .tc main_v14)) := by
  refine (last W 20 rfl (by decide)).trans ?_
  refine (unary_result ..).trans ?_
  rw [upto_after W 20 (a := main_v14) (by decide)]

theorem e_v16 : after hostOps0 W (Proc.devRef .tc main_v16) = (subf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v10)) (after hostOps0 W (Proc.devRef .tc main_v15)) := by
  refine (last W 21 rfl (by decide)).trans ?_
  refine (binary_result ..).trans ?_
  rw [upto_after W 21 (a := main_v10) (by decide), upto_after W 21 (a := main_v15) (by decide)]

theorem e_v17 : after hostOps0 W (Proc.devRef .tc main_v17) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v16)) (after hostOps0 W (Proc.devRef .tc main_v16)) := by
  refine (last W 22 rfl (by decide)).trans ?_
  refine (binary_result ..).trans ?_
  rw [upto_after W 22 (a := main_v16) (by decide)]

theorem e_cst_4 : after hostOps0 W (Proc.devRef .tc main_cst_4) = (constant S_ .f32 0x00000000#32) := by
  refine (last W 23 rfl (by decide)).trans ?_
  refine (nullary_result ..).trans ?_
  rfl

theorem e_v18 : after hostOps0 W (Proc.devRef .tc main_v18) = ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)) (after hostOps0 W (Proc.devRef .tc main_v17)) (after hostOps0 W (Proc.devRef .tc main_cst_4)) := by
  refine (last W 24 rfl (by decide)).trans ?_
  refine (binary_result ..).trans ?_
  rw [upto_after W 24 (a := main_v17) (by decide), upto_after W 24 (a := main_cst_4) (by decide)]

theorem e_v19 : after hostOps0 W (Proc.devRef .tc main_v19) = (broadcastInDim S4x2048x1 ![0, 1] bcast_S4x2048_S4x2048x1_0_1 : (⟨S4x2048, .f32⟩ : BufTy).Contents (Elt F) → (⟨S4x2048x1, .f32⟩ : BufTy).Contents (Elt F)) (after hostOps0 W (Proc.devRef .tc main_v18)) := by
  refine (last W 25 rfl (by decide)).trans ?_
  refine (unary_result ..).trans ?_
  rw [upto_after W 25 (a := main_v18) (by decide)]

theorem e_cst_5 : after hostOps0 W (Proc.devRef .tc main_cst_5) = (constant S_ .f32 0x44800000#32) := by
  refine (last W 26 rfl (by decide)).trans ?_
  refine (nullary_result ..).trans ?_
  rfl

theorem e_v20 : after hostOps0 W (Proc.devRef .tc main_v20) = (broadcastInDim S4x2048x1 ![] bcast_S_S4x2048x1 : (⟨S_, .f32⟩ : BufTy).Contents (Elt F) → (⟨S4x2048x1, .f32⟩ : BufTy).Contents (Elt F)) (after hostOps0 W (Proc.devRef .tc main_cst_5)) := by
  refine (last W 27 rfl (by decide)).trans ?_
  refine (unary_result ..).trans ?_
  rw [upto_after W 27 (a := main_cst_5) (by decide)]

theorem e_v21 : after hostOps0 W (Proc.devRef .tc main_v21) = (Host.divf : (⟨S4x2048x1, .f32⟩ : BufTy).Contents (Elt F) → (⟨S4x2048x1, .f32⟩ : BufTy).Contents (Elt F) → (⟨S4x2048x1, .f32⟩ : BufTy).Contents (Elt F)) (after hostOps0 W (Proc.devRef .tc main_v19)) (after hostOps0 W (Proc.devRef .tc main_v20)) := by
  refine (last W 28 rfl (by decide)).trans ?_
  refine (binary_result ..).trans ?_
  rw [upto_after W 28 (a := main_v19) (by decide), upto_after W 28 (a := main_v20) (by decide)]

theorem e_cst_6 : after hostOps0 W (Proc.devRef .tc main_cst_6) = (constant S_ .f32 0x3727C5AC#32) := by
  refine (last W 29 rfl (by decide)).trans ?_
  refine (nullary_result ..).trans ?_
  rfl

theorem e_v22 : after hostOps0 W (Proc.devRef .tc main_v22) = (broadcastInDim S4x2048x1 ![] bcast_S_S4x2048x1 : (⟨S_, .f32⟩ : BufTy).Contents (Elt F) → (⟨S4x2048x1, .f32⟩ : BufTy).Contents (Elt F)) (after hostOps0 W (Proc.devRef .tc main_cst_6)) := by
  refine (last W 30 rfl (by decide)).trans ?_
  refine (unary_result ..).trans ?_
  rw [upto_after W 30 (a := main_cst_6) (by decide)]

theorem e_v23 : after hostOps0 W (Proc.devRef .tc main_v23) = (addf : (⟨S4x2048x1, .f32⟩ : BufTy).Contents (Elt F) → (⟨S4x2048x1, .f32⟩ : BufTy).Contents (Elt F) → (⟨S4x2048x1, .f32⟩ : BufTy).Contents (Elt F)) (after hostOps0 W (Proc.devRef .tc main_v21)) (after hostOps0 W (Proc.devRef .tc main_v22)) := by
  refine (last W 31 rfl (by decide)).trans ?_
  refine (binary_result ..).trans ?_
  rw [upto_after W 31 (a := main_v21) (by decide), upto_after W 31 (a := main_v22) (by decide)]

theorem e_v24 : after hostOps0 W (Proc.devRef .tc main_v24) = (Host.rsqrt : (⟨S4x2048x1, .f32⟩ : BufTy).Contents (Elt F) → (⟨S4x2048x1, .f32⟩ : BufTy).Contents (Elt F)) (after hostOps0 W (Proc.devRef .tc main_v23)) := by
  refine (last W 32 rfl (by decide)).trans ?_
  refine (unary_result ..).trans ?_
  rw [upto_after W 32 (a := main_v23) (by decide)]

theorem e_v25 : after hostOps0 W (Proc.devRef .tc main_v25) = (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)) (after hostOps0 W (Proc.devRef .tc main_v24)) := by
  refine (last W 33 rfl (by decide)).trans ?_
  refine (unary_result ..).trans ?_
  rw [upto_after W 33 (a := main_v24) (by decide)]

theorem e_v26 : after hostOps0 W (Proc.devRef .tc main_v26) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v16)) (after hostOps0 W (Proc.devRef .tc main_v25)) := by
  refine (last W 34 rfl (by decide)).trans ?_
  refine (binary_result ..).trans ?_
  rw [upto_after W 34 (a := main_v16) (by decide), upto_after W 34 (a := main_v25) (by decide)]

theorem e_v27 : after hostOps0 W (Proc.devRef .tc main_v27) = (broadcastInDim S4x2048x1024 ![1, 2] bcast_S1x1024_S4x2048x1024_1_2 : (⟨S1x1024, .f32⟩ : BufTy).Contents (Elt F) → (⟨S4x2048x1024, .f32⟩ : BufTy).Contents (Elt F)) (after hostOps0 W (Proc.devRef .tc main_arg4)) := by
  refine (last W 35 rfl (by decide)).trans ?_
  refine (unary_result ..).trans ?_
  rw [upto_after W 35 (a := main_arg4) (by decide)]

theorem e_v28 : after hostOps0 W (Proc.devRef .tc main_v28) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v26)) (after hostOps0 W (Proc.devRef .tc main_v27)) := by
  refine (last W 36 rfl (by decide)).trans ?_
  refine (binary_result ..).trans ?_
  rw [upto_after W 36 (a := main_v26) (by decide), upto_after W 36 (a := main_v27) (by decide)]

theorem e_v29 : after hostOps0 W (Proc.devRef .tc main_v29) = (broadcastInDim S4x2048x1024 ![1, 2] bcast_S1x1024_S4x2048x1024_1_2 : (⟨S1x1024, .f32⟩ : BufTy).Contents (Elt F) → (⟨S4x2048x1024, .f32⟩ : BufTy).Contents (Elt F)) (after hostOps0 W (Proc.devRef .tc main_arg5)) := by
  refine (last W 37 rfl (by decide)).trans ?_
  refine (unary_result ..).trans ?_
  rw [upto_after W 37 (a := main_arg5) (by decide)]

theorem e_v30 : after hostOps0 W (Proc.devRef .tc main_v30) = (addf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v28)) (after hostOps0 W (Proc.devRef .tc main_v29)) := by
  refine (last W 38 rfl (by decide)).trans ?_
  refine (binary_result ..).trans ?_
  rw [upto_after W 38 (a := main_v28) (by decide), upto_after W 38 (a := main_v29) (by decide)]

theorem e_v31 : after hostOps0 W (Proc.devRef .tc main_v31) = ((extractStridedSlice S4x1x1024 ![0, 4, 0] · slices_S4x8x1024_S4x1x1024_0_4_0) : (⟨S4x8x1024, .f32⟩ : BufTy).Contents (Elt F) → (⟨S4x1x1024, .f32⟩ : BufTy).Contents (Elt F)) (after hostOps0 W (Proc.devRef .tc main_v3)) := by
  refine (last W 39 rfl (by decide)).trans ?_
  refine (unary_result ..).trans ?_
  rw [upto_after W 39 (a := main_v3) (by decide)]

theorem e_v32 : after hostOps0 W (Proc.devRef .tc main_v32) = (broadcastInDim S4x2048x1024 ![0, 1, 2] bcast_S4x1x1024_S4x2048x1024_0_1_2 : (⟨S4x1x1024, .f32⟩ : BufTy).Contents (Elt F) → (⟨S4x2048x1024, .f32⟩ : BufTy).Contents (Elt F)) (after hostOps0 W (Proc.devRef .tc main_v31)) := by
  refine (last W 40 rfl (by decide)).trans ?_
  refine (unary_result ..).trans ?_
  rw [upto_after W 40 (a := main_v31) (by decide)]

theorem e_v33 : after hostOps0 W (Proc.devRef .tc main_v33) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v30)) (after hostOps0 W (Proc.devRef .tc main_v32)) := by
  refine (last W 41 rfl (by decide)).trans ?_
  refine (binary_result ..).trans ?_
  rw [upto_after W 41 (a := main_v30) (by decide), upto_after W 41 (a := main_v32) (by decide)]

theorem e_v34 : after hostOps0 W (Proc.devRef .tc main_v34) = ((extractStridedSlice S4x1x1024 ![0, 3, 0] · slices_S4x8x1024_S4x1x1024_0_3_0) : (⟨S4x8x1024, .f32⟩ : BufTy).Contents (Elt F) → (⟨S4x1x1024, .f32⟩ : BufTy).Contents (Elt F)) (after hostOps0 W (Proc.devRef .tc main_v1)) := by
  refine (last W 42 rfl (by decide)).trans ?_
  refine (unary_result ..).trans ?_
  rw [upto_after W 42 (a := main_v1) (by decide)]

theorem e_v35 : after hostOps0 W (Proc.devRef .tc main_v35) = (broadcastInDim S4x2048x1024 ![0, 1, 2] bcast_S4x1x1024_S4x2048x1024_0_1_2 : (⟨S4x1x1024, .f32⟩ : BufTy).Contents (Elt F) → (⟨S4x2048x1024, .f32⟩ : BufTy).Contents (Elt F)) (after hostOps0 W (Proc.devRef .tc main_v34)) := by
  refine (last W 43 rfl (by decide)).trans ?_
  refine (unary_result ..).trans ?_
  rw [upto_after W 43 (a := main_v34) (by decide)]

theorem e_v36 : after hostOps0 W (Proc.devRef .tc main_v36) = (addf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v33)) (after hostOps0 W (Proc.devRef .tc main_v35)) := by
  refine (last W 44 rfl (by decide)).trans ?_
  refine (binary_result ..).trans ?_
  rw [upto_after W 44 (a := main_v33) (by decide), upto_after W 44 (a := main_v35) (by decide)]

theorem e_v37 : after hostOps0 W (Proc.devRef .tc main_v37) = ((fun l r => Host.dotGeneral dot_S4x2048x1024_S1024x4096_S4x2048x4096_2_0_01_1_n_n none l r) : (⟨S4x2048x1024, .f32⟩ : BufTy).Contents (Elt F) → (⟨S1024x4096, .f32⟩ : BufTy).Contents (Elt F) → (⟨S4x2048x4096, .f32⟩ : BufTy).Contents (Elt F)) (after hostOps0 W (Proc.devRef .tc main_v36)) (after hostOps0 W (Proc.devRef .tc main_arg6)) := by
  refine (last W 45 rfl (by decide)).trans ?_
  refine (binary_result ..).trans ?_
  rw [upto_after W 45 (a := main_v36) (by decide), upto_after W 45 (a := main_arg6) (by decide)]

theorem e_cst_7 : after hostOps0 W (Proc.devRef .tc main_cst_7) = (constant S_ .f32 0x00000000#32) := by
  refine (last W 46 rfl (by decide)).trans ?_
  refine (nullary_result ..).trans ?_
  rfl

theorem e_v38 : after hostOps0 W (Proc.devRef .tc main_v38) = (broadcastInDim S4x2048x4096 ![] bcast_S_S4x2048x4096 : (⟨S_, .f32⟩ : BufTy).Contents (Elt F) → (⟨S4x2048x4096, .f32⟩ : BufTy).Contents (Elt F)) (after hostOps0 W (Proc.devRef .tc main_cst_7)) := by
  refine (last W 47 rfl (by decide)).trans ?_
  refine (unary_result ..).trans ?_
  rw [upto_after W 47 (a := main_cst_7) (by decide)]

theorem e_v39 : after hostOps0 W (Proc.devRef .tc main_v39) = (maximumf : (⟨S4x2048x4096, .f32⟩ : BufTy).Contents (Elt F) → (⟨S4x2048x4096, .f32⟩ : BufTy).Contents (Elt F) → (⟨S4x2048x4096, .f32⟩ : BufTy).Contents (Elt F)) (after hostOps0 W (Proc.devRef .tc main_v37)) (after hostOps0 W (Proc.devRef .tc main_v38)) := by
  refine (last W 48 rfl (by decide)).trans ?_
  refine (binary_result ..).trans ?_
  rw [upto_after W 48 (a := main_v37) (by decide), upto_after W 48 (a := main_v38) (by decide)]

theorem e_v40 : after hostOps0 W (Proc.devRef .tc main_v40) = (mulf : (⟨S4x2048x4096, .f32⟩ : BufTy).Contents (Elt F) → (⟨S4x2048x4096, .f32⟩ : BufTy).Contents (Elt F) → (⟨S4x2048x4096, .f32⟩ : BufTy).Contents (Elt F)) (after hostOps0 W (Proc.devRef .tc main_v39)) (after hostOps0 W (Proc.devRef .tc main_v39)) := by
  refine (last W 49 rfl (by decide)).trans ?_
  refine (binary_result ..).trans ?_
  rw [upto_after W 49 (a := main_v39) (by decide)]

theorem e_v41 : after hostOps0 W (Proc.devRef .tc main_v41) = ((fun l r => Host.dotGeneral dot_S4x2048x4096_S4096x1024_S4x2048x1024_2_0_01_1_n_n none l r) : (⟨S4x2048x4096, .f32⟩ : BufTy).Contents (Elt F) → (⟨S4096x1024, .f32⟩ : BufTy).Contents (Elt F) → (⟨S4x2048x1024, .f32⟩ : BufTy).Contents (Elt F)) (after hostOps0 W (Proc.devRef .tc main_v40)) (after hostOps0 W (Proc.devRef .tc main_arg7)) := by
  refine (last W 50 rfl (by decide)).trans ?_
  refine (binary_result ..).trans ?_
  rw [upto_after W 50 (a := main_v40) (by decide), upto_after W 50 (a := main_arg7) (by decide)]

theorem e_cst_8 : after hostOps0 W (Proc.devRef .tc main_cst_8) = (constant S_ .f32 0x3F9837F0#32) := by
  refine (last W 51 rfl (by decide)).trans ?_
  refine (nullary_result ..).trans ?_
  rfl

theorem e_v42 : after hostOps0 W (Proc.devRef .tc main_v42) = (broadcastInDim S4x2048x1024 ![] bcast_S_S4x2048x1024 : (⟨S_, .f32⟩ : BufTy).Contents (Elt F) → (⟨S4x2048x1024, .f32⟩ : BufTy).Contents (Elt F)) (after hostOps0 W (Proc.devRef .tc main_cst_8)) := by
  refine (last W 52 rfl (by decide)).trans ?_
  refine (unary_result ..).trans ?_
  rw [upto_after W 52 (a := main_cst_8) (by decide)]

theorem e_v43 : after hostOps0 W (Proc.devRef .tc main_v43) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v42)) (after hostOps0 W (Proc.devRef .tc main_v30)) := by
  refine (last W 53 rfl (by decide)).trans ?_
  refine (binary_result ..).trans ?_
  rw [upto_after W 53 (a := main_v42) (by decide), upto_after W 53 (a := main_v30) (by decide)]

theorem e_v44 : after hostOps0 W (Proc.devRef .tc main_v44) = ((extractStridedSlice S4x1x1024 ![0, 5, 0] · slices_S4x8x1024_S4x1x1024_0_5_0) : (⟨S4x8x1024, .f32⟩ : BufTy).Contents (Elt F) → (⟨S4x1x1024, .f32⟩ : BufTy).Contents (Elt F)) (after hostOps0 W (Proc.devRef .tc main_v3)) := by
  refine (last W 54 rfl (by decide)).trans ?_
  refine (unary_result ..).trans ?_
  rw [upto_after W 54 (a := main_v3) (by decide)]

theorem e_v45 : after hostOps0 W (Proc.devRef .tc main_v45) = (broadcastInDim S4x2048x1024 ![0, 1, 2] bcast_S4x1x1024_S4x2048x1024_0_1_2 : (⟨S4x1x1024, .f32⟩ : BufTy).Contents (Elt F) → (⟨S4x2048x1024, .f32⟩ : BufTy).Contents (Elt F)) (after hostOps0 W (Proc.devRef .tc main_v44)) := by
  refine (last W 55 rfl (by decide)).trans ?_
  refine (unary_result ..).trans ?_
  rw [upto_after W 55 (a := main_v44) (by decide)]

theorem e_v46 : after hostOps0 W (Proc.devRef .tc main_v46) = (mulf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v45)) (after hostOps0 W (Proc.devRef .tc main_v41)) := by
  refine (last W 56 rfl (by decide)).trans ?_
  refine (binary_result ..).trans ?_
  rw [upto_after W 56 (a := main_v45) (by decide), upto_after W 56 (a := main_v41) (by decide)]

theorem e_v47 : after hostOps0 W (Proc.devRef .tc main_v47) = (addf : (⟨S4x2048x1024, .f32⟩ : BufTy).Contents (Elt F) → (⟨S4x2048x1024, .f32⟩ : BufTy).Contents (Elt F) → (⟨S4x2048x1024, .f32⟩ : BufTy).Contents (Elt F)) (after hostOps0 W (Proc.devRef .tc main_v43)) (after hostOps0 W (Proc.devRef .tc main_v46)) := by
  refine (last W 57 rfl (by decide)).trans ?_
  refine (binary_result ..).trans ?_
  rw [upto_after W 57 (a := main_v43) (by decide), upto_after W 57 (a := main_v46) (by decide)]

theorem e_v48 : after hostOps0 W (Proc.devRef .tc main_v48) = ((truncf .bf16 · bitsLt_bf16_f32) : (⟨S1024x1024, .f32⟩ : BufTy).Contents (Elt F) → (⟨S1024x1024, .bf16⟩ : BufTy).Contents (Elt F)) (after hostOps0 W (Proc.devRef .tc main_arg3)) := by
  refine (last W 58 rfl (by decide)).trans ?_
  refine (unary_result ..).trans ?_
  rw [upto_after W 58 (a := main_arg3) (by decide)]

theorem e_v49 : after hostOps0 W (Proc.devRef .tc main_v49) = ((truncf .bf16 · bitsLt_bf16_f32) : (⟨S1024x4096, .f32⟩ : BufTy).Contents (Elt F) → (⟨S1024x4096, .bf16⟩ : BufTy).Contents (Elt F)) (after hostOps0 W (Proc.devRef .tc main_arg6)) := by
  refine (last W 59 rfl (by decide)).trans ?_
  refine (unary_result ..).trans ?_
  rw [upto_after W 59 (a := main_arg6) (by decide)]

theorem e_v50 : after hostOps0 W (Proc.devRef .tc main_v50) = shapeCast S1024x4x1024 (after hostOps0 W (Proc.devRef .tc main_v49)) shapeCasts_S1024x4096_S1024x4x1024 := by
  refine (last W 60 rfl (by decide)).trans ?_
  refine (reshape_result ..).trans ?_
  rw [upto_after W 60 (a := main_v49) (by decide)]
  rfl

theorem e_v51 : after hostOps0 W (Proc.devRef .tc main_v51) = ((transpose S4x1024x1024 [1, 0, 2] · transposes_S1024x4x1024_S4x1024x1024_1_0_2) : (⟨S1024x4x1024, .bf16⟩ : BufTy).Contents (Elt F) → (⟨S4x1024x1024, .bf16⟩ : BufTy).Contents (Elt F)) (after hostOps0 W (Proc.devRef .tc main_v50)) := by
  refine (last W 61 rfl (by decide)).trans ?_
  refine (unary_result ..).trans ?_
  rw [upto_after W 61 (a := main_v50) (by decide)]

theorem e_v52 : after hostOps0 W (Proc.devRef .tc main_v52) = shapeCast S8x512x1024 (after hostOps0 W (Proc.devRef .tc main_v51)) shapeCasts_S4x1024x1024_S8x512x1024 := by
  refine (last W 62 rfl (by decide)).trans ?_
  refine (reshape_result ..).trans ?_
  rw [upto_after W 62 (a := main_v51) (by decide)]
  rfl

theorem e_v53 : after hostOps0 W (Proc.devRef .tc main_v53) = ((truncf .bf16 · bitsLt_bf16_f32) : (⟨S4096x1024, .f32⟩ : BufTy).Contents (Elt F) → (⟨S4096x1024, .bf16⟩ : BufTy).Contents (Elt F)) (after hostOps0 W (Proc.devRef .tc main_arg7)) := by
  refine (last W 63 rfl (by decide)).trans ?_
  refine (unary_result ..).trans ?_
  rw [upto_after W 63 (a := main_arg7) (by decide)]

theorem e_v54 : after hostOps0 W (Proc.devRef .tc main_v54) = shapeCast S8x512x1024 (after hostOps0 W (Proc.devRef .tc main_v53)) shapeCasts_S4096x1024_S8x512x1024 := by
  refine (last W 64 rfl (by decide)).trans ?_
  refine (reshape_result ..).trans ?_
  rw [upto_after W 64 (a := main_v53) (by decide)]
  rfl

theorem e_v55 : after hostOps0 W (Proc.devRef .tc main_v55) = shapeCast S8x128x1024 (after hostOps0 W (Proc.devRef .tc main_v48)) shapeCasts_S1024x1024_S8x128x1024 := by
  refine (last W 65 rfl (by decide)).trans ?_
  refine (reshape_result ..).trans ?_
  rw [upto_after W 65 (a := main_v48) (by decide)]
  rfl

theorem e_v56 : after hostOps0 W (Proc.devRef .tc main_v56) = ((concatenate S8x1152x1024 1 [⟨S8x512x1024, (after hostOps0 W (Proc.devRef .tc main_v52) : (⟨S8x512x1024, .bf16⟩ : BufTy).Contents (Elt F))⟩, ⟨S8x512x1024, (after hostOps0 W (Proc.devRef .tc main_v54) : (⟨S8x512x1024, .bf16⟩ : BufTy).Contents (Elt F))⟩, ⟨S8x128x1024, (after hostOps0 W (Proc.devRef .tc main_v55) : (⟨S8x128x1024, .bf16⟩ : BufTy).Contents (Elt F))⟩] concatenates_S8x512x1024_S8x512x1024_S8x128x1024_S8x1152x1024_d1 : (⟨S8x1152x1024, .bf16⟩ : BufTy).Contents (Elt F))) := by
  refine (last W 66 rfl (by decide)).trans ?_
  refine (nary_result ..).trans ?_
  rw [← upto_after W 66 (a := main_v52) (by decide), ← upto_after W 66 (a := main_v54) (by decide), ← upto_after W 66 (a := main_v55) (by decide)]
  rfl

theorem e_v57 : after hostOps0 W (Proc.devRef .tc main_v57) = shapeCast S8192x1024 (after hostOps0 W (Proc.devRef .tc main_v47)) shapeCasts_S4x2048x1024_S8192x1024 := by
  refine (last W 67 rfl (by decide)).trans ?_
  refine (reshape_result ..).trans ?_
  rw [upto_after W 67 (a := main_v47) (by decide)]
  rfl

theorem e_v58 : after hostOps0 W (Proc.devRef .tc main_v58) = shapeCast S8192x1024 (after hostOps0 W (Proc.devRef .tc main_arg10)) shapeCasts_S4x2048x1024_S8192x1024 := by
  refine (last W 68 rfl (by decide)).trans ?_
  refine (reshape_result ..).trans ?_
  rw [upto_after W 68 (a := main_arg10) (by decide)]
  rfl

theorem e_v59 : after hostOps0 W (Proc.devRef .tc main_v59) = shapeCast S8192x1024 (after hostOps0 W (Proc.devRef .tc main_v41)) shapeCasts_S4x2048x1024_S8192x1024 := by
  refine (last W 69 rfl (by decide)).trans ?_
  refine (reshape_result ..).trans ?_
  rw [upto_after W 69 (a := main_v41) (by decide)]
  rfl

theorem e_v60 : after hostOps0 W (Proc.devRef .tc main_v60) = shapeCast S8192x4096 (after hostOps0 W (Proc.devRef .tc main_v37)) shapeCasts_S4x2048x4096_S8192x4096 := by
  refine (last W 70 rfl (by decide)).trans ?_
  refine (reshape_result ..).trans ?_
  rw [upto_after W 70 (a := main_v37) (by decide)]
  rfl

theorem e_v61 : after hostOps0 W (Proc.devRef .tc main_v61) = ((truncf .bf16 · bitsLt_bf16_f32) : (⟨S8192x4096, .f32⟩ : BufTy).Contents (Elt F) → (⟨S8192x4096, .bf16⟩ : BufTy).Contents (Elt F)) (after hostOps0 W (Proc.devRef .tc main_v60)) := by
  refine (last W 71 rfl (by decide)).trans ?_
  refine (unary_result ..).trans ?_
  rw [upto_after W 71 (a := main_v60) (by decide)]

theorem e_v62 : after hostOps0 W (Proc.devRef .tc main_v62) = shapeCast S8192x1024 (after hostOps0 W (Proc.devRef .tc main_v10)) shapeCasts_S4x2048x1024_S8192x1024 := by
  refine (last W 72 rfl (by decide)).trans ?_
  refine (reshape_result ..).trans ?_
  rw [upto_after W 72 (a := main_v10) (by decide)]
  rfl

theorem e_v63 : after hostOps0 W (Proc.devRef .tc main_v63) = shapeCast S8192x1024 (after hostOps0 W (Proc.devRef .tc main_v4)) shapeCasts_S4x2048x1024_S8192x1024 := by
  refine (last W 73 rfl (by decide)).trans ?_
  refine (reshape_result ..).trans ?_
  rw [upto_after W 73 (a := main_v4) (by decide)]
  rfl

end Cert.HostEq

end
-- ==== Proof.Up.Host.lean ====
/- What the host program before the kernel leaves in each buffer, as the array of the real number it stands for. -/
module

public import proofs.«01_k».proof.Proof.Up.Spec
public import proofs.«01_k».proof.Proof.Up.HostEq

@[expose] public section

set_option maxRecDepth 16384

noncomputable section

namespace Cert.HostLift

open Cert.KernelIdeal Cert.KernelIdeal.Gen Idealize.ShloMosaic Idealize.ShloMosaic.TcCoe Idealize.SL.Sem
open StableHlo Cert.HostEq Cert.Up Cert.Spec

variable (W : Valuation τ sig (Elt Ideal)) (I : In)

/-- The program's buffers hold the real numbers of `I` in its arguments. -/
structure Holds : Prop where
  a0 : (after hostOps0 W (Proc.devRef .tc main_arg0) : S4x2048x1024.Idx → EReal) = up3 I.x
  a1 : (after hostOps0 W (Proc.devRef .tc main_arg1) : S4x2048x1024.Idx → EReal) = up3 I.att
  a2 : (after hostOps0 W (Proc.devRef .tc main_arg2) : S4x6144.Idx → EReal) = up2 I.mod
  a3 : (after hostOps0 W (Proc.devRef .tc main_arg3) : S1024x1024.Idx → EReal) = up2 I.wo
  a4 : (after hostOps0 W (Proc.devRef .tc main_arg4) : S1x1024.Idx → EReal) = up2 fun _ c => I.g1 c
  a5 : (after hostOps0 W (Proc.devRef .tc main_arg5) : S1x1024.Idx → EReal) = up2 fun _ c => I.b1 c
  a6 : (after hostOps0 W (Proc.devRef .tc main_arg6) : S1024x4096.Idx → EReal) = up2 I.wu
  a7 : (after hostOps0 W (Proc.devRef .tc main_arg7) : S4096x1024.Idx → EReal) = up2 I.wd
  a8 : (after hostOps0 W (Proc.devRef .tc main_arg8) : S1x1024.Idx → EReal) = up2 fun _ c => I.g2 c
  a9 : (after hostOps0 W (Proc.devRef .tc main_arg9) : S1x1024.Idx → EReal) = up2 fun _ c => I.b2 c
  a10 : (after hostOps0 W (Proc.devRef .tc main_arg10) : S4x2048x1024.Idx → EReal) = up3 I.tg

variable {W I}

/-- The packed weights' rows: the up projection's, the down projection's, the output projection's. -/
def wts (I : In) (q r c : ℕ) : ℝ :=
  if r < 512 then I.wu (q % 2 * 512 + r) (q / 2 * 1024 + c) else if r < 1024 then I.wd (q * 512 + (r - 512)) c else I.wo (q * 128 + (r - 1024)) c

theorem v1 (h : Holds W I) : (after hostOps0 W (Proc.devRef .tc main_v1) : S4x8x1024.Idx → EReal) = up3 fun b k c => if k < 6 then md I k b c else 0 := by
  rw [e_v1, e_cst, e_v0]
  rw [h.a2]
  funext j; idx_vars j
  pointwise [up2, up3]
  unfold md
  rw [mul_comm 1024]
  split_ifs <;> rfl

theorem v3 (h : Holds W I) : (after hostOps0 W (Proc.devRef .tc main_v3) : S4x8x1024.Idx → EReal) = up3 fun b k c => 1 + (if k < 6 then md I k b c else 0) := by
  rw [e_v3, e_v2, e_cst_0]
  rw [v1 h]
  funext j; idx_vars j
  pointwise [up2, up3]

theorem v4 (h : Holds W I) : (after hostOps0 W (Proc.devRef .tc main_v4) : S4x2048x1024.Idx → EReal) = up3 (mix I) := by
  rw [e_v4]
  rw [h.a1]
  rw [h.a3]
  funext j; idx_vars j
  pointwise [up2, up3]
  rfl

theorem v10 (h : Holds W I) : (after hostOps0 W (Proc.devRef .tc main_v10) : S4x2048x1024.Idx → EReal) = up3 (y1 I) := by
  rw [e_v10, e_v9, e_v8, e_v7, e_v6, e_v5, e_cst_1]
  rw [h.a0]
  rw [v3 h]
  rw [v4 h]
  funext j; idx_vars j
  pointwise [up2, up3]
  rfl

theorem v14 (h : Holds W I) : (after hostOps0 W (Proc.devRef .tc main_v14) : S4x2048x1.Idx → EReal) = up3 fun b s _ => mean (y1 I b s) := by
  rw [e_v14, e_v13, e_v12, e_v11, e_cst_3, e_cst_2]
  rw [v10 h]
  funext j; idx_vars j
  pointwise [up2, up3]
  rfl

theorem v16 (h : Holds W I) : (after hostOps0 W (Proc.devRef .tc main_v16) : S4x2048x1024.Idx → EReal) = up3 fun b s c => ctr (y1 I b s) c := by
  rw [e_v16, e_v15]
  rw [v10 h]
  rw [v14 h]
  funext j; idx_vars j
  pointwise [up2, up3]
  rfl

theorem v23 (h : Holds W I) : (after hostOps0 W (Proc.devRef .tc main_v23) : S4x2048x1.Idx → EReal) = up3 fun b s _ => mean (fun k => ctr (y1 I b s) k * ctr (y1 I b s) k) + eps := by
  rw [e_v23, e_v22, e_v21, e_v20, e_v19, e_v18, e_v17, e_cst_4, e_cst_5, e_cst_6]
  rw [v16 h]
  funext j; idx_vars j
  pointwise [up2, up3]
  rfl

theorem v24 (h : Holds W I) : (after hostOps0 W (Proc.devRef .tc main_v24) : S4x2048x1.Idx → EReal) = up3 fun b s _ => rstd (y1 I b s) := by
  rw [e_v24]
  rw [v23 h]
  funext j; idx_vars j
  pointwise [up2, up3]
  exact rsqrt_var _

theorem v26 (h : Holds W I) : (after hostOps0 W (Proc.devRef .tc main_v26) : S4x2048x1024.Idx → EReal) = up3 fun b s c => nrm (y1 I b s) c := by
  rw [e_v26, e_v25]
  rw [v16 h]
  rw [v24 h]
  funext j; idx_vars j
  pointwise [up2, up3]
  rfl

theorem v30 (h : Holds W I) : (after hostOps0 W (Proc.devRef .tc main_v30) : S4x2048x1024.Idx → EReal) = up3 (x1 I) := by
  rw [e_v30, e_v29, e_v28, e_v27]
  rw [v26 h]
  rw [h.a4]
  rw [h.a5]
  funext j; idx_vars j
  pointwise [up2, up3]
  rfl

theorem v36 (h : Holds W I) : (after hostOps0 W (Proc.devRef .tc main_v36) : S4x2048x1024.Idx → EReal) = up3 fun b s k => x1 I b s k * (1 + md I 4 b k) + md I 3 b k := by
  rw [e_v36, e_v35, e_v34, e_v33, e_v32, e_v31]
  rw [v30 h]
  rw [v3 h]
  rw [v1 h]
  funext j; idx_vars j
  pointwise [up2, up3]

theorem v37 (h : Holds W I) : (after hostOps0 W (Proc.devRef .tc main_v37) : S4x2048x4096.Idx → EReal) = up3 (u I) := by
  rw [e_v37]
  rw [v36 h]
  rw [h.a6]
  funext j; idx_vars j
  pointwise [up2, up3]
  rfl

theorem v39 (h : Holds W I) : (after hostOps0 W (Proc.devRef .tc main_v39) : S4x2048x4096.Idx → EReal) = up3 fun b s e => max (u I b s e) 0 := by
  rw [e_v39, e_v38, e_cst_7]
  rw [v37 h]
  funext j; idx_vars j
  pointwise [up2, up3]

theorem v41 (h : Holds W I) : (after hostOps0 W (Proc.devRef .tc main_v41) : S4x2048x1024.Idx → EReal) = up3 (ff I) := by
  rw [e_v41, e_v40]
  rw [v39 h]
  rw [h.a7]
  funext j; idx_vars j
  pointwise [up2, up3]
  rfl

theorem v47 (h : Holds W I) : (after hostOps0 W (Proc.devRef .tc main_v47) : S4x2048x1024.Idx → EReal) = up3 (y2 I) := by
  rw [e_v47, e_v46, e_v45, e_v44, e_v43, e_v42, e_cst_8]
  rw [v30 h]
  rw [v3 h]
  rw [v41 h]
  funext j; idx_vars j
  pointwise [up2, up3]
  rfl

theorem v48 (h : Holds W I) : (after hostOps0 W (Proc.devRef .tc main_v48) : S1024x1024.Idx → EReal) = up2 I.wo := by
  rw [e_v48]
  rw [h.a3]
  funext j; idx_vars j
  pointwise [up2, up3]

theorem v52 (h : Holds W I) : (after hostOps0 W (Proc.devRef .tc main_v52) : S8x512x1024.Idx → EReal) = up3 fun q r c => I.wu (q % 2 * 512 + r) (q / 2 * 1024 + c) := by
  rw [e_v52, e_v51, e_v50, e_v49]
  rw [h.a6]
  funext j; idx_vars j
  pointwise [up2, up3]

theorem v54 (h : Holds W I) : (after hostOps0 W (Proc.devRef .tc main_v54) : S8x512x1024.Idx → EReal) = up3 fun q r c => I.wd (q * 512 + r) c := by
  rw [e_v54, e_v53]
  rw [h.a7]
  funext j; idx_vars j
  pointwise [up2, up3]

theorem v55 (h : Holds W I) : (after hostOps0 W (Proc.devRef .tc main_v55) : S8x128x1024.Idx → EReal) = up3 fun q r c => I.wo (q * 128 + r) c := by
  rw [e_v55]
  rw [v48 h]
  funext j; idx_vars j
  pointwise [up2, up3]

theorem v56 (h : Holds W I) : (after hostOps0 W (Proc.devRef .tc main_v56) : S8x1152x1024.Idx → EReal) = up3 (wts I) := by
  rw [e_v56]
  rw [v52 h]
  rw [v54 h]
  rw [v55 h]
  funext j; idx_vars j
  pointwise [up2, up3]
  simp only [dite_eq_ite]
  unfold wts
  split_ifs <;> first | rfl | omega

theorem v57 (h : Holds W I) : (after hostOps0 W (Proc.devRef .tc main_v57) : S8192x1024.Idx → EReal) = up2 (flat (y2 I)) := by
  rw [e_v57]
  rw [v47 h]
  funext j; idx_vars j
  pointwise [up2, up3]
  rfl

theorem v58 (h : Holds W I) : (after hostOps0 W (Proc.devRef .tc main_v58) : S8192x1024.Idx → EReal) = up2 (flat I.tg) := by
  rw [e_v58]
  rw [h.a10]
  funext j; idx_vars j
  pointwise [up2, up3]
  rfl

theorem v59 (h : Holds W I) : (after hostOps0 W (Proc.devRef .tc main_v59) : S8192x1024.Idx → EReal) = up2 (flat (ff I)) := by
  rw [e_v59]
  rw [v41 h]
  funext j; idx_vars j
  pointwise [up2, up3]
  rfl

theorem v61 (h : Holds W I) : (after hostOps0 W (Proc.devRef .tc main_v61) : S8192x4096.Idx → EReal) = up2 (flat (u I)) := by
  rw [e_v61, e_v60]
  rw [v37 h]
  funext j; idx_vars j
  pointwise [up2, up3]
  rfl

theorem v62 (h : Holds W I) : (after hostOps0 W (Proc.devRef .tc main_v62) : S8192x1024.Idx → EReal) = up2 (flat (y1 I)) := by
  rw [e_v62]
  rw [v10 h]
  funext j; idx_vars j
  pointwise [up2, up3]
  rfl

theorem v63 (h : Holds W I) : (after hostOps0 W (Proc.devRef .tc main_v63) : S8192x1024.Idx → EReal) = up2 (flat (mix I)) := by
  rw [e_v63]
  rw [v4 h]
  funext j; idx_vars j
  pointwise [up2, up3]
  rfl

end Cert.HostLift

end
-- ==== Proof.Up.Blk.lean ====
/- What each window's block holds at a point: the rows of the array it is cut from. -/
module

public import proofs.«01_k».proof.Proof.Up.Host
public import proofs.«01_k».proof.Proof.Bwd.Frame

@[expose] public section

set_option maxRecDepth 16384

noncomputable section

namespace Cert.Blk

open Cert.KernelIdeal Cert.KernelIdeal.Gen Idealize.ShloMosaic Idealize.ShloMosaic.TcCoe Idealize.SL.Sem
open Cert.Up Cert.Spec Cert.HostLift

variable (m : (ℓ : Loc nD τ sig) → Buf (Elt Ideal) ℓ) (c : Dev nD) {I : In}

theorem i0 : ∀ t : Fin cfg0.N, win0_0.index t 0 = t.val ∧ win0_0.index t 1 = 0 :=
  (by decide +kernel : ∀ t : Fin grid0.N, win0_0.index t 0 = t.val ∧ win0_0.index t 1 = 0)

theorem b0 (h : Holds (fun b => m (c, b)) I) (t : Fin cfg0.N) :
    (iblk m c 0 t : S256x1024.Idx → EReal) = up2 (tl (t.val / 8) (256 * (t.val % 8)) (y2 I)) := by
  have hi := i0 t
  funext j
  unfold iblk
  rw [View.read_apply]
  show V m c main_v57 _ = _
  unfold V
  rw [v57 h]
  show ((flat (y2 I) (win0_0.index t 0 * 256 + 1 * (j 0).val) (win0_0.index t 1 * 1024 + 1 * (j 1).val) : ℝ) : EReal) = (((y2 I) (t.val / 8) (256 * (t.val % 8) + (j 0).val) (j 1).val : ℝ) : EReal)
  have h0 : (j 0).val < 256 := (j 0).isLt
  rw [hi.1, hi.2]
  unfold flat
  congr 2 <;> omega

theorem i1 : ∀ t : Fin cfg0.N, win0_1.index t 0 = t.val ∧ win0_1.index t 1 = 0 :=
  (by decide +kernel : ∀ t : Fin grid0.N, win0_1.index t 0 = t.val ∧ win0_1.index t 1 = 0)

theorem b1 (h : Holds (fun b => m (c, b)) I) (t : Fin cfg0.N) :
    (iblk m c 1 t : S256x1024.Idx → EReal) = up2 (tl (t.val / 8) (256 * (t.val % 8)) (I.tg)) := by
  have hi := i1 t
  funext j
  unfold iblk
  rw [View.read_apply]
  show V m c main_v58 _ = _
  unfold V
  rw [v58 h]
  show ((flat (I.tg) (win0_1.index t 0 * 256 + 1 * (j 0).val) (win0_1.index t 1 * 1024 + 1 * (j 1).val) : ℝ) : EReal) = (((I.tg) (t.val / 8) (256 * (t.val % 8) + (j 0).val) (j 1).val : ℝ) : EReal)
  have h0 : (j 0).val < 256 := (j 0).isLt
  rw [hi.1, hi.2]
  unfold flat
  congr 2 <;> omega

theorem i2 : ∀ t : Fin cfg0.N, win0_2.index t 0 = t.val ∧ win0_2.index t 1 = 0 :=
  (by decide +kernel : ∀ t : Fin grid0.N, win0_2.index t 0 = t.val ∧ win0_2.index t 1 = 0)

theorem b2 (h : Holds (fun b => m (c, b)) I) (t : Fin cfg0.N) :
    (iblk m c 2 t : S256x1024.Idx → EReal) = up2 (tl (t.val / 8) (256 * (t.val % 8)) (ff I)) := by
  have hi := i2 t
  funext j
  unfold iblk
  rw [View.read_apply]
  show V m c main_v59 _ = _
  unfold V
  rw [v59 h]
  show ((flat (ff I) (win0_2.index t 0 * 256 + 1 * (j 0).val) (win0_2.index t 1 * 1024 + 1 * (j 1).val) : ℝ) : EReal) = (((ff I) (t.val / 8) (256 * (t.val % 8) + (j 0).val) (j 1).val : ℝ) : EReal)
  have h0 : (j 0).val < 256 := (j 0).isLt
  rw [hi.1, hi.2]
  unfold flat
  congr 2 <;> omega

theorem i3 : ∀ t : Fin cfg0.N, win0_3.index t 0 = t.val ∧ win0_3.index t 1 = 0 :=
  (by decide +kernel : ∀ t : Fin grid0.N, win0_3.index t 0 = t.val ∧ win0_3.index t 1 = 0)

theorem b3 (h : Holds (fun b => m (c, b)) I) (t : Fin cfg0.N) :
    (iblk m c 3 t : S256x4096.Idx → EReal) = up2 (tl (t.val / 8) (256 * (t.val % 8)) (u I)) := by
  have hi := i3 t
  funext j
  unfold iblk
  rw [View.read_apply]
  show V m c main_v61 _ = _
  unfold V
  rw [v61 h]
  show ((flat (u I) (win0_3.index t 0 * 256 + 1 * (j 0).val) (win0_3.index t 1 * 4096 + 1 * (j 1).val) : ℝ) : EReal) = (((u I) (t.val / 8) (256 * (t.val % 8) + (j 0).val) (j 1).val : ℝ) : EReal)
  have h0 : (j 0).val < 256 := (j 0).isLt
  rw [hi.1, hi.2]
  unfold flat
  congr 2 <;> omega

theorem i4 : ∀ t : Fin cfg0.N, win0_4.index t 0 = t.val ∧ win0_4.index t 1 = 0 :=
  (by decide +kernel : ∀ t : Fin grid0.N, win0_4.index t 0 = t.val ∧ win0_4.index t 1 = 0)

theorem b4 (h : Holds (fun b => m (c, b)) I) (t : Fin cfg0.N) :
    (iblk m c 4 t : S256x1024.Idx → EReal) = up2 (tl (t.val / 8) (256 * (t.val % 8)) (y1 I)) := by
  have hi := i4 t
  funext j
  unfold iblk
  rw [View.read_apply]
  show V m c main_v62 _ = _
  unfold V
  rw [v62 h]
  show ((flat (y1 I) (win0_4.index t 0 * 256 + 1 * (j 0).val) (win0_4.index t 1 * 1024 + 1 * (j 1).val) : ℝ) : EReal) = (((y1 I) (t.val / 8) (256 * (t.val % 8) + (j 0).val) (j 1).val : ℝ) : EReal)
  have h0 : (j 0).val < 256 := (j 0).isLt
  rw [hi.1, hi.2]
  unfold flat
  congr 2 <;> omega

theorem i5 : ∀ t : Fin cfg0.N, win0_5.index t 0 = t.val ∧ win0_5.index t 1 = 0 :=
  (by decide +kernel : ∀ t : Fin grid0.N, win0_5.index t 0 = t.val ∧ win0_5.index t 1 = 0)

theorem b5 (h : Holds (fun b => m (c, b)) I) (t : Fin cfg0.N) :
    (iblk m c 5 t : S256x1024.Idx → EReal) = up2 (tl (t.val / 8) (256 * (t.val % 8)) (mix I)) := by
  have hi := i5 t
  funext j
  unfold iblk
  rw [View.read_apply]
  show V m c main_v63 _ = _
  unfold V
  rw [v63 h]
  show ((flat (mix I) (win0_5.index t 0 * 256 + 1 * (j 0).val) (win0_5.index t 1 * 1024 + 1 * (j 1).val) : ℝ) : EReal) = (((mix I) (t.val / 8) (256 * (t.val % 8) + (j 0).val) (j 1).val : ℝ) : EReal)
  have h0 : (j 0).val < 256 := (j 0).isLt
  rw [hi.1, hi.2]
  unfold flat
  congr 2 <;> omega

theorem i7 : ∀ t : Fin cfg0.N, win0_7.index t 1 = 0 :=
  (by decide +kernel : ∀ t : Fin grid0.N, win0_7.index t 1 = 0)

theorem b7 (h : Holds (fun b => m (c, b)) I) (t : Fin cfg0.N) :
    (iblk m c 7 t : S1x1024.Idx → EReal) = up2 fun _ k => I.g2 k := by
  have hi := i7 t
  funext j
  unfold iblk
  rw [View.read_apply]
  show V m c main_arg8 _ = _
  unfold V
  rw [h.a8]
  show ((I.g2 (win0_7.index t 1 * 1024 + 1 * (j 1).val) : ℝ) : EReal) = ((I.g2 (j 1).val : ℝ) : EReal)
  rw [hi]
  congr 2; omega

theorem i8 : ∀ t : Fin cfg0.N, win0_8.index t 1 = 0 :=
  (by decide +kernel : ∀ t : Fin grid0.N, win0_8.index t 1 = 0)

theorem b8 (h : Holds (fun b => m (c, b)) I) (t : Fin cfg0.N) :
    (iblk m c 8 t : S1x1024.Idx → EReal) = up2 fun _ k => I.b2 k := by
  have hi := i8 t
  funext j
  unfold iblk
  rw [View.read_apply]
  show V m c main_arg9 _ = _
  unfold V
  rw [h.a9]
  show ((I.b2 (win0_8.index t 1 * 1024 + 1 * (j 1).val) : ℝ) : EReal) = ((I.b2 (j 1).val : ℝ) : EReal)
  rw [hi]
  congr 2; omega

theorem i9 : ∀ t : Fin cfg0.N, win0_9.index t 1 = 0 :=
  (by decide +kernel : ∀ t : Fin grid0.N, win0_9.index t 1 = 0)

theorem b9 (h : Holds (fun b => m (c, b)) I) (t : Fin cfg0.N) :
    (iblk m c 9 t : S1x1024.Idx → EReal) = up2 fun _ k => I.g1 k := by
  have hi := i9 t
  funext j
  unfold iblk
  rw [View.read_apply]
  show V m c main_arg4 _ = _
  unfold V
  rw [h.a4]
  show ((I.g1 (win0_9.index t 1 * 1024 + 1 * (j 1).val) : ℝ) : EReal) = ((I.g1 (j 1).val : ℝ) : EReal)
  rw [hi]
  congr 2; omega

theorem i10 : ∀ t : Fin cfg0.N, win0_10.index t 1 = 0 :=
  (by decide +kernel : ∀ t : Fin grid0.N, win0_10.index t 1 = 0)

theorem b10 (h : Holds (fun b => m (c, b)) I) (t : Fin cfg0.N) :
    (iblk m c 10 t : S1x1024.Idx → EReal) = up2 fun _ k => I.b1 k := by
  have hi := i10 t
  funext j
  unfold iblk
  rw [View.read_apply]
  show V m c main_arg5 _ = _
  unfold V
  rw [h.a5]
  show ((I.b1 (win0_10.index t 1 * 1024 + 1 * (j 1).val) : ℝ) : EReal) = ((I.b1 (j 1).val : ℝ) : EReal)
  rw [hi]
  congr 2; omega

theorem i13 : ∀ t : Fin cfg0.N, win0_13.index t 0 = 0 ∧ win0_13.index t 1 = 0 :=
  (by decide +kernel : ∀ t : Fin grid0.N, win0_13.index t 0 = 0 ∧ win0_13.index t 1 = 0)

theorem b13 (h : Holds (fun b => m (c, b)) I) (t : Fin cfg0.N) :
    (iblk m c 13 t : S1024x1024.Idx → EReal) = up2 I.wo := by
  have hi := i13 t
  funext j
  unfold iblk
  rw [View.read_apply]
  show V m c main_v48 _ = _
  unfold V
  rw [v48 h]
  show ((I.wo (win0_13.index t 0 * 1024 + 1 * (j 0).val) (win0_13.index t 1 * 1024 + 1 * (j 1).val) : ℝ) : EReal) = ((I.wo (j 0).val (j 1).val : ℝ) : EReal)
  rw [hi.1, hi.2]
  congr 2 <;> omega

theorem i6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

theorem b6 (h : Holds (fun b => m (c, b)) I) (t : Fin cfg0.N) :
    (iblk m c 6 t : S1x8x1024.Idx → EReal) = up3 fun _ k e => mrow I (t.val / 8) k e := by
  have hi := i6 t
  funext j
  unfold iblk
  rw [View.read_apply]
  show V m c main_v1 _ = _
  unfold V
  rw [v1 h]
  show ((mrow I (win0_6.index t 0 * 1 + 1 * (j 0).val) (win0_6.index t 1 * 8 + 1 * (j 1).val) (win0_6.index t 2 * 1024 + 1 * (j 2).val) : ℝ) : EReal) = ((mrow I (t.val / 8) (j 1).val (j 2).val : ℝ) : EReal)
  have h0 : (j 0).val < 1 := (j 0).isLt
  rw [hi.1, hi.2.1, hi.2.2]
  congr 2 <;> omega

theorem i11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)

theorem b11 (h : Holds (fun b => m (c, b)) I) (t : Fin cfg0.N) :
    (X0_11 m c t : S8x512x1024.Idx → EReal) = up3 fun q r e => I.wu (q % 2 * 512 + r) (q / 2 * 1024 + e) := by
  have hi := i11 t
  refine funext fun (j : S8x512x1024.Idx) => ?_
  unfold X0_11 Pipeline.Window.fill
  rw [dif_pos (moved0_11 t j)]
  unfold iblk
  rw [View.read_apply]
  show V m c main_v56 _ = _
  unfold V
  rw [v56 h]
  have h1 : (j 1).val < 512 := (j 1).isLt
  have e0 : win0_11.index t 0 * 8 + 1 * (j 0).val = (j 0).val := by rw [hi.1, Nat.zero_mul, Nat.zero_add, Nat.one_mul]
  have e1 : win0_11.index t 1 * 512 + 1 * (j 1).val = 0 + (j 1).val := by rw [hi.2.1]; simp only [Nat.one_mul, Nat.zero_mul]
  have e2 : win0_11.index t 2 * 1024 + 1 * (j 2).val = (j 2).val := by rw [hi.2.2, Nat.zero_mul, Nat.zero_add, Nat.one_mul]
  show ((wts I (win0_11.index t 0 * 8 + 1 * (j 0).val) (win0_11.index t 1 * 512 + 1 * (j 1).val) (win0_11.index t 2 * 1024 + 1 * (j 2).val) : ℝ) : EReal) = _
  rw [e0, e1, e2]
  unfold wts
  rw [if_pos (by omega), Nat.zero_add]
  rfl

theorem i12 : ∀ t : Fin cfg0.N, win0_12.index t 0 = 0 ∧ win0_12.index t 1 = 1 ∧ win0_12.index t 2 = 0 :=
  (by decide +kernel : ∀ t : Fin grid0.N, win0_12.index t 0 = 0 ∧ win0_12.index t 1 = 1 ∧ win0_12.index t 2 = 0)

theorem b12 (h : Holds (fun b => m (c, b)) I) (t : Fin cfg0.N) :
    (X0_12 m c t : S8x512x1024.Idx → EReal) = up3 fun q r e => I.wd (q * 512 + r) e := by
  have hi := i12 t
  refine funext fun (j : S8x512x1024.Idx) => ?_
  unfold X0_12 Pipeline.Window.fill
  rw [dif_pos (moved0_12 t j)]
  unfold iblk
  rw [View.read_apply]
  show V m c main_v56 _ = _
  unfold V
  rw [v56 h]
  have h1 : (j 1).val < 512 := (j 1).isLt
  have e0 : win0_12.index t 0 * 8 + 1 * (j 0).val = (j 0).val := by rw [hi.1, Nat.zero_mul, Nat.zero_add, Nat.one_mul]
  have e1 : win0_12.index t 1 * 512 + 1 * (j 1).val = 512 + (j 1).val := by rw [hi.2.1]; simp only [Nat.one_mul, Nat.zero_mul]
  have e2 : win0_12.index t 2 * 1024 + 1 * (j 2).val = (j 2).val := by rw [hi.2.2, Nat.zero_mul, Nat.zero_add, Nat.one_mul]
  show ((wts I (win0_12.index t 0 * 8 + 1 * (j 0).val) (win0_12.index t 1 * 512 + 1 * (j 1).val) (win0_12.index t 2 * 1024 + 1 * (j 2).val) : ℝ) : EReal) = _
  rw [e0, e1, e2]
  unfold wts
  rw [if_neg (by omega), if_pos (by omega), Nat.add_sub_cancel_left]
  rfl

end Cert.Blk

end
-- ==== Proof.Up.Out.lean ====
module
public import proofs.«01_k».proof.Proof.Up.Acc
public import proofs.«01_k».proof.Proof.Up.Blk
public import proofs.«01_k».proof.Proof.Bwd.Blocks
@[expose] public section
set_option maxRecDepth 16384
noncomputable section
/-! What each of the body's windows holds after a point of the grid. -/
namespace Cert.Out
open Cert.KernelIdeal Cert.KernelIdeal.Gen Cert.KernelIdeal.Value Idealize.ShloMosaic Idealize.ShloMosaic.TcCoe Idealize.SL.Sem
open Cert.Up Cert.Spec Cert.Tile Cert.Blk Cert.HostLift Cert.Acc
variable (m : (ℓ : Loc nD τ sig) → Buf (Elt Ideal) ℓ) (c : Dev nD) {I : In}

set_option maxHeartbeats 2000000 in
theorem x14A (h : Holds (fun b => m (c, b)) I) (t : Fin cfg0.N) (h0 : t.val % 32 = 0) (h1 : t.val % 8 = 0)  :
    (outsAt0 m c t.val t.isLt).1 = up2 (tl (t.val / 8) (256 * (t.val % 8)) (dy1 I)) := by
  rw [outsAt0_A m c t h0 h1]
  frame_out
  rw [b0 m c h t, b1 m c h t, b3 m c h t, b4 m c h t, b6 m c h t, b7 m c h t, b8 m c h t, b9 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]

set_option maxHeartbeats 2000000 in
theorem x14B (h : Holds (fun b => m (c, b)) I) (t : Fin cfg0.N) (h0 : ¬t.val % 32 = 0) (h1 : ¬t.val % 8 = 0)  :
    (outsAt0 m c t.val t.isLt).1 = up2 (tl (t.val / 8) (256 * (t.val % 8)) (dy1 I)) := by
  rw [outsAt0_B m c t h0 h1]
  dsimp only
  generalize (outsAt0 m c (t.val - 1) (Nat.lt_of_le_of_lt (Nat.sub_le _ _) t.isLt)) = prev
  frame_out
  rw [b0 m c h t, b1 m c h t, b3 m c h t, b4 m c h t, b6 m c h t, b7 m c h t, b8 m c h t, b9 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]

set_option maxHeartbeats 2000000 in
theorem x14C (h : Holds (fun b => m (c, b)) I) (t : Fin cfg0.N) (h0 : ¬t.val % 32 = 0) (h1 : t.val % 8 = 0)  :
    (outsAt0 m c t.val t.isLt).1 = up2 (tl (t.val / 8) (256 * (t.val % 8)) (dy1 I)) := by
  rw [outsAt0_C m c t h0 h1]
  dsimp only
  generalize (outsAt0 m c (t.val - 1) (Nat.lt_of_le_of_lt (Nat.sub_le _ _) t.isLt)) = prev
  frame_out
  rw [b0 m c h t, b1 m c h t, b3 m c h t, b4 m c h t, b6 m c h t, b7 m c h t, b8 m c h t, b9 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]

set_option maxHeartbeats 2000000 in
theorem x15A (h : Holds (fun b => m (c, b)) I) (t : Fin cfg0.N) (h0 : t.val % 32 = 0) (h1 : t.val % 8 = 0)  :
    (outsAt0 m c t.val t.isLt).2.1 = up2 (tl (t.val / 8) (256 * (t.val % 8)) (dmix I)) := by
  rw [outsAt0_A m c t h0 h1]
  frame_out
  rw [b0 m c h t, b1 m c h t, b3 m c h t, b4 m c h t, b6 m c h t, b7 m c h t, b8 m c h t, b9 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t2]

set_option maxHeartbeats 2000000 in
theorem x15B (h : Holds (fun b => m (c, b)) I) (t : Fin cfg0.N) (h0 : ¬t.val % 32 = 0) (h1 : ¬t.val % 8 = 0)  :
    (outsAt0 m c t.val t.isLt).2.1 = up2 (tl (t.val / 8) (256 * (t.val % 8)) (dmix I)) := by
  rw [outsAt0_B m c t h0 h1]
  dsimp only
  generalize (outsAt0 m c (t.val - 1) (Nat.lt_of_le_of_lt (Nat.sub_le _ _) t.isLt)) = prev
  frame_out
  rw [b0 m c h t, b1 m c h t, b3 m c h t, b4 m c h t, b6 m c h t, b7 m c h t, b8 m c h t, b9 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t2]

set_option maxHeartbeats 2000000 in
theorem x15C (h : Holds (fun b => m (c, b)) I) (t : Fin cfg0.N) (h0 : ¬t.val % 32 = 0) (h1 : t.val % 8 = 0)  :
    (outsAt0 m c t.val t.isLt).2.1 = up2 (tl (t.val / 8) (256 * (t.val % 8)) (dmix I)) := by
  rw [outsAt0_C m c t h0 h1]
  dsimp only
  generalize (outsAt0 m c (t.val - 1) (Nat.lt_of_le_of_lt (Nat.sub_le _ _) t.isLt)) = prev
  frame_out
  rw [b0 m c h t, b1 m c h t, b3 m c h t, b4 m c h t, b6 m c h t, b7 m c h t, b8 m c h t, b9 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t2]

set_option maxHeartbeats 2000000 in
theorem x16A (h : Holds (fun b => m (c, b)) I) (t : Fin cfg0.N) (h0 : t.val % 32 = 0) (h1 : t.val % 8 = 0)  :
    (outsAt0 m c t.val t.isLt).2.2.1 = up2 (tl (t.val / 8) (256 * (t.val % 8)) (dat I)) := by
  rw [outsAt0_A m c t h0 h1]
  frame_out
  rw [b0 m c h t, b1 m c h t, b3 m c h t, b4 m c h t, b6 m c h t, b7 m c h t, b8 m c h t, b9 m c h t, b11 m c h t, b12 m c h t, b13 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t3]

set_option maxHeartbeats 2000000 in
theorem x16B (h : Holds (fun b => m (c, b)) I) (t : Fin cfg0.N) (h0 : ¬t.val % 32 = 0) (h1 : ¬t.val % 8 = 0)  :
    (outsAt0 m c t.val t.isLt).2.2.1 = up2 (tl (t.val / 8) (256 * (t.val % 8)) (dat I)) := by
  rw [outsAt0_B m c t h0 h1]
  dsimp only
  generalize (outsAt0 m c (t.val - 1) (Nat.lt_of_le_of_lt (Nat.sub_le _ _) t.isLt)) = prev
  frame_out
  rw [b0 m c h t, b1 m c h t, b3 m c h t, b4 m c h t, b6 m c h t, b7 m c h t, b8 m c h t, b9 m c h t, b11 m c h t, b12 m c h t, b13 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t3]

set_option maxHeartbeats 2000000 in
theorem x16C (h : Holds (fun b => m (c, b)) I) (t : Fin cfg0.N) (h0 : ¬t.val % 32 = 0) (h1 : t.val % 8 = 0)  :
    (outsAt0 m c t.val t.isLt).2.2.1 = up2 (tl (t.val / 8) (256 * (t.val % 8)) (dat I)) := by
  rw [outsAt0_C m c t h0 h1]
  dsimp only
  generalize (outsAt0 m c (t.val - 1) (Nat.lt_of_le_of_lt (Nat.sub_le _ _) t.isLt)) = prev
  frame_out
  rw [b0 m c h t, b1 m c h t, b3 m c h t, b4 m c h t, b6 m c h t, b7 m c h t, b8 m c h t, b9 m c h t, b11 m c h t, b12 m c h t, b13 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t3]

set_option maxHeartbeats 2000000 in
theorem x17A (h : Holds (fun b => m (c, b)) I) (t : Fin cfg0.N) (h0 : t.val % 32 = 0) (h1 : t.val % 8 = 0)  :
    (outsAt0 m c t.val t.isLt).2.2.2.1 = up2 (tl (t.val / 8) (256 * (t.val % 8)) (dff I)) := by
  rw [outsAt0_A m c t h0 h1]
  frame_out
  rw [b0 m c h t, b1 m c h t, b6 m c h t, b7 m c h t, b8 m c h t]
  generalize t.val / 8 = b
  generalize 256 * (t.val % 8) = s0
  simp only [ldRow, ldCol, ldPart, ldMod, mrow2, mrow3, mrow4, mrow5]
  simp only [t7, t8, t14, t15]
  simp only [t17, t19]

set_option maxHeartbeats 2000000 in
theorem x17B (h : Holds (fun b => m (c, b)) I) (t : Fin cfg0.N) (h0 : ¬t.val % 32 = 0) (h1 : ¬t.val % 8 = 0)  :
    (outsAt0 m c t.val t.isLt).2.2.2.1 = up2 (tl (t.val / 8) (256 * (t.val % 8)) (dff I)) := by
  rw [outsAt0_B m c t h0 h1]
  dsimp only
  generalize (outsAt0 m c (t.val - 1) (Nat.lt_of_le_of_lt (Nat.sub_le _ _) t.isLt)) = prev
  frame_out
  rw [b0 m c h t, b1 m c h t, b6 m c h t, b7 m c h t, b8 m c h t]
  generalize t.val / 8 = b
  generalize 256 * (t.val % 8) = s0
  simp only [ldRow, ldCol, ldPart, ldMod, mrow2, mrow3, mrow4, mrow5]
  simp only [t7, t8, t14, t15]
  simp only [t17, t19]

set_option maxHeartbeats 2000000 in
theorem x17C (h : Holds (fun b => m (c, b)) I) (t : Fin cfg0.N) (h0 : ¬t.val % 32 = 0) (h1 : t.val % 8 = 0)  :
    (outsAt0 m c t.val t.isLt).2.2.2.1 = up2 (tl (t.val / 8) (256 * (t.val % 8)) (dff I)) := by
  rw [outsAt0_C m c t h0 h1]
  dsimp only
  generalize (outsAt0 m c (t.val - 1) (Nat.lt_of_le_of_lt (Nat.sub_le _ _) t.isLt)) = prev
  frame_out
  rw [b0 m c h t, b1 m c h t, b6 m c h t, b7 m c h t, b8 m c h t]
  generalize t.val / 8 = b
  generalize 256 * (t.val % 8) = s0
  simp only [ldRow, ldCol, ldPart, ldMod, mrow2, mrow3, mrow4, mrow5]
  simp only [t7, t8, t14, t15]
  simp only [t17, t19]

set_option maxHeartbeats 2000000 in
theorem x18A (h : Holds (fun b => m (c, b)) I) (t : Fin cfg0.N) (h0 : t.val % 32 = 0) (h1 : t.val % 8 = 0)  :
    (outsAt0 m c t.val t.isLt).2.2.2.2.1 = up2 (tl (t.val / 8) (256 * (t.val % 8)) (du I)) := by
  rw [outsAt0_A m c t h0 h1]
  frame_out
  rw [b0 m c h t, b1 m c h t, b3 m c h t, b6 m c h t, b7 m c h t, b8 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  exact parts_canon ..

set_option maxHeartbeats 2000000 in
theorem x18B (h : Holds (fun b => m (c, b)) I) (t : Fin cfg0.N) (h0 : ¬t.val % 32 = 0) (h1 : ¬t.val % 8 = 0)  :
    (outsAt0 m c t.val t.isLt).2.2.2.2.1 = up2 (tl (t.val / 8) (256 * (t.val % 8)) (du I)) := by
  rw [outsAt0_B m c t h0 h1]
  dsimp only
  generalize (outsAt0 m c (t.val - 1) (Nat.lt_of_le_of_lt (Nat.sub_le _ _) t.isLt)) = prev
  frame_out
  rw [b0 m c h t, b1 m c h t, b3 m c h t, b6 m c h t, b7 m c h t, b8 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  exact parts_canon ..

set_option maxHeartbeats 2000000 in
theorem x18C (h : Holds (fun b => m (c, b)) I) (t : Fin cfg0.N) (h0 : ¬t.val % 32 = 0) (h1 : t.val % 8 = 0)  :
    (outsAt0 m c t.val t.isLt).2.2.2.2.1 = up2 (tl (t.val / 8) (256 * (t.val % 8)) (du I)) := by
  rw [outsAt0_C m c t h0 h1]
  dsimp only
  generalize (outsAt0 m c (t.val - 1) (Nat.lt_of_le_of_lt (Nat.sub_le _ _) t.isLt)) = prev
  frame_out
  rw [b0 m c h t, b1 m c h t, b3 m c h t, b6 m c h t, b7 m c h t, b8 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  exact parts_canon ..

set_option maxHeartbeats 2000000 in
theorem x19A (h : Holds (fun b => m (c, b)) I) (t : Fin cfg0.N) (h0 : t.val % 32 = 0) (h1 : t.val % 8 = 0)  :
    (outsAt0 m c t.val t.isLt).2.2.2.2.2.1 = (up2 (fun r e => 0 + sa I (t.val / 8) (256 * (t.val % 8)) r e) : S8x1024.Idx → EReal) := by
  rw [outsAt0_A m c t h0 h1]
  frame_out
  rw [b0 m c h t, b1 m c h t, b3 m c h t, b4 m c h t, b6 m c h t, b7 m c h t, b8 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [rd2, rz2, t11, t12, t13, t45, t46, ne_eq, Nat.reduceEqDiff, not_false_eq_true, OfNat.ofNat_ne_zero, OfNat.zero_ne_ofNat, OfNat.ofNat_ne_one, OfNat.one_ne_ofNat, zero_ne_one, one_ne_zero]
  exact (cn2 (ms0_19 t).view (cn2 (ms0_19 t).view (cn2 (ms0_19 t).view (cn2 (ms0_19 t).view (cn2 (ms0_19 t).view (cz2 (ms0_19 t).view _)))))).trans (congrArg up2 (all5 I b s0 fun _ _ => 0))

set_option maxHeartbeats 2000000 in
theorem x19B (h : Holds (fun b => m (c, b)) I) (t : Fin cfg0.N) (h0 : ¬t.val % 32 = 0) (h1 : ¬t.val % 8 = 0) (A : ℕ → ℕ → ℝ)
    (hA : (outsAt0 m c (t.val - 1) (Nat.lt_of_le_of_lt (Nat.sub_le _ _) t.isLt)).2.2.2.2.2.1 = (up2 A : S8x1024.Idx → EReal)) :
    (outsAt0 m c t.val t.isLt).2.2.2.2.2.1 = (up2 (fun r e => A r e + sa I (t.val / 8) (256 * (t.val % 8)) r e) : S8x1024.Idx → EReal) := by
  rw [outsAt0_B m c t h0 h1]
  dsimp only
  generalize (outsAt0 m c (t.val - 1) (Nat.lt_of_le_of_lt (Nat.sub_le _ _) t.isLt)) = prev at hA ⊢
  frame_out
  rw [b0 m c h t, b1 m c h t, b3 m c h t, b4 m c h t, b6 m c h t, b7 m c h t, b8 m c h t, b11 m c h t, b12 m c h t]
  generalize t.val / 8 = b
  generalize 256 * (t.val % 8) = s0
  rw [hA]
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t11, t12, t13, t45, t46]
  refine (wr2 (wr2 (wr2 (wr2 (wr2 (A := A) ?_))))).trans (congrArg up2 (all5 I b s0 A))
  exact Memref.IsWhole.read_unread _ _

set_option maxHeartbeats 2000000 in
theorem x19C (h : Holds (fun b => m (c, b)) I) (t : Fin cfg0.N) (h0 : ¬t.val % 32 = 0) (h1 : t.val % 8 = 0) (A : ℕ → ℕ → ℝ)
    (hA : (outsAt0 m c (t.val - 1) (Nat.lt_of_le_of_lt (Nat.sub_le _ _) t.isLt)).2.2.2.2.2.1 = (up2 A : S8x1024.Idx → EReal)) :
    (outsAt0 m c t.val t.isLt).2.2.2.2.2.1 = (up2 (fun r e => A r e + sa I (t.val / 8) (256 * (t.val % 8)) r e) : S8x1024.Idx → EReal) := by
  rw [outsAt0_C m c t h0 h1]
  dsimp only
  generalize (outsAt0 m c (t.val - 1) (Nat.lt_of_le_of_lt (Nat.sub_le _ _) t.isLt)) = prev at hA ⊢
  frame_out
  rw [b0 m c h t, b1 m c h t, b3 m c h t, b4 m c h t, b6 m c h t, b7 m c h t, b8 m c h t, b11 m c h t, b12 m c h t]
  generalize t.val / 8 = b
  generalize 256 * (t.val % 8) = s0
  rw [hA]
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t39]
  simp only [t31, t32, t33, t47]
  simp only [t11, t12, t13, t45, t46]
  refine (wr2 (wr2 (wr2 (wr2 (wr2 (A := A) ?_))))).trans (congrArg up2 (all5 I b s0 A))
  exact Memref.IsWhole.read_unread _ _

set_option maxHeartbeats 2000000 in
theorem x20A (h : Holds (fun b => m (c, b)) I) (t : Fin cfg0.N) (h0 : t.val % 32 = 0) (h1 : t.val % 8 = 0)  :
    (outsAt0 m c t.val t.isLt).2.2.2.2.2.2 = (up3 (fun _ r e => 0 + sd I (t.val / 8) (256 * (t.val % 8)) r e) : S1x8x1024.Idx → EReal) := by
  rw [outsAt0_A m c t h0 h1]
  frame_out
  rw [b0 m c h t, b1 m c h t, b2 m c h t, b3 m c h t, b4 m c h t, b5 m c h t, b6 m c h t, b7 m c h t, b8 m c h t, b9 m c h t, b10 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t31, t32, t33, t39, t40, t41]
  simp only [t47]
  simp only [rd3, rz3, t18, t40, t41, t1, ne_eq, Nat.reduceEqDiff, not_false_eq_true]
  exact (cn3 (ms0_20 t).view (cn3 (ms0_20 t).view (cn3 (ms0_20 t).view (cn3 (ms0_20 t).view (cz3 (ms0_20 t).view _))))).trans (congrArg (fun f => up3 fun _ => f) (all4 I b s0 fun _ _ => 0))

set_option maxHeartbeats 2000000 in
theorem x20B (h : Holds (fun b => m (c, b)) I) (t : Fin cfg0.N) (h0 : ¬t.val % 32 = 0) (h1 : ¬t.val % 8 = 0) (A : ℕ → ℕ → ℝ)
    (hA : (outsAt0 m c (t.val - 1) (Nat.lt_of_le_of_lt (Nat.sub_le _ _) t.isLt)).2.2.2.2.2.2 = (up3 (fun _ => A) : S1x8x1024.Idx → EReal)) :
    (outsAt0 m c t.val t.isLt).2.2.2.2.2.2 = (up3 (fun _ r e => A r e + sd I (t.val / 8) (256 * (t.val % 8)) r e) : S1x8x1024.Idx → EReal) := by
  rw [outsAt0_B m c t h0 h1]
  dsimp only
  generalize (outsAt0 m c (t.val - 1) (Nat.lt_of_le_of_lt (Nat.sub_le _ _) t.isLt)) = prev at hA ⊢
  frame_out
  rw [b0 m c h t, b1 m c h t, b2 m c h t, b3 m c h t, b4 m c h t, b5 m c h t, b6 m c h t, b7 m c h t, b8 m c h t, b9 m c h t, b10 m c h t, b11 m c h t, b12 m c h t]
  generalize t.val / 8 = b
  generalize 256 * (t.val % 8) = s0
  rw [hA]
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t31, t32, t33, t39, t40, t41]
  simp only [t47]
  simp only [t18, t1]
  refine (wr3 (wr3 (wr3 (wr3 (A := A) ?_)))).trans (congrArg (fun f => up3 fun _ => f) (all4 I b s0 A))
  exact Memref.IsWhole.read_unread _ _

set_option maxHeartbeats 2000000 in
theorem x20C (h : Holds (fun b => m (c, b)) I) (t : Fin cfg0.N) (h0 : ¬t.val % 32 = 0) (h1 : t.val % 8 = 0)  :
    (outsAt0 m c t.val t.isLt).2.2.2.2.2.2 = (up3 (fun _ r e => 0 + sd I (t.val / 8) (256 * (t.val % 8)) r e) : S1x8x1024.Idx → EReal) := by
  rw [outsAt0_C m c t h0 h1]
  dsimp only
  generalize (outsAt0 m c (t.val - 1) (Nat.lt_of_le_of_lt (Nat.sub_le _ _) t.isLt)) = prev
  frame_out
  rw [b0 m c h t, b1 m c h t, b2 m c h t, b3 m c h t, b4 m c h t, b5 m c h t, b6 m c h t, b7 m c h t, b8 m c h t, b9 m c h t, b10 m c h t, b11 m c h t, b12 m c h t]
  generalize t.val / 8 = b
  generalize 256 * (t.val % 8) = s0
  simp only [ldRow, ldCol, ldPart, ldMod, mrow2, mrow3, mrow4, mrow5]
  simp only [t7, t8, t14, t15]
  simp only [t17, t19]
  simp only [tdu, tdu21, tdu27, tdu23, tdu24, tdu25, tdu28, tdu29]
  simp only [parts_read]
  simp only [t31, t32, t33, t39, t40, t41]
  simp only [t47]
  simp only [rd3, rz3, t18, t40, t41, t1, ne_eq, Nat.reduceEqDiff, not_false_eq_true]
  exact (cn3 (ms0_20 t).view (cn3 (ms0_20 t).view (cn3 (ms0_20 t).view (cn3 (ms0_20 t).view (cz3 (ms0_20 t).view _))))).trans (congrArg (fun f => up3 fun _ => f) (all4 I b s0 fun _ _ => 0))

end Cert.Out
end
-- ==== Proof.Up.Final.lean ====
module
public import proofs.«01_k».proof.Proof.Up.Out
@[expose] public section
set_option maxRecDepth 16384
noncomputable section
/-! The kernel's result arrays, whole. -/
namespace Cert.Final
open Cert.KernelIdeal Cert.KernelIdeal.Gen Cert.KernelIdeal.Value Idealize.ShloMosaic Idealize.ShloMosaic.TcCoe Idealize.SL.Sem
open Cert.Up Cert.Spec Cert.Tile Cert.Blk Cert.HostLift Cert.Acc Cert.Out
variable (m : (ℓ : Loc nD τ sig) → Buf (Elt Ideal) ℓ) (c : Dev nD) {I : In}

theorem o14 (h : Holds (fun b => m (c, b)) I) (t : Fin cfg0.N) :
    (outsAt0 m c t.val t.isLt).1 = up2 (tl (t.val / 8) (256 * (t.val % 8)) (dy1 I)) := by
  by_cases h0 : t.val % 32 = 0
  · exact x14A m c h t h0 (by omega)
  · by_cases h1 : t.val % 8 = 0
    · exact x14C m c h t h0 h1
    · exact x14B m c h t h0 h1

theorem j14 : ∀ t : Fin cfg0.N, win0_14.index t 0 = t.val ∧ win0_14.index t 1 = 0 :=
  (by decide +kernel : ∀ t : Fin grid0.N, win0_14.index t 0 = t.val ∧ win0_14.index t 1 = 0)
theorem k14 : ∀ t : Fin cfg0.N, win0_14.xsize (grid0.coords t) 0 = 256 ∧ win0_14.xsize (grid0.coords t) 1 = 1024 :=
  (by decide +kernel : ∀ t : Fin grid0.N, win0_14.xsize (grid0.coords t) 0 = 256 ∧ win0_14.xsize (grid0.coords t) 1 = 1024)

theorem f14 (h : Holds (fun b => m (c, b)) I) :
    (dats m 0 c).arrAt 14 cfg0.N = (up2 (flat (dy1 I)) : S8192x1024.Idx → EReal) := by
  refine (dats m 0 c).arrAt_eq_of_cover 14 _ (fun t _ => ?_) fun i => ?_
  · rw [flushed14, o14 m c h t]
    have hi := j14 t
    funext j
    have h0 : (j 0).val < 256 := (congrArg (fun n => (j 0).val < n) (k14 t).1).mp (j 0).isLt
    rw [View.read_apply]
    show (((dy1 I) (t.val / 8) (256 * (t.val % 8) + (j 0).val) (j 1).val : ℝ) : EReal) = ((flat (dy1 I) (win0_14.index t 0 * 256 + 1 * (j 0).val) (win0_14.index t 1 * 1024 + 1 * (j 1).val) : ℝ) : EReal)
    rw [hi.1, hi.2]
    unfold flat
    congr 2 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_14 _, ?_⟩
    have hi := j14 ⟨(i 0).val / 256, ht⟩
    have hk := k14 ⟨(i 0).val / 256, ht⟩
    show i ∈ ((View.whole main_v64_0).slice (win0_14.rect ⟨(i 0).val / 256, ht⟩)).set
    rw [View.set_slice_whole, Rect.mem_set_unit]
    intro a
    match a with
    | ⟨0, _⟩ =>
      show win0_14.index ⟨(i 0).val / 256, ht⟩ 0 * 256 ≤ (i 0).val ∧ (i 0).val < win0_14.index ⟨(i 0).val / 256, ht⟩ 0 * 256 + win0_14.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_14.index ⟨(i 0).val / 256, ht⟩ 1 * 1024 ≤ (i 1).val ∧ (i 1).val < win0_14.index ⟨(i 0).val / 256, ht⟩ 1 * 1024 + win0_14.xsize (grid0.coords ⟨(i 0).val / 256, ht⟩) 1
      rw [hi.2, hk.2]
      omega

theorem o15 (h : Holds (fun b => m (c, b)) I) (t : Fin cfg0.N) :
    (outsAt0 m c t.val t.isLt).2.1 = up2 (tl (t.val / 8) (256 * (t.val % 8)) (dmix I)) := by
  by_cases h0 : t.val % 32 = 0
  · exact x15A m c h t h0 (by omega)
  · by_cases h1 : t.val % 8 = 0
    · exact x15C m c h t h0 h1
    · exact x15B m c h t h0 h1

theorem j15 : ∀ t : Fin cfg0.N, win0_15.index t 0 = t.val ∧ win0_15.index t 1 = 0 :=
  (by decide +kernel : ∀ t : Fin grid0.N, win0_15.index t 0 = t.val ∧ win0_15.index t 1 = 0)
theorem k15 : ∀ t : Fin cfg0.N, win0_15.xsize (grid0.coords t) 0 = 256 ∧ win0_15.xsize (grid0.coords t) 1 = 1024 :=
  (by decide +kernel : ∀ t : Fin grid0.N, win0_15.xsize (grid0.coords t) 0 = 256 ∧ win0_15.xsize (grid0.coords t) 1 = 1024)

theorem f15 (h : Holds (fun b => m (c, b)) I) :
    (dats m 0 c).arrAt 15 cfg0.N = (up2 (flat (dmix I)) : S8192x1024.Idx → EReal) := by
  refine (dats m 0 c).arrAt_eq_of_cover 15 _ (fun t _ => ?_) fun i => ?_
  · rw [flushed15, o15 m c h t]
    have hi := j15 t
    funext j
    have h0 : (j 0).val < 256 := (congrArg (fun n => (j 0).val < n) (k15 t).1).mp (j 0).isLt
    rw [View.read_apply]
    show (((dmix I) (t.val / 8) (256 * (t.val % 8) + (j 0).val) (j 1).val : ℝ) : EReal) = ((flat (dmix I) (win0_15.index t 0 * 256 + 1 * (j 0).val) (win0_15.index t 1 * 1024 + 1 * (j 1).val) : ℝ) : EReal)
    rw [hi.1, hi.2]
    unfold flat
    congr 2 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_15 _, ?_⟩
    have hi := j15 ⟨(i 0).val / 256, ht⟩
    have hk := k15 ⟨(i 0).val / 256, ht⟩
    show i ∈ ((View.whole main_v64_1).slice (win0_15.rect ⟨(i 0).val / 256, ht⟩)).set
    rw [View.set_slice_whole, Rect.mem_set_unit]
    intro a
    match a with
    | ⟨0, _⟩ =>
      show win0_15.index ⟨(i 0).val / 256, ht⟩ 0 * 256 ≤ (i 0).val ∧ (i 0).val < win0_15.index ⟨(i 0).val / 256, ht⟩ 0 * 256 + win0_15.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_15.index ⟨(i 0).val / 256, ht⟩ 1 * 1024 ≤ (i 1).val ∧ (i 1).val < win0_15.index ⟨(i 0).val / 256, ht⟩ 1 * 1024 + win0_15.xsize (grid0.coords ⟨(i 0).val / 256, ht⟩) 1
      rw [hi.2, hk.2]
      omega

theorem o16 (h : Holds (fun b => m (c, b)) I) (t : Fin cfg0.N) :
    (outsAt0 m c t.val t.isLt).2.2.1 = up2 (tl (t.val / 8) (256 * (t.val % 8)) (dat I)) := by
  by_cases h0 : t.val % 32 = 0
  · exact x16A m c h t h0 (by omega)
  · by_cases h1 : t.val % 8 = 0
    · exact x16C m c h t h0 h1
    · exact x16B m c h t h0 h1

theorem j16 : ∀ t : Fin cfg0.N, win0_16.index t 0 = t.val ∧ win0_16.index t 1 = 0 :=
  (by decide +kernel : ∀ t : Fin grid0.N, win0_16.index t 0 = t.val ∧ win0_16.index t 1 = 0)
theorem k16 : ∀ t : Fin cfg0.N, win0_16.xsize (grid0.coords t) 0 = 256 ∧ win0_16.xsize (grid0.coords t) 1 = 1024 :=
  (by decide +kernel : ∀ t : Fin grid0.N, win0_16.xsize (grid0.coords t) 0 = 256 ∧ win0_16.xsize (grid0.coords t) 1 = 1024)

theorem f16 (h : Holds (fun b => m (c, b)) I) :
    (dats m 0 c).arrAt 16 cfg0.N = (up2 (flat (dat I)) : S8192x1024.Idx → EReal) := by
  refine (dats m 0 c).arrAt_eq_of_cover 16 _ (fun t _ => ?_) fun i => ?_
  · rw [flushed16, o16 m c h t]
    have hi := j16 t
    funext j
    have h0 : (j 0).val < 256 := (congrArg (fun n => (j 0).val < n) (k16 t).1).mp (j 0).isLt
    rw [View.read_apply]
    show (((dat I) (t.val / 8) (256 * (t.val % 8) + (j 0).val) (j 1).val : ℝ) : EReal) = ((flat (dat I) (win0_16.index t 0 * 256 + 1 * (j 0).val) (win0_16.index t 1 * 1024 + 1 * (j 1).val) : ℝ) : EReal)
    rw [hi.1, hi.2]
    unfold flat
    congr 2 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_16 _, ?_⟩
    have hi := j16 ⟨(i 0).val / 256, ht⟩
    have hk := k16 ⟨(i 0).val / 256, ht⟩
    show i ∈ ((View.whole main_v64_2).slice (win0_16.rect ⟨(i 0).val / 256, ht⟩)).set
    rw [View.set_slice_whole, Rect.mem_set_unit]
    intro a
    match a with
    | ⟨0, _⟩ =>
      show win0_16.index ⟨(i 0).val / 256, ht⟩ 0 * 256 ≤ (i 0).val ∧ (i 0).val < win0_16.index ⟨(i 0).val / 256, ht⟩ 0 * 256 + win0_16.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_16.index ⟨(i 0).val / 256, ht⟩ 1 * 1024 ≤ (i 1).val ∧ (i 1).val < win0_16.index ⟨(i 0).val / 256, ht⟩ 1 * 1024 + win0_16.xsize (grid0.coords ⟨(i 0).val / 256, ht⟩) 1
      rw [hi.2, hk.2]
      omega

theorem o17 (h : Holds (fun b => m (c, b)) I) (t : Fin cfg0.N) :
    (outsAt0 m c t.val t.isLt).2.2.2.1 = up2 (tl (t.val / 8) (256 * (t.val % 8)) (dff I)) := by
  by_cases h0 : t.val % 32 = 0
  · exact x17A m c h t h0 (by omega)
  · by_cases h1 : t.val % 8 = 0
    · exact x17C m c h t h0 h1
    · exact x17B m c h t h0 h1

theorem j17 : ∀ t : Fin cfg0.N, win0_17.index t 0 = t.val ∧ win0_17.index t 1 = 0 :=
  (by decide +kernel : ∀ t : Fin grid0.N, win0_17.index t 0 = t.val ∧ win0_17.index t 1 = 0)
theorem k17 : ∀ t : Fin cfg0.N, win0_17.xsize (grid0.coords t) 0 = 256 ∧ win0_17.xsize (grid0.coords t) 1 = 1024 :=
  (by decide +kernel : ∀ t : Fin grid0.N, win0_17.xsize (grid0.coords t) 0 = 256 ∧ win0_17.xsize (grid0.coords t) 1 = 1024)

theorem f17 (h : Holds (fun b => m (c, b)) I) :
    (dats m 0 c).arrAt 17 cfg0.N = (up2 (flat (dff I)) : S8192x1024.Idx → EReal) := by
  refine (dats m 0 c).arrAt_eq_of_cover 17 _ (fun t _ => ?_) fun i => ?_
  · rw [flushed17, o17 m c h t]
    have hi := j17 t
    funext j
    have h0 : (j 0).val < 256 := (congrArg (fun n => (j 0).val < n) (k17 t).1).mp (j 0).isLt
    rw [View.read_apply]
    show (((dff I) (t.val / 8) (256 * (t.val % 8) + (j 0).val) (j 1).val : ℝ) : EReal) = ((flat (dff I) (win0_17.index t 0 * 256 + 1 * (j 0).val) (win0_17.index t 1 * 1024 + 1 * (j 1).val) : ℝ) : EReal)
    rw [hi.1, hi.2]
    unfold flat
    congr 2 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_17 _, ?_⟩
    have hi := j17 ⟨(i 0).val / 256, ht⟩
    have hk := k17 ⟨(i 0).val / 256, ht⟩
    show i ∈ ((View.whole main_v64_3).slice (win0_17.rect ⟨(i 0).val / 256, ht⟩)).set
    rw [View.set_slice_whole, Rect.mem_set_unit]
    intro a
    match a with
    | ⟨0, _⟩ =>
      show win0_17.index ⟨(i 0).val / 256, ht⟩ 0 * 256 ≤ (i 0).val ∧ (i 0).val < win0_17.index ⟨(i 0).val / 256, ht⟩ 0 * 256 + win0_17.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_17.index ⟨(i 0).val / 256, ht⟩ 1 * 1024 ≤ (i 1).val ∧ (i 1).val < win0_17.index ⟨(i 0).val / 256, ht⟩ 1 * 1024 + win0_17.xsize (grid0.coords ⟨(i 0).val / 256, ht⟩) 1
      rw [hi.2, hk.2]
      omega

theorem o18 (h : Holds (fun b => m (c, b)) I) (t : Fin cfg0.N) :
    (outsAt0 m c t.val t.isLt).2.2.2.2.1 = up2 (tl (t.val / 8) (256 * (t.val % 8)) (du I)) := by
  by_cases h0 : t.val % 32 = 0
  · exact x18A m c h t h0 (by omega)
  · by_cases h1 : t.val % 8 = 0
    · exact x18C m c h t h0 h1
    · exact x18B m c h t h0 h1

theorem j18 : ∀ t : Fin cfg0.N, win0_18.index t 0 = t.val ∧ win0_18.index t 1 = 0 :=
  (by decide +kernel : ∀ t : Fin grid0.N, win0_18.index t 0 = t.val ∧ win0_18.index t 1 = 0)
theorem k18 : ∀ t : Fin cfg0.N, win0_18.xsize (grid0.coords t) 0 = 256 ∧ win0_18.xsize (grid0.coords t) 1 = 4096 :=
  (by decide +kernel : ∀ t : Fin grid0.N, win0_18.xsize (grid0.coords t) 0 = 256 ∧ win0_18.xsize (grid0.coords t) 1 = 4096)

theorem f18 (h : Holds (fun b => m (c, b)) I) :
    (dats m 0 c).arrAt 18 cfg0.N = (up2 (flat (du I)) : S8192x4096.Idx → EReal) := by
  refine (dats m 0 c).arrAt_eq_of_cover 18 _ (fun t _ => ?_) fun i => ?_
  · rw [flushed18, o18 m c h t]
    have hi := j18 t
    funext j
    have h0 : (j 0).val < 256 := (congrArg (fun n => (j 0).val < n) (k18 t).1).mp (j 0).isLt
    rw [View.read_apply]
    show (((du I) (t.val / 8) (256 * (t.val % 8) + (j 0).val) (j 1).val : ℝ) : EReal) = ((flat (du I) (win0_18.index t 0 * 256 + 1 * (j 0).val) (win0_18.index t 1 * 4096 + 1 * (j 1).val) : ℝ) : EReal)
    rw [hi.1, hi.2]
    unfold flat
    congr 2 <;> omega
  · have hN : cfg0.N = 32 := N_0
    have h0 : (i 0).val < 8192 := (i 0).isLt
    have h1 : (i 1).val < 4096 := (i 1).isLt
    have ht : (i 0).val / 256 < cfg0.N := by rw [hN]; omega
    refine ⟨⟨(i 0).val / 256, ht⟩, flush0_18 _, ?_⟩
    have hi := j18 ⟨(i 0).val / 256, ht⟩
    have hk := k18 ⟨(i 0).val / 256, ht⟩
    show i ∈ ((View.whole main_v64_4).slice (win0_18.rect ⟨(i 0).val / 256, ht⟩)).set
    rw [View.set_slice_whole, Rect.mem_set_unit]
    intro a
    match a with
    | ⟨0, _⟩ =>
      show win0_18.index ⟨(i 0).val / 256, ht⟩ 0 * 256 ≤ (i 0).val ∧ (i 0).val < win0_18.index ⟨(i 0).val / 256, ht⟩ 0 * 256 + win0_18.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_18.index ⟨(i 0).val / 256, ht⟩ 1 * 4096 ≤ (i 1).val ∧ (i 1).val < win0_18.index ⟨(i 0).val / 256, ht⟩ 1 * 4096 + win0_18.xsize (grid0.coords ⟨(i 0).val / 256, ht⟩) 1
      rw [hi.2, hk.2]
      omega

/-! ## The running sums -/

/-- The sums' rows after point `n`: everything up to it. -/
theorem o19 (h : Holds (fun b => m (c, b)) I) : ∀ (n : ℕ) (hn : n < cfg0.N),
    (outsAt0 m c n hn).2.2.2.2.2.1 = (up2 (fun r e => ∑ p ∈ Finset.range (n + 1), sa I (p / 8) (256 * (p % 8)) r e) : S8x1024.Idx → EReal)
  | 0, hn => by
    refine (x19A m c h ⟨0, hn⟩ rfl rfl).trans (congrArg up2 (funext fun r => funext fun e => ?_))
    rw [Finset.sum_range_one, zero_add]
  | n + 1, hn => by
    have hN : cfg0.N = 32 := N_0
    have h0 : ¬(⟨n + 1, hn⟩ : Fin cfg0.N).val % 32 = 0 := by dsimp only; omega
    have ih := o19 h n (by omega)
    have step : (outsAt0 m c (n + 1) hn).2.2.2.2.2.1 = (up2 (fun r e => (∑ p ∈ Finset.range (n + 1), sa I (p / 8) (256 * (p % 8)) r e) + sa I ((n + 1) / 8) (256 * ((n + 1) % 8)) r e) : S8x1024.Idx → EReal) := by
      by_cases h1 : (⟨n + 1, hn⟩ : Fin cfg0.N).val % 8 = 0
      · exact x19C m c h ⟨n + 1, hn⟩ h0 h1 _ ih
      · exact x19B m c h ⟨n + 1, hn⟩ h0 h1 _ ih
    refine step.trans (congrArg up2 (funext fun r => funext fun e => ?_))
    rw [Finset.sum_range_succ _ (n + 1)]

/-- The modulation's rows after point `n`: everything of its batch row up to it. -/
theorem o20 (h : Holds (fun b => m (c, b)) I) : ∀ (n : ℕ) (hn : n < cfg0.N),
    (outsAt0 m c n hn).2.2.2.2.2.2 = (up3 (fun _ r e => ∑ p ∈ Finset.range (n % 8 + 1), sd I (n / 8) (256 * p) r e) : S1x8x1024.Idx → EReal)
  | 0, hn => by
    refine (x20A m c h ⟨0, hn⟩ rfl rfl).trans (congrArg up3 (funext fun _ => funext fun r => funext fun e => ?_))
    show _ = ∑ p ∈ Finset.range 1, _
    rw [Finset.sum_range_one, zero_add]
    rfl
  | n + 1, hn => by
    have hN : cfg0.N = 32 := N_0
    have h0 : ¬(⟨n + 1, hn⟩ : Fin cfg0.N).val % 32 = 0 := by dsimp only; omega
    by_cases h1 : (⟨n + 1, hn⟩ : Fin cfg0.N).val % 8 = 0
    · refine (x20C m c h ⟨n + 1, hn⟩ h0 h1).trans (congrArg up3 (funext fun _ => funext fun r => funext fun e => ?_))
      have h2 : (n + 1) % 8 = 0 := h1
      show 0 + sd I ((n + 1) / 8) (256 * ((n + 1) % 8)) r e = _
      rw [h2, Finset.sum_range_one, zero_add]
    · have ih := o20 h n (by omega)
      have h2 : ¬(n + 1) % 8 = 0 := h1
      refine (x20B m c h ⟨n + 1, hn⟩ h0 h1 _ ih).trans (congrArg up3 (funext fun _ => funext fun r => funext fun e => ?_))
      show (∑ p ∈ Finset.range (n % 8 + 1), sd I (n / 8) (256 * p) r e) + sd I ((n + 1) / 8) (256 * ((n + 1) % 8)) r e = _
      rw [show n / 8 = (n + 1) / 8 by omega, show n % 8 + 1 = (n + 1) % 8 by omega, Finset.sum_range_succ]

/-- Sums over 256 positions at a time are the sum over the row. -/
theorem row_sum (f : ℕ → ℝ) : (∑ p ∈ Finset.range 8, ∑ i : Fin 256, f (256 * p + i)) = ∑ s : Fin 2048, f s := by
  rw [Fin.sum_univ_eq_sum_range (fun k => f k) 2048, show (2048 : ℕ) = 8 * 256 from rfl, Finset.sum_range_mul_split]
  refine Finset.sum_congr rfl fun p _ => ?_
  rw [Fin.sum_univ_eq_sum_range (fun k => f (256 * p + k)) 256]
  refine Finset.sum_congr rfl fun i _ => ?_
  congr 1
  ring

/-- Thirty-two points are eight of each of four batch rows. -/
theorem points_sum (g : ℕ → ℕ → ℝ) : (∑ p ∈ Finset.range 32, g (p / 8) (p % 8)) = ∑ b : Fin 4, ∑ p ∈ Finset.range 8, g b p := by
  rw [Fin.sum_univ_eq_sum_range (fun k => ∑ p ∈ Finset.range 8, g k p) 4, show (32 : ℕ) = 4 * 8 from rfl, Finset.sum_range_mul_split]
  refine Finset.sum_congr rfl fun b _ => Finset.sum_congr rfl fun p hp => ?_
  have := Finset.mem_range.mp hp
  congr 1 <;> omega

theorem j19 : ∀ t : Fin cfg0.N, win0_19.index t 0 = 0 ∧ win0_19.index t 1 = 0 :=
  (by decide +kernel : ∀ t : Fin grid0.N, win0_19.index t 0 = 0 ∧ win0_19.index t 1 = 0)
theorem k19 : ∀ t : Fin cfg0.N, win0_19.xsize (grid0.coords t) 0 = 8 ∧ win0_19.xsize (grid0.coords t) 1 = 1024 :=
  (by decide +kernel : ∀ t : Fin grid0.N, win0_19.xsize (grid0.coords t) 0 = 8 ∧ win0_19.xsize (grid0.coords t) 1 = 1024)

theorem f19 (h : Holds (fun b => m (c, b)) I) :
    (dats m 0 c).arrAt 19 cfg0.N = (up2 (accs I) : S8x1024.Idx → EReal) := by
  have hN : cfg0.N = 32 := N_0
  refine (dats m 0 c).arrAt_eq_of_cover 19 _ (fun t hf => ?_) fun i => ?_
  · have h31 := (flush0_19 t).mp hf
    have h32 : t.val = 31 := by have := t.isLt; omega
    rw [flushed19, o19 m c h t.val t.isLt, h32]
    have hi := j19 t
    funext j
    rw [View.read_apply]
    show (((∑ p ∈ Finset.range 32, sa I (p / 8) (256 * (p % 8)) (j 0).val (j 1).val) : ℝ) : EReal) = ((accs I (win0_19.index t 0 * 8 + 1 * (j 0).val) (win0_19.index t 1 * 1024 + 1 * (j 1).val) : ℝ) : EReal)
    rw [hi.1, hi.2, Nat.zero_mul, Nat.zero_add, Nat.one_mul, Nat.zero_add, Nat.one_mul, accs_eq,
      points_sum (fun b p => sa I b (256 * p) (j 0).val (j 1).val)]
    refine congrArg Real.toEReal (Finset.sum_congr rfl fun b _ => ?_)
    exact row_sum fun s => qa I (j 0).val b s (j 1).val
  · have h0 : (i 0).val < 8 := (i 0).isLt
    have h1 : (i 1).val < 1024 := (i 1).isLt
    have ht : 31 < cfg0.N := by omega
    refine ⟨⟨31, ht⟩, (flush0_19 _).mpr rfl, ?_⟩
    have hi := j19 ⟨31, ht⟩
    have hk := k19 ⟨31, ht⟩
    show i ∈ ((View.whole main_v64_5).slice (win0_19.rect ⟨31, ht⟩)).set
    rw [View.set_slice_whole, Rect.mem_set_unit]
    intro a
    match a with
    | ⟨0, _⟩ =>
      show win0_19.index ⟨31, ht⟩ 0 * 8 ≤ (i 0).val ∧ (i 0).val < win0_19.index ⟨31, ht⟩ 0 * 8 + win0_19.xsize (grid0.coords ⟨31, ht⟩) 0
      rw [hi.1, hk.1]; omega
    | ⟨1, _⟩ =>
      show win0_19.index ⟨31, ht⟩ 1 * 1024 ≤ (i 1).val ∧ (i 1).val < win0_19.index ⟨31, ht⟩ 1 * 1024 + win0_19.xsize (grid0.coords ⟨31, ht⟩) 1
      rw [hi.2, hk.2]; omega

theorem j20 : ∀ t : Fin cfg0.N, win0_20.index t 0 = t.val / 8 ∧ win0_20.index t 1 = 0 ∧ win0_20.index t 2 = 0 :=
  (by decide +kernel : ∀ t : Fin grid0.N, win0_20.index t 0 = t.val / 8 ∧ win0_20.index t 1 = 0 ∧ win0_20.index t 2 = 0)
theorem k20 : ∀ t : Fin cfg0.N, win0_20.xsize (grid0.coords t) 0 = 1 ∧ win0_20.xsize (grid0.coords t) 1 = 8 ∧ win0_20.xsize (grid0.coords t) 2 = 1024 :=
  (by decide +kernel : ∀ t : Fin grid0.N, win0_20.xsize (grid0.coords t) 0 = 1 ∧ win0_20.xsize (grid0.coords t) 1 = 8 ∧ win0_20.xsize (grid0.coords t) 2 = 1024)

theorem f20 (h : Holds (fun b => m (c, b)) I) :
    (dats m 0 c).arrAt 20 cfg0.N = (up3 (dmods I) : S4x8x1024.Idx → EReal) := by
  have hN : cfg0.N = 32 := N_0
  refine (dats m 0 c).arrAt_eq_of_cover 20 _ (fun t hf => ?_) fun i => ?_
  · have h7 := (flush0_20 t).mp hf
    rw [flushed20, o20 m c h t.val t.isLt, h7]
    have hi := j20 t
    funext j
    have hj : (j 0).val < 1 := (congrArg (fun n => (j 0).val < n) (k20 t).1).mp (j 0).isLt
    rw [View.read_apply]
    show (((∑ p ∈ Finset.range 8, sd I (t.val / 8) (256 * p) (j 1).val (j 2).val) : ℝ) : EReal)
      = ((dmods I (win0_20.index t 0 * 1 + 1 * (j 0).val) (win0_20.index t 1 * 8 + 1 * (j 1).val) (win0_20.index t 2 * 1024 + 1 * (j 2).val) : ℝ) : EReal)
    rw [hi.1, hi.2.1, hi.2.2, show t.val / 8 * 1 + 1 * (j 0).val = t.val / 8 by omega, Nat.zero_mul, Nat.zero_add, Nat.one_mul, Nat.zero_add, Nat.one_mul, dmods_eq]
    exact congrArg Real.toEReal (row_sum fun s => qd I (j 1).val (t.val / 8) s (j 2).val)
  · have h0 : (i 0).val < 4 := (i 0).isLt
    have h1 : (i 1).val < 8 := (i 1).isLt
    have h2 : (i 2).val < 1024 := (i 2).isLt
    have ht : 8 * (i 0).val + 7 < cfg0.N := by omega
    refine ⟨⟨8 * (i 0).val + 7, ht⟩, (flush0_20 _).mpr (by show (8 * (i 0).val + 7) % 8 = 7; omega), ?_⟩
    have hi := j20 ⟨8 * (i 0).val + 7, ht⟩
    have hk := k20 ⟨8 * (i 0).val + 7, ht⟩
    show i ∈ ((View.whole main_v64_6).slice (win0_20.rect ⟨8 * (i 0).val + 7, ht⟩)).set
    rw [View.set_slice_whole, Rect.mem_set_unit]
    intro a
    match a with
    | ⟨0, _⟩ =>
      show win0_20.index ⟨8 * (i 0).val + 7, ht⟩ 0 * 1 ≤ (i 0).val ∧ (i 0).val < win0_20.index ⟨8 * (i 0).val + 7, ht⟩ 0 * 1 + win0_20.xsize (grid0.coords ⟨8 * (i 0).val + 7, ht⟩) 0
      rw [hi.1, hk.1]
      show (8 * (i 0).val + 7) / 8 * 1 ≤ (i 0).val ∧ (i 0).val < (8 * (i 0).val + 7) / 8 * 1 + 1
      omega
    | ⟨1, _⟩ =>
      show win0_20.index ⟨8 * (i 0).val + 7, ht⟩ 1 * 8 ≤ (i 1).val ∧ (i 1).val < win0_20.index ⟨8 * (i 0).val + 7, ht⟩ 1 * 8 + win0_20.xsize (grid0.coords ⟨8 * (i 0).val + 7, ht⟩) 1
      rw [hi.2.1, hk.2.1]; omega
    | ⟨2, _⟩ =>
      show win0_20.index ⟨8 * (i 0).val + 7, ht⟩ 2 * 1024 ≤ (i 2).val ∧ (i 2).val < win0_20.index ⟨8 * (i 0).val + 7, ht⟩ 2 * 1024 + win0_20.xsize (grid0.coords ⟨8 * (i 0).val + 7, ht⟩) 2
      rw [hi.2.2, hk.2.2]; omega

end Cert.Final
end
-- ==== Proof.Up.Ref.lean ====
/- Each named value of the reference's program, as the array of the real number it stands for. -/
module

public import proofs.«01_k».proof.Proof.Up.Spec
public import proofs.«01_k».proof.Proof.Gen.ReferenceIdeal.Run

@[expose] public section

set_option maxRecDepth 16384

noncomputable section

namespace Cert.RefLift

open Cert.ReferenceIdeal Cert.ReferenceIdeal.Gen Cert.ReferenceIdeal.Value Idealize.ShloMosaic Idealize.ShloMosaic.TcCoe Idealize.SL.Sem
open Cert.Up Cert.Spec

variable (V : Valuation τ sig (Elt Ideal)) (I : In)

/-- The program's arguments hold the real numbers of `I`. -/
structure Holds : Prop where
  a0 : (V (Proc.devRef .tc main_arg0) : S4x2048x1024.Idx → EReal) = up3 I.x
  a1 : (V (Proc.devRef .tc main_arg1) : S4x2048x1024.Idx → EReal) = up3 I.att
  a2 : (V (Proc.devRef .tc main_arg2) : S4x6144.Idx → EReal) = up2 I.mod
  a3 : (V (Proc.devRef .tc main_arg3) : S1024x1024.Idx → EReal) = up2 I.wo
  a4 : (V (Proc.devRef .tc main_arg4) : S1x1024.Idx → EReal) = up2 fun _ c => I.g1 c
  a5 : (V (Proc.devRef .tc main_arg5) : S1x1024.Idx → EReal) = up2 fun _ c => I.b1 c
  a6 : (V (Proc.devRef .tc main_arg6) : S1024x4096.Idx → EReal) = up2 I.wu
  a7 : (V (Proc.devRef .tc main_arg7) : S4096x1024.Idx → EReal) = up2 I.wd
  a8 : (V (Proc.devRef .tc main_arg8) : S1x1024.Idx → EReal) = up2 fun _ c => I.g2 c
  a9 : (V (Proc.devRef .tc main_arg9) : S1x1024.Idx → EReal) = up2 fun _ c => I.b2 c
  a10 : (V (Proc.devRef .tc main_arg10) : S4x2048x1024.Idx → EReal) = up3 I.tg

variable {V I}

theorem v11 (h : Holds V I) : (res_main_v11 V : S4x1x1024.Idx → EReal) = up3 fun b _ c => md I 5 b c := by
  unfold res_main_v11
  rw [h.a2]
  funext j; idx_vars j
  pointwise [up2, up3]
  rfl

theorem v12 (h : Holds V I) : (res_main_v12 V : S4x2048x1024.Idx → EReal) = up3 (mix I) := by
  unfold res_main_v12
  rw [h.a1, h.a3]
  funext j; idx_vars j
  pointwise [up2, up3]
  rfl

theorem v16 (h : Holds V I) : (res_main_v16 V : S4x1x1024.Idx → EReal) = up3 fun b _ c => 1 + md I 2 b c := by
  unfold res_main_v16
  rw [h.a2]
  funext j; idx_vars j
  pointwise [up2, up3]
  rfl

theorem v19 (h : Holds V I) : (res_main_v19 V : S4x2048x1024.Idx → EReal) = up3 (y1 I) := by
  unfold res_main_v19
  rw [h.a0, v16 h, v12 h]
  funext j; idx_vars j
  pointwise [up2, up3]
  rfl

theorem v25 (h : Holds V I) : (res_main_v25 V : S4x2048x1.Idx → EReal) = up3 fun b s _ => mean (y1 I b s) := by
  unfold res_main_v25
  rw [v19 h]
  funext j; idx_vars j
  pointwise [up2, up3]
  rfl

theorem v27 (h : Holds V I) : (res_main_v27 V : S4x2048x1024.Idx → EReal) = up3 fun b s c => ctr (y1 I b s) c := by
  unfold res_main_v27
  rw [v19 h, v25 h]
  funext j; idx_vars j
  pointwise [up2, up3]
  rfl

theorem v36 (h : Holds V I) : (res_main_v36 V : S4x2048x1024.Idx → EReal) = up3 fun b s c => ctr (y1 I b s) c := by
  unfold res_main_v36
  rw [v19 h, v25 h]
  funext j; idx_vars j
  pointwise [up2, up3]
  rfl

theorem v38 (h : Holds V I) : (res_main_v38 V : S4x2048x1.Idx → EReal) = up3 fun b s _ => mean (fun k => ctr (y1 I b s) k * ctr (y1 I b s) k) + eps := by
  unfold res_main_v38
  rw [v27 h]
  funext j; idx_vars j
  pointwise [up2, up3]
  rfl

theorem v39 (h : Holds V I) : (res_main_v39 V : S4x2048x1.Idx → EReal) = up3 fun b s _ => rstd (y1 I b s) := by
  unfold res_main_v39
  rw [v38 h]
  funext j; idx_vars j
  pointwise [up2, up3]
  exact rsqrt_var _

theorem v44 (h : Holds V I) : (res_main_v44 V : S4x2048x1024.Idx → EReal) = up3 fun b s c => nrm (y1 I b s) c := by
  unfold res_main_v44
  rw [v36 h, v39 h]
  funext j; idx_vars j
  pointwise [up2, up3]
  rfl

theorem v45 (h : Holds V I) : (res_main_v45 V : S1x1x1024.Idx → EReal) = up3 fun _ _ c => I.g1 c := by
  unfold res_main_v45
  rw [h.a4]
  funext j; idx_vars j
  pointwise [up2, up3]

theorem v50 (h : Holds V I) : (res_main_v50 V : S4x2048x1024.Idx → EReal) = up3 (x1 I) := by
  unfold res_main_v50
  rw [v44 h, v45 h, h.a5]
  funext j; idx_vars j
  pointwise [up2, up3]
  rfl

theorem v52 (h : Holds V I) : (res_main_v52 V : S4x1x1024.Idx → EReal) = up3 fun b _ c => 1 + md I 4 b c := by
  unfold res_main_v52
  rw [h.a2]
  funext j; idx_vars j
  pointwise [up2, up3]
  rfl

theorem v57 (h : Holds V I) : (res_main_v57 V : S4x2048x4096.Idx → EReal) = up3 (u I) := by
  unfold res_main_v57
  rw [v50 h, v52 h, h.a2, h.a6]
  funext j; idx_vars j
  pointwise [up2, up3]
  rfl

theorem v58 (h : Holds V I) : (res_main_v58 V : S4x2048x4096.Idx → EReal) = up3 fun b s e => max (u I b s e) 0 := by
  unfold res_main_v58
  rw [v57 h]
  funext j; idx_vars j
  pointwise [up2, up3]

theorem v65 (h : Holds V I) : (res_main_v65 V : S4x2048x1024.Idx → EReal) = up3 (ff I) := by
  unfold res_main_v65
  rw [v58 h, h.a7]
  funext j; idx_vars j
  pointwise [up2, up3]
  rfl

theorem v71 (h : Holds V I) : (res_main_v71 V : S4x1x1024.Idx → EReal) = up3 fun b _ c => 1 + md I 5 b c := by
  unfold res_main_v71
  rw [v11 h]
  funext j; idx_vars j
  pointwise [up2, up3]

theorem v74 (h : Holds V I) : (res_main_v74 V : S4x2048x1024.Idx → EReal) = up3 (y2 I) := by
  unfold res_main_v74
  rw [v50 h, v71 h, v65 h]
  funext j; idx_vars j
  pointwise [up2, up3]
  rfl

theorem v78 (h : Holds V I) : (res_main_v78 V : S4x2048x1.Idx → EReal) = up3 fun b s _ => mean (y2 I b s) := by
  unfold res_main_v78
  rw [v74 h]
  funext j; idx_vars j
  pointwise [up2, up3]
  rfl

theorem v80 (h : Holds V I) : (res_main_v80 V : S4x2048x1024.Idx → EReal) = up3 fun b s c => ctr (y2 I b s) c := by
  unfold res_main_v80
  rw [v74 h, v78 h]
  funext j; idx_vars j
  pointwise [up2, up3]
  rfl

theorem v89 (h : Holds V I) : (res_main_v89 V : S4x2048x1024.Idx → EReal) = up3 fun b s c => ctr (y2 I b s) c := by
  unfold res_main_v89
  rw [v74 h, v78 h]
  funext j; idx_vars j
  pointwise [up2, up3]
  rfl

theorem v91 (h : Holds V I) : (res_main_v91 V : S4x2048x1.Idx → EReal) = up3 fun b s _ => mean (fun k => ctr (y2 I b s) k * ctr (y2 I b s) k) + eps := by
  unfold res_main_v91
  rw [v80 h]
  funext j; idx_vars j
  pointwise [up2, up3]
  rfl

theorem v92 (h : Holds V I) : (res_main_v92 V : S4x2048x1.Idx → EReal) = up3 fun b s _ => rstd (y2 I b s) := by
  unfold res_main_v92
  rw [v91 h]
  funext j; idx_vars j
  pointwise [up2, up3]
  exact rsqrt_var _

theorem v97 (h : Holds V I) : (res_main_v97 V : S4x2048x1024.Idx → EReal) = up3 fun b s c => nrm (y2 I b s) c := by
  unfold res_main_v97
  rw [v89 h, v92 h]
  funext j; idx_vars j
  pointwise [up2, up3]
  rfl

theorem v98 (h : Holds V I) : (res_main_v98 V : S1x1x1024.Idx → EReal) = up3 fun _ _ c => I.g2 c := by
  unfold res_main_v98
  rw [h.a8]
  funext j; idx_vars j
  pointwise [up2, up3]

theorem v104 (h : Holds V I) : (res_main_v104 V : S4x2048x1024.Idx → EReal) = up3 (diff I) := by
  unfold res_main_v104
  rw [v97 h, v98 h, h.a9, h.a10]
  funext j; idx_vars j
  pointwise [up2, up3]
  rfl

theorem v118 (h : Holds V I) : (res_main_v118 V : S4x2048x1024.Idx → EReal) = up3 (dz I) := by
  unfold res_main_v118
  rw [v104 h]
  funext j; idx_vars j
  pointwise [up2, up3]
  congr 1; unfold dz; ring

theorem v126 (h : Holds V I) : (res_main_v126 V : S4x2048x1024.Idx → EReal) = up3 fun b s c => dz I b s c * I.g2 c := by
  unfold res_main_v126
  rw [v118 h, v98 h]
  funext j; idx_vars j
  pointwise [up2, up3]

theorem v132 (h : Holds V I) : (res_main_v132 V : S4x2048x1024.Idx → EReal) = up3 fun b s c => dz I b s c * I.g2 c * rstd (y2 I b s) := by
  unfold res_main_v132
  rw [v126 h, v92 h]
  funext j; idx_vars j
  pointwise [up2, up3]

theorem v141 (h : Holds V I) : (res_main_v141 V : S4x2048x1024.Idx → EReal) = up3 fun b s c => lnv (y2 I b s) (fun k => dz I b s k * I.g2 k) c := by
  unfold res_main_v141
  rw [v126 h, v89 h, v92 h, v91 h, v80 h]
  funext j; idx_vars j
  pointwise [up2, up3]
  rw [Fin.sum_univ_one]; rfl

theorem v151 (h : Holds V I) : (res_main_v151 V : S4x2048x1024.Idx → EReal) = up3 (dy2 I) := by
  unfold res_main_v151
  rw [v132 h, v141 h]
  funext j; idx_vars j
  pointwise [up2, up3]
  rw [Fin.sum_univ_one]; exact congrArg _ (ln_bwd (y2 I j0 j1) (fun k => dz I j0 j1 k * I.g2 k) j2)

theorem v153 (h : Holds V I) : (res_main_v153 V : S4x2048x1024.Idx → EReal) = up3 (dff I) := by
  unfold res_main_v153
  rw [v71 h, v151 h]
  funext j; idx_vars j
  pointwise [up2, up3]
  rfl

theorem v162 (h : Holds V I) : (res_main_v162 V : S4x2048x4096.Idx → EReal) = up3 (du I) := by
  unfold res_main_v162
  rw [v57 h, v153 h, v58 h, h.a7]
  funext j; idx_vars j
  pointwise [up2, up3]
  simp only [EReal.coe_pos]; unfold du; split_ifs with hu; · rfl
  · rw [max_eq_right (not_lt.mp hu), mul_zero, mul_zero, EReal.coe_zero]

theorem v163 (h : Holds V I) : (res_main_v163 V : S4x2048x1024.Idx → EReal) = up3 (dh2 I) := by
  unfold res_main_v163
  rw [v162 h, h.a6]
  funext j; idx_vars j
  pointwise [up2, up3]
  rfl

theorem v171 (h : Holds V I) : (res_main_v171 V : S4x2048x1024.Idx → EReal) = up3 (dx1 I) := by
  unfold res_main_v171
  rw [v151 h, v163 h, v52 h]
  funext j; idx_vars j
  pointwise [up2, up3]
  rfl

theorem v179 (h : Holds V I) : (res_main_v179 V : S4x2048x1024.Idx → EReal) = up3 fun b s c => dx1 I b s c * I.g1 c := by
  unfold res_main_v179
  rw [v171 h, v45 h]
  funext j; idx_vars j
  pointwise [up2, up3]

theorem v185 (h : Holds V I) : (res_main_v185 V : S4x2048x1024.Idx → EReal) = up3 fun b s c => dx1 I b s c * I.g1 c * rstd (y1 I b s) := by
  unfold res_main_v185
  rw [v179 h, v39 h]
  funext j; idx_vars j
  pointwise [up2, up3]

theorem v194 (h : Holds V I) : (res_main_v194 V : S4x2048x1024.Idx → EReal) = up3 fun b s c => lnv (y1 I b s) (fun k => dx1 I b s k * I.g1 k) c := by
  unfold res_main_v194
  rw [v179 h, v36 h, v39 h, v38 h, v27 h]
  funext j; idx_vars j
  pointwise [up2, up3]
  rw [Fin.sum_univ_one]; rfl

theorem v204 (h : Holds V I) : (res_main_v204 V : S4x2048x1024.Idx → EReal) = up3 (dy1 I) := by
  unfold res_main_v204
  rw [v185 h, v194 h]
  funext j; idx_vars j
  pointwise [up2, up3]
  rw [Fin.sum_univ_one]; exact congrArg _ (ln_bwd (y1 I j0 j1) (fun k => dx1 I j0 j1 k * I.g1 k) j2)

theorem v206 (h : Holds V I) : (res_main_v206 V : S4x2048x1024.Idx → EReal) = up3 (dmix I) := by
  unfold res_main_v206
  rw [v16 h, v204 h]
  funext j; idx_vars j
  pointwise [up2, up3]
  rfl

theorem v217 (h : Holds V I) : (res_main_v217 V : S4x2048x1024.Idx → EReal) = up3 (y2 I) := by
  unfold res_main_v217
  rw [v50 h, v11 h, v65 h]
  funext j; idx_vars j
  pointwise [up2, up3]
  rfl

theorem v223 (h : Holds V I) : (res_main_v223 V : S4x2048x1.Idx → EReal) = up3 fun b s _ => mean (y2 I b s) := by
  unfold res_main_v223
  rw [v217 h]
  funext j; idx_vars j
  pointwise [up2, up3]
  rfl

theorem v225 (h : Holds V I) : (res_main_v225 V : S4x2048x1024.Idx → EReal) = up3 fun b s c => ctr (y2 I b s) c := by
  unfold res_main_v225
  rw [v217 h, v223 h]
  funext j; idx_vars j
  pointwise [up2, up3]
  rfl

theorem v244 (h : Holds V I) : (res_main_v244 V : S4x2048x1024.Idx → EReal) = up3 (diff I) := by
  unfold res_main_v244
  rw [v217 h, v223 h, v225 h, h.a8, h.a9, h.a10]
  funext j; idx_vars j
  pointwise [up2, up3]
  rw [rsqrt_var, mul_real, mul_real, add_real, sub_real]; rfl

theorem rDy1 (h : Holds V I) : (shapeCast S8192x1024 (res_main_v204 V) shapeCasts_S4x2048x1024_S8192x1024 : S8192x1024.Idx → EReal) = up2 (flat (dy1 I)) := by
  rw [v204 h]
  funext j; idx_vars j
  pointwise [up2, up3, flat]

theorem rDmix (h : Holds V I) : (truncf .bf16 (shapeCast S8192x1024 (res_main_v206 V) shapeCasts_S4x2048x1024_S8192x1024) bitsLt_bf16_f32 : S8192x1024.Idx → EReal) = up2 (flat (dmix I)) := by
  rw [v206 h]
  funext j; idx_vars j
  pointwise [up2, up3, flat]

theorem rDat (h : Holds V I) : (shapeCast S8192x1024 (Host.dotGeneral (φ₂ := .f32) dot_S4x2048x1024_S1024x1024_S4x2048x1024_2_1_01_0_n_n none (res_main_v206 V) (V (Proc.devRef .tc main_arg3))) shapeCasts_S4x2048x1024_S8192x1024 : S8192x1024.Idx → EReal) = up2 (flat (dat I)) := by
  rw [v206 h, h.a3]
  funext j; idx_vars j
  pointwise [up2, up3, flat]
  rfl

theorem rDff (h : Holds V I) : (truncf .bf16 (shapeCast S8192x1024 (res_main_v153 V) shapeCasts_S4x2048x1024_S8192x1024) bitsLt_bf16_f32 : S8192x1024.Idx → EReal) = up2 (flat (dff I)) := by
  rw [v153 h]
  funext j; idx_vars j
  pointwise [up2, up3, flat]

theorem rDu (h : Holds V I) : (truncf .bf16 (shapeCast S8192x4096 (res_main_v162 V) shapeCasts_S4x2048x4096_S8192x4096) bitsLt_bf16_f32 : S8192x4096.Idx → EReal) = up2 (flat (du I)) := by
  rw [v162 h]
  funext j; idx_vars j
  pointwise [up2, up3, flat]

theorem rAcc (h : Holds V I) : ((concatenate S8x1024 0 [⟨S1x1024, ((broadcastInDim S1x1024 ![1] bcast_S1024_S1x1024_1 (Host.reduceAdd (shapeCast _ (Host.reduceAdd (mulf (res_main_v97 V) (res_main_v118 V)) (constant S_ .f32 0x00000000#32) reducesTo_S4x2048x1024_S1024_d0_1 h_S_) shapeCasts_S1024_S1x1x1024) (constant S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v118 V) (constant S_ .f32 0x00000000#32) reducesTo_S4x2048x1024_S1024_d0_1 h_S_) shapeCasts_S1024_S1x1x1024) (constant S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.reduceAdd (mulf (broadcastInDim S4x2048x1024 ![] bcast_S_S4x2048x1024 (constant S_ .f32 0x3F000000#32)) (Host.divf (mulf (res_main_v244 V) (res_main_v244 V)) (broadcastInDim S4x2048x1024 ![] bcast_S_S4x2048x1024 (constant S_ .f32 0x44800000#32)))) (constant S_ .f32 0x00000000#32) reducesTo_S4x2048x1024_S1024_d0_1 h_S_)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v44 V) (res_main_v171 V)) (constant S_ .f32 0x00000000#32) reducesTo_S4x2048x1024_S1024_d0_1 h_S_) shapeCasts_S1024_S1x1x1024) (constant S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v171 V) (constant S_ .f32 0x00000000#32) reducesTo_S4x2048x1024_S1024_d0_1 h_S_) shapeCasts_S1024_S1x1x1024) (constant S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (res_main_v251 V)) : (⟨S1x1024, .f32⟩ : BufTy).Contents (Elt Ideal))⟩, ⟨S1x1024, ((broadcastInDim S1x1024 ![1] bcast_S1024_S1x1024_1 (res_main_v251 V)) : (⟨S1x1024, .f32⟩ : BufTy).Contents (Elt Ideal))⟩, ⟨S1x1024, ((broadcastInDim S1x1024 ![1] bcast_S1024_S1x1024_1 (res_main_v251 V)) : (⟨S1x1024, .f32⟩ : BufTy).Contents (Elt Ideal))⟩] concatenates_S1x1024_S1x1024_S1x1024_S1x1024_S1x1024_S1x1024_S1x1024_S1x1024_S8x1024_d0 : (⟨S8x1024, .f32⟩ : BufTy).Contents (Elt Ideal)) : S8x1024.Idx → EReal) = up2 (accs I) := by
  rw [v97 h, v118 h, v244 h, v44 h, v171 h]
  unfold res_main_v251
  funext j; idx_vars j
  pointwise [up2, up3, accs, tot, Fin.sum_univ_one]
  have e (a b : ℕ) : 1 / 2 * (diff I a b j1 * diff I a b j1 / 1024) = diff I a b j1 * diff I a b j1 * (1 / 2048) := by ring
  simp only [e]
  fin_cases j0 <;> simp [mul_comm]

theorem rDmod (h : Holds V I) : ((concatenate S4x8x1024 1 [⟨S4x1x1024, ((res_main_v261 V) : (⟨S4x1x1024, .f32⟩ : BufTy).Contents (Elt Ideal))⟩, ⟨S4x1x1024, ((res_main_v261 V) : (⟨S4x1x1024, .f32⟩ : BufTy).Contents (Elt Ideal))⟩, ⟨S4x1x1024, ((shapeCast _ (Host.reduceAdd (mulf (res_main_v204 V) (res_main_v12 V)) (constant S_ .f32 0x00000000#32) reducesTo_S4x2048x1024_S4x1024_d1 h_S_) shapeCasts_S4x1024_S4x1x1024) : (⟨S4x1x1024, .f32⟩ : BufTy).Contents (Elt Ideal))⟩, ⟨S4x1x1024, ((shapeCast _ (Host.reduceAdd (res_main_v163 V) (constant S_ .f32 0x00000000#32) reducesTo_S4x2048x1024_S4x1024_d1 h_S_) shapeCasts_S4x1024_S4x1x1024) : (⟨S4x1x1024, .f32⟩ : BufTy).Contents (Elt Ideal))⟩, ⟨S4x1x1024, ((shapeCast _ (Host.reduceAdd (mulf (res_main_v50 V) (res_main_v163 V)) (constant S_ .f32 0x00000000#32) reducesTo_S4x2048x1024_S4x1024_d1 h_S_) shapeCasts_S4x1024_S4x1x1024) : (⟨S4x1x1024, .f32⟩ : BufTy).Contents (Elt Ideal))⟩, ⟨S4x1x1024, ((shapeCast _ (Host.reduceAdd (mulf (res_main_v151 V) (res_main_v65 V)) (constant S_ .f32 0x00000000#32) reducesTo_S4x2048x1024_S4x1024_d1 h_S_) shapeCasts_S4x1024_S4x1x1024) : (⟨S4x1x1024, .f32⟩ : BufTy).Contents (Elt Ideal))⟩, ⟨S4x1x1024, ((res_main_v261 V) : (⟨S4x1x1024, .f32⟩ : BufTy).Contents (Elt Ideal))⟩, ⟨S4x1x1024, ((res_main_v261 V) : (⟨S4x1x1024, .f32⟩ : BufTy).Contents (Elt Ideal))⟩] concatenates_S4x1x1024_S4x1x1024_S4x1x1024_S4x1x1024_S4x1x1024_S4x1x1024_S4x1x1024_S4x1x1024_S4x8x1024_d1 : (⟨S4x8x1024, .f32⟩ : BufTy).Contents (Elt Ideal)) : S4x8x1024.Idx → EReal) = up3 (dmods I) := by
  rw [v204 h, v12 h, v163 h, v50 h, v151 h, v65 h]
  unfold res_main_v261
  funext j; idx_vars j
  pointwise [up2, up3, dmods]
  fin_cases j1 <;> simp [mul_comm]

end Cert.RefLift

end
-- ==== Proof.Up.Pre.lean ====
/- The precondition read back: an argument whose entries all have a finite absolute value is an array of real numbers. -/
module
public import proofs.«01_k».proof.Pre_finite
public import proofs.«01_k».proof.Proof.Up.Spec
public import Idealize.ShloMosaic.Lib.ReduceAll
public import Idealize.ShloMosaic.Lib.Affine
@[expose] public section
set_option maxRecDepth 16384
noncomputable section

namespace Cert.Pre
open Idealize.ShloMosaic Cert.Pre_finite Cert.Pre_finite.Facts Cert.Up Cert.Spec

instance facts : Cert.Pre_finite.Facts where
  bcast_S_S4x2048x1024 := by decide
  reducesTo_S4x2048x1024_S_d0_1_2 := by decide
  h_S_ := by decide
  bcast_S_S4x6144 := by decide
  reducesTo_S4x6144_S_d0_1 := by decide
  bcast_S_S1024x1024 := by decide
  reducesTo_S1024x1024_S_d0_1 := by decide
  bcast_S_S1x1024 := by decide
  reducesTo_S1x1024_S_d0_1 := by decide
  bcast_S_S1024x4096 := by decide
  reducesTo_S1024x4096_S_d0_1 := by decide
  bcast_S_S4096x1024 := by decide
  reducesTo_S4096x1024_S_d0_1 := by decide

/-- Every entry is a real number. -/
def Real {s : Shape} (X : s.Idx → EReal) : Prop := ∀ j, ((X j).toReal : EReal) = X j

theorem lit_inf : Ideal.ofBits .f32 0x7F800000#32 = ⊤ := by simp [Ideal.ofBits, Ideal.ieee]

theorem real_of {s : Shape} {axes : List (Fin s.rank)} (X : FVec Ideal s .f32) (hb : S_.BroadcastsInDim s (![] : Fin 0 → Fin s.rank))
    (hr : s.ReducesTo axes S_) (hu : 0 < S_.numel)
    (e : Host.reduce IntOp.andi (cmpf .olt (Host.absf X) (broadcastInDim s ![] hb (constant S_ .f32 0x7F800000#32))) (constantI S_ 1 1#1) hr hu (fun k => k.elim0) = 1#1) :
    Real X := by
  intro i
  haveI : Subsingleton S_.Idx := ⟨fun a b => funext fun k => k.elim0⟩
  have h := Host.reduce_andi_all _ _ hr hu _ e i
  have h' : Ideal.cmp .olt (max (X i) (-(X i))) (Ideal.ofBits .f32 0x7F800000#32) = 1#1 := h
  rw [lit_inf] at h'
  replace h' := (Ideal.cmp_olt_eq_one _ _).1 h'
  refine EReal.coe_toReal ?_ ?_
  · intro hx; rw [hx] at h'; simp at h'
  · intro hx; rw [hx] at h'; simp at h'

/-- The real numbers of a matrix, by natural-number coordinates. -/
def of2 {A B : ℕ} (X : (⟨2, ![A, B]⟩ : Shape).Idx → EReal) (a b : ℕ) : ℝ :=
  if h : a < A ∧ b < B then (X (fun | 0 => ⟨a, h.1⟩ | 1 => ⟨b, h.2⟩)).toReal else 0
/-- The real numbers of a rank-3 array, by natural-number coordinates. -/
def of3 {A B C : ℕ} (X : (⟨3, ![A, B, C]⟩ : Shape).Idx → EReal) (a b c : ℕ) : ℝ :=
  if h : a < A ∧ b < B ∧ c < C then (X (fun | 0 => ⟨a, h.1⟩ | 1 => ⟨b, h.2.1⟩ | 2 => ⟨c, h.2.2⟩)).toReal else 0

theorem up2_of2 {A B : ℕ} (X : (⟨2, ![A, B]⟩ : Shape).Idx → EReal) (h : Real X) : up2 (of2 X) = X := by
  funext j
  have hj : (j 0).val < A ∧ (j 1).val < B := ⟨(j 0).isLt, (j 1).isLt⟩
  unfold up2 of2
  rw [dif_pos hj, h]
  exact congrArg X (funext fun k => by fin_cases k <;> rfl)

theorem up1_of2 {B : ℕ} (X : (⟨2, ![1, B]⟩ : Shape).Idx → EReal) (h : Real X) : (up2 fun _ c => of2 X 0 c) = X := by
  funext j
  have h0 : (j 0).val = 0 := Nat.lt_one_iff.1 (j 0).isLt
  refine Eq.trans ?_ (congrFun (up2_of2 X h) j)
  unfold up2
  rw [h0]

theorem up3_of3 {A B C : ℕ} (X : (⟨3, ![A, B, C]⟩ : Shape).Idx → EReal) (h : Real X) : up3 (of3 X) = X := by
  funext j
  have hj : (j 0).val < A ∧ (j 1).val < B ∧ (j 2).val < C := ⟨(j 0).isLt, (j 1).isLt, (j 2).isLt⟩
  unfold up3 of3
  rw [dif_pos hj, h]
  exact congrArg X (funext fun k => by fin_cases k <;> rfl)
variable (a0 : FVec Ideal S4x2048x1024 .f32) (a1 : FVec Ideal S4x2048x1024 .f32) (a2 : FVec Ideal S4x6144 .f32) (a3 : FVec Ideal S1024x1024 .f32) (a4 : FVec Ideal S1x1024 .f32) (a5 : FVec Ideal S1x1024 .f32) (a6 : FVec Ideal S1024x4096 .f32) (a7 : FVec Ideal S4096x1024 .f32) (a8 : FVec Ideal S1x1024 .f32) (a9 : FVec Ideal S1x1024 .f32) (a10 : FVec Ideal S4x2048x1024 .f32)
theorem split (p0 p1 p2 p3 p4 p5 p6 p7 p8 p9 p10 : IVec S_ 1) (k : S_.Idx) (h : (andi (andi (andi (andi (andi (andi (andi (andi (andi (andi p0 p1) p2) p3) p4) p5) p6) p7) p8) p9) p10) k = 1#1) :
    p0 k = 1#1 ∧ p1 k = 1#1 ∧ p2 k = 1#1 ∧ p3 k = 1#1 ∧ p4 k = 1#1 ∧ p5 k = 1#1 ∧ p6 k = 1#1 ∧ p7 k = 1#1 ∧ p8 k = 1#1 ∧ p9 k = 1#1 ∧ p10 k = 1#1 := by
  have sp : ∀ (p q : IVec S_ 1), andi p q k = 1#1 → p k = 1#1 ∧ q k = 1#1 := fun p q hk => IntOp.andi_eq_one.1 hk
  obtain ⟨h, h10⟩ := sp _ _ h
  obtain ⟨h, h9⟩ := sp _ _ h
  obtain ⟨h, h8⟩ := sp _ _ h
  obtain ⟨h, h7⟩ := sp _ _ h
  obtain ⟨h, h6⟩ := sp _ _ h
  obtain ⟨h, h5⟩ := sp _ _ h
  obtain ⟨h, h4⟩ := sp _ _ h
  obtain ⟨h, h3⟩ := sp _ _ h
  obtain ⟨h, h2⟩ := sp _ _ h
  obtain ⟨h, h1⟩ := sp _ _ h
  exact ⟨h, h1, h2, h3, h4, h5, h6, h7, h8, h9, h10⟩
theorem reals (e : Cert.Pre_finite.fn (F := Ideal) a0 a1 a2 a3 a4 a5 a6 a7 a8 a9 a10 = fun _ => 1#1) :
    Real a0 ∧ Real a1 ∧ Real a2 ∧ Real a3 ∧ Real a4 ∧ Real a5 ∧ Real a6 ∧ Real a7 ∧ Real a8 ∧ Real a9 ∧ Real a10 := by
  have h := congrFun e (fun k => k.elim0)
  unfold Cert.Pre_finite.fn fn_part1 fn_part2 fn_part3 at h
  obtain ⟨h0, h1, h2, h3, h4, h5, h6, h7, h8, h9, h10⟩ := split _ _ _ _ _ _ _ _ _ _ _ _ h
  clear h e
  exact ⟨real_of a0 bcast_S_S4x2048x1024 reducesTo_S4x2048x1024_S_d0_1_2 h_S_ h0, real_of a1 bcast_S_S4x2048x1024 reducesTo_S4x2048x1024_S_d0_1_2 h_S_ h1, real_of a2 bcast_S_S4x6144 reducesTo_S4x6144_S_d0_1 h_S_ h2, real_of a3 bcast_S_S1024x1024 reducesTo_S1024x1024_S_d0_1 h_S_ h3, real_of a4 bcast_S_S1x1024 reducesTo_S1x1024_S_d0_1 h_S_ h4, real_of a5 bcast_S_S1x1024 reducesTo_S1x1024_S_d0_1 h_S_ h5, real_of a6 bcast_S_S1024x4096 reducesTo_S1024x4096_S_d0_1 h_S_ h6, real_of a7 bcast_S_S4096x1024 reducesTo_S4096x1024_S_d0_1 h_S_ h7, real_of a8 bcast_S_S1x1024 reducesTo_S1x1024_S_d0_1 h_S_ h8, real_of a9 bcast_S_S1x1024 reducesTo_S1x1024_S_d0_1 h_S_ h9, real_of a10 bcast_S_S4x2048x1024 reducesTo_S4x2048x1024_S_d0_1_2 h_S_ h10⟩
/-- The real numbers the arguments hold. -/
def ofArgs : In where
  x := of3 a0
  att := of3 a1
  mod := of2 a2
  wo := of2 a3
  g1 := fun c => of2 a4 0 c
  b1 := fun c => of2 a5 0 c
  wu := of2 a6
  wd := of2 a7
  g2 := fun c => of2 a8 0 c
  b2 := fun c => of2 a9 0 c
  tg := of3 a10

end Cert.Pre
end
-- ==== Proof.Wg.Run.lean ====
/- The weight-gradient call's body in its two cases: at the first of a block's four grid points, and at the others. The
   generator writes no run for a window read before it is covered whose blocks could overhang the array; none of the
   blocks the grid reaches does (`uncut`), so the runs and the frame here are those of a window that does not. -/
module

public import proofs.«01_k».proof.Proof.Gen.Kernel3Ideal.Frame
public import proofs.«01_k».proof.Proof.Gen.Kernel3Ideal.Points
public import proofs.«01_k».proof.Proof.Gen.Kernel3Ideal.Skeleton

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 4 % 1 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-! ## The kernel body on any staging memrefs: a subtype the run finds -/

/-- One staging buffer of output window 2, through which its contents are stated (`View.read_writes_of_cover`: the
    choice does not matter). -/
abbrev VO0_2 : View sig .tc .vmem S1x512x1024 .f32 := (Memref.whole cc0_stg2_0 : Memref sig .tc .vmem S1x512x1024 .f32).view
/-- Each window's current staging memref at point `t`, spelled as the pipeline passes it (`bodyAt0`), and its wholeness. -/
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)

/-- What the body's stores leave in each output's staging memref, as pieces (last first) IN CASE A (`scf.if` 0 taken: points 0, 4, … 28: 8 of 32), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S2048x512 .bf16) (harg3 : arg3.IsWhole) (arg4 : Memref sig .tc .vmem S2048x1024 .bf16) (harg4 : arg4.IsWhole) (arg6 : Memref sig .tc .vmem S1x512x1024 .f32) (harg6 : arg6.IsWhole) (hc0 : cond0_0 i)
    (x0 : Vec F S2048x512 .bf16) (x1 : Vec F S2048x1024 .bf16) :
    { L2 : List (View.Piece (Elt F) S1x512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg6 fullShare d)
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L2)) -∗ K ⟨⟩))
          ⊢ wp frame (wpE (defs₀ (F := F)) Variants.none c none) E (cc0_wgrad_down i arg3 harg3 arg4 harg4 (Memref.whole main_arg2) (Memref.isWhole_whole _) arg6 harg6) K } := by
  refine ⟨?_, fun E K => ?run⟩
  case run =>
    simp only [cc0_wgrad_down_eq_skeleton]; unfold cc0_wgrad_down_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- What the body's stores leave in each output's staging memref, as pieces (last first) IN CASE B (`scf.if` 0 not taken: points 1, 2, … 31: 24 of 32), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S2048x512 .bf16) (harg3 : arg3.IsWhole) (arg4 : Memref sig .tc .vmem S2048x1024 .bf16) (harg4 : arg4.IsWhole) (arg6 : Memref sig .tc .vmem S1x512x1024 .f32) (harg6 : arg6.IsWhole) (hc0 : ¬cond0_0 i)
    (x0 : Vec F S2048x512 .bf16) (x1 : Vec F S2048x1024 .bf16) (xo2 : Vec F S1x512x1024 .f32) :
    { L2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg6 fullShare xo2
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f L2)) -∗ K ⟨⟩))
          ⊢ wp frame (wpE (defs₀ (F := F)) Variants.none c none) E (cc0_wgrad_down i arg3 harg3 arg4 harg4 (Memref.whole main_arg2) (Memref.isWhole_whole _) arg6 harg6) K } := by
  refine ⟨?_, fun E K => ?run⟩
  case run =>
    simp only [cc0_wgrad_down_eq_skeleton]; unfold cc0_wgrad_down_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg6.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel3Ideal.Gen

end
-- ==== Proof.Wg.Frame.lean ====
/- The frame of the weight-gradient call: what its output window holds point by point, and the run of the pipeline. -/
module

public import proofs.«01_k».proof.Proof.Wg.Run
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- No block the grid reaches overhangs the array. -/
theorem uncut : ∀ (i : cfg0.grid.Coords) a, (cfg0.win 2).clip i a = none :=
  (by decide +kernel : ∀ (i : grid0.Coords) a, win0_2.clip i a = none)

/-- Case A's pieces for output 2 tile its block (2 stores of `S1x512x1024`, checked by the kernel's evaluation: Lib/Ring.lean `Piece.tiledL`, linear in the pieces, through a loop's `@[irreducible]` trip theorem too), so they cover it. -/
theorem cover0_A_2 (c : Dev nD) (i : grid0.Coords) (arg3 : Memref sig .tc .vmem S2048x512 .bf16) (harg3 : arg3.IsWhole) (arg4 : Memref sig .tc .vmem S2048x1024 .bf16) (harg4 : arg4.IsWhole) (arg6 : Memref sig .tc .vmem S1x512x1024 .f32) (harg6 : arg6.IsWhole) (hc0 : cond0_0 i)
    (x0 : Vec F S2048x512 .bf16) (x1 : Vec F S2048x1024 .bf16) (y : S1x512x1024.Idx) :
    ∃ pc ∈ (kernelRun0_A c i arg3 harg3 arg4 harg4 arg6 harg6 hc0 x0 x1).1, y ∈ pc.1.set :=
  View.cover_of_tiledL (kernelRun0_A c i arg3 harg3 arg4 harg4 arg6 harg6 hc0 x0 x1).1 S1x512x1024.size (by sl_kernel_rfl) y

/-- What case A leaves in output 2's staging buffer: its pieces read back over junk. -/
def out0_A_2 (c : Dev nD) (i : grid0.Coords) (arg3 : Memref sig .tc .vmem S2048x512 .bf16) (harg3 : arg3.IsWhole) (arg4 : Memref sig .tc .vmem S2048x1024 .bf16) (harg4 : arg4.IsWhole) (arg6 : Memref sig .tc .vmem S1x512x1024 .f32) (harg6 : arg6.IsWhole) (hc0 : cond0_0 i)
    (x0 : Vec F S2048x512 .bf16) (x1 : Vec F S2048x1024 .bf16) : Vec F S1x512x1024 .f32 :=
  VO0_2.read (Elt F) (VO0_2.writes (Elt F) VO0_2.junk (kernelRun0_A c i arg3 harg3 arg4 harg4 arg6 harg6 hc0 x0 x1).1)

/-- Case B's pieces for output 2 tile its block (1 store of `S1x512x1024`, checked by the kernel's evaluation: Lib/Ring.lean `Piece.tiledL`, linear in the pieces, through a loop's `@[irreducible]` trip theorem too), so they cover it. -/
theorem cover0_B_2 (c : Dev nD) (i : grid0.Coords) (arg3 : Memref sig .tc .vmem S2048x512 .bf16) (harg3 : arg3.IsWhole) (arg4 : Memref sig .tc .vmem S2048x1024 .bf16) (harg4 : arg4.IsWhole) (arg6 : Memref sig .tc .vmem S1x512x1024 .f32) (harg6 : arg6.IsWhole) (hc0 : ¬cond0_0 i)
    (x0 : Vec F S2048x512 .bf16) (x1 : Vec F S2048x1024 .bf16) (xo2 : Vec F S1x512x1024 .f32) (y : S1x512x1024.Idx) :
    ∃ pc ∈ (kernelRun0_B c i arg3 harg3 arg4 harg4 arg6 harg6 hc0 x0 x1 xo2).1, y ∈ pc.1.set :=
  View.cover_of_tiledL (kernelRun0_B c i arg3 harg3 arg4 harg4 arg6 harg6 hc0 x0 x1 xo2).1 S1x512x1024.size (by sl_kernel_rfl) y

/-- What case B leaves in output 2's staging buffer: its pieces read back over junk. -/
def out0_B_2 (c : Dev nD) (i : grid0.Coords) (arg3 : Memref sig .tc .vmem S2048x512 .bf16) (harg3 : arg3.IsWhole) (arg4 : Memref sig .tc .vmem S2048x1024 .bf16) (harg4 : arg4.IsWhole) (arg6 : Memref sig .tc .vmem S1x512x1024 .f32) (harg6 : arg6.IsWhole) (hc0 : ¬cond0_0 i)
    (x0 : Vec F S2048x512 .bf16) (x1 : Vec F S2048x1024 .bf16) (xo2 : Vec F S1x512x1024 .f32) : Vec F S1x512x1024 .f32 :=
  VO0_2.read (Elt F) (VO0_2.writes (Elt F) VO0_2.junk (kernelRun0_B c i arg3 harg3 arg4 harg4 arg6 harg6 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 4 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of case B output 2's current staging buffer holds what the body left at the point before: the point is
    not the first, the buffer was not written back between (`flush0_2`), the window is live and uncut (Lib/Pipeline/Frame.lean
    `Dat.before_out_kept`). -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) uncut]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 4 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel3Ideal.Gen

end
-- ==== Proof.Wg.Value.lean ====
/- What the weight-gradient call's output array holds after the run. -/
module

public import proofs.«01_k».proof.Proof.Wg.Frame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`), read through the window's block. -/
theorem flushed2 (c : Dev nD) (t : Fin cfg0.N) :
    (dats m 0 c).flushed 2 t = (cfg0.win 2).cut (grid0.coords t) (outsAt0 m c t.val t.isLt) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val % 4 = 0) :
    (dats m 0 c).flushed 2 t = (cfg0.win 2).cut (grid0.coords t) (out0_A_2 c (grid0.coords t) (ms0_0 t) (hs0_0 t) (ms0_1 t) (hs0_1 t) (ms0_2 t) (hs0_2 t) ((hcond0_0 t).mpr h0) (iblk m c 0 t) (iblk m c 1 t)) := by
  simp only [flushed2, outsAt0_A m c t h0]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val % 4 = 0) :
    (dats m 0 c).flushed 2 t = (cfg0.win 2).cut (grid0.coords t) (out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt))) := by
  simp only [flushed2, outsAt0_B m c t h0]

-- no `blocks2`: window 2's index map revisits a block index, or its points could not be enumerated here;
-- the final array is still the frame's `arrAt`, to read with Lib/Pipeline/Value.lean's lemmas by hand

/-- An index that no flushing point's block covers keeps output window 2's array contents at region entry. -/
theorem entry2 (c : Dev nD) (i : S8x1152x1024.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v2) = (dats m 0 c).arrAt 2 cfg0.N :=
  (h c).1 2

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post2 m r h c,
      kept_main_arg0 m r h c,
      kept_main_arg1 m r h c,
      kept_main_arg2 m r h c⟩)
    (run_main m ρ)

end Cert.Kernel3Ideal.Value

end
-- ==== Proof.Fwd.Spec.lean ====
/- The forward pass of the output block over the extended reals, by natural coordinates: batch row `b`, position `s`,
   feature `c`, hidden unit `e`; and arrays given by such coordinates, as wholes, by parts and as sums of parts. -/
module

public import proofs.«01_k».proof.Proof.Up.Basic

@[expose] public section

noncomputable section

namespace Cert.Fwd

open Idealize.ShloMosaic Cert.Up

/-- A matrix given by natural-number coordinates. -/
def at2 {A B : ℕ} (a : ℕ → ℕ → EReal) : (⟨2, ![A, B]⟩ : Shape).Idx → EReal := fun j => a (j 0).val (j 1).val
/-- A rank-3 array given by natural-number coordinates. -/
def at3 {A B C : ℕ} (a : ℕ → ℕ → ℕ → EReal) : (⟨3, ![A, B, C]⟩ : Shape).Idx → EReal := fun j => a (j 0).val (j 1).val (j 2).val

/-- A matrix's entries by natural-number coordinates. -/
def nat2 {A B : ℕ} (X : (⟨2, ![A, B]⟩ : Shape).Idx → EReal) (a b : ℕ) : EReal :=
  if h : a < A ∧ b < B then X (fun | 0 => ⟨a, h.1⟩ | 1 => ⟨b, h.2⟩) else 0
/-- A rank-3 array's entries by natural-number coordinates. -/
def nat3 {A B C : ℕ} (X : (⟨3, ![A, B, C]⟩ : Shape).Idx → EReal) (a b c : ℕ) : EReal :=
  if h : a < A ∧ b < B ∧ c < C then X (fun | 0 => ⟨a, h.1⟩ | 1 => ⟨b, h.2.1⟩ | 2 => ⟨c, h.2.2⟩) else 0

theorem at2_nat2 {A B : ℕ} (X : (⟨2, ![A, B]⟩ : Shape).Idx → EReal) : at2 (nat2 X) = X := by
  funext j
  have hj : (j 0).val < A ∧ (j 1).val < B := ⟨(j 0).isLt, (j 1).isLt⟩
  unfold at2 nat2
  rw [dif_pos hj]
  exact congrArg X (funext fun k => by fin_cases k <;> rfl)

theorem at2_row {B : ℕ} (X : (⟨2, ![1, B]⟩ : Shape).Idx → EReal) : (at2 fun _ c => nat2 X 0 c) = X := by
  funext j
  have h0 : (j 0).val = 0 := Nat.lt_one_iff.1 (j 0).isLt
  refine Eq.trans ?_ (congrFun (at2_nat2 X) j)
  unfold at2
  rw [h0]

theorem at3_nat3 {A B C : ℕ} (X : (⟨3, ![A, B, C]⟩ : Shape).Idx → EReal) : at3 (nat3 X) = X := by
  funext j
  have hj : (j 0).val < A ∧ (j 1).val < B ∧ (j 2).val < C := ⟨(j 0).isLt, (j 1).isLt, (j 2).isLt⟩
  unfold at3 nat3
  rw [dif_pos hj]
  exact congrArg X (funext fun k => by fin_cases k <;> rfl)

theorem at2_congr {A B : ℕ} {f g : ℕ → ℕ → EReal} (h : ∀ i < A, ∀ c < B, f i c = g i c) :
    (at2 f : (⟨2, ![A, B]⟩ : Shape).Idx → EReal) = at2 g :=
  funext fun j => h _ (j 0).isLt _ (j 1).isLt

theorem at3_congr {A B C : ℕ} {f g : ℕ → ℕ → ℕ → EReal} (h : ∀ i < A, ∀ k < B, ∀ c < C, f i k c = g i k c) :
    (at3 f : (⟨3, ![A, B, C]⟩ : Shape).Idx → EReal) = at3 g :=
  funext fun j => h _ (j 0).isLt _ (j 1).isLt _ (j 2).isLt

/-- The mean of 1024 numbers. -/
def avg (f : ℕ → EReal) : EReal := Ideal.div (∑ k : Fin 1024, f k) ((1024 : ℝ) : EReal)
/-- A row less its mean. -/
def cen (y : ℕ → EReal) (c : ℕ) : EReal := y c - avg y
/-- The reciprocal of a row's standard deviation. -/
def rsd (y : ℕ → EReal) : EReal := Ideal.rsqrt (avg (fun k => cen y k * cen y k) + ((eps : ℝ) : EReal))
/-- A row normalised. -/
def unit (y : ℕ → EReal) (c : ℕ) : EReal := cen y c * rsd y

/-- A sum of 1024 terms, one half after the other. -/
theorem sum2 (f : ℕ → EReal) : ∑ k : Fin 1024, f k = (∑ k : Fin 512, f k) + ∑ k : Fin 512, f (512 + k) := by
  simp only [Fin.sum_univ_eq_sum_range (fun k => f k), Fin.sum_univ_eq_sum_range (fun k => f (512 + k))]
  rw [show (1024 : ℕ) = 512 + 512 from rfl, Finset.sum_range_add]

/-- A sum of 4096 terms, a quarter at a time. -/
theorem sum4 (f : ℕ → EReal) : ∑ e : Fin 4096, f e
    = (∑ k : Fin 1024, f (0 + k)) + (∑ k : Fin 1024, f (1024 + k)) + (∑ k : Fin 1024, f (2048 + k)) + ∑ k : Fin 1024, f (3072 + k) := by
  simp only [Fin.sum_univ_eq_sum_range (fun k => f k), Fin.sum_univ_eq_sum_range (fun k => f (0 + k)), Fin.sum_univ_eq_sum_range (fun k => f (1024 + k)),
    Fin.sum_univ_eq_sum_range (fun k => f (2048 + k)), Fin.sum_univ_eq_sum_range (fun k => f (3072 + k))]
  rw [show (4096 : ℕ) = 1024 + 1024 + 1024 + 1024 from rfl, Finset.sum_range_add, Finset.sum_range_add, Finset.sum_range_add]
  simp only [Nat.zero_add]

/-- The arguments. -/
structure In where
  x : ℕ → ℕ → ℕ → EReal
  sb : ℕ → ℕ → ℕ → EReal
  ml : ℕ → ℕ → ℕ → EReal
  mod : ℕ → ℕ → EReal
  wo : ℕ → ℕ → EReal
  g : ℕ → EReal
  b : ℕ → EReal
  wu : ℕ → ℕ → EReal
  wd : ℕ → ℕ → EReal

variable (I : In)

/-- Part `k` of batch row `b`'s modulation. -/
def md (k b c : ℕ) : EReal := I.mod b (1024 * k + c)
/-- The output projection of the two attentions' results side by side. -/
def mix (b s c : ℕ) : EReal := (∑ k : Fin 512, I.sb b s k * I.wo k c) + ∑ k : Fin 512, I.ml b s k * I.wo (512 + k) c
/-- The first residual sum. -/
def y1 (b s c : ℕ) : EReal := ((alpha : ℝ) : EReal) * I.x b s c + (1 + md I 2 b c) * mix I b s c
/-- The norm's result. -/
def x1 (b s c : ℕ) : EReal := unit (y1 I b s) c * I.g c + I.b c
/-- The feed-forward part's input. -/
def h2 (b s c : ℕ) : EReal := x1 I b s c * (1 + md I 4 b c) + md I 3 b c
/-- The hidden layer before its activation. -/
def u (b s e : ℕ) : EReal := ∑ k : Fin 1024, h2 I b s k * I.wu k e
/-- The hidden layer. -/
def act (b s e : ℕ) : EReal := max (u I b s e) 0 * max (u I b s e) 0
/-- The feed-forward part's result. -/
def ff (b s c : ℕ) : EReal := ∑ e : Fin 4096, act I b s e * I.wd e c
/-- The second residual sum. -/
def y2 (b s c : ℕ) : EReal := ((alpha : ℝ) : EReal) * x1 I b s c + (1 + md I 5 b c) * ff I b s c
/-- Rows counted batch row by batch row. -/
def flat (f : ℕ → ℕ → ℕ → EReal) (r c : ℕ) : EReal := f (r / 2048) (r % 2048) c
/-- A quantity of batch row `b`, its positions counted from `s0`. -/
def tl (b s0 : ℕ) (f : ℕ → ℕ → ℕ → EReal) (i c : ℕ) : EReal := f b (s0 + i) c
/-- A row of the modulation padded to eight rows, the two last nothing. -/
def mrow (b k c : ℕ) : EReal := if k < 6 then md I k b c else 0
/-- The packed weights' rows: the up projection's, the down projection's, the output projection's. -/
def wts (q r c : ℕ) : EReal :=
  if r < 512 then I.wu (q % 2 * 512 + r) (q / 2 * 1024 + c) else if r < 1024 then I.wd (q * 512 + (r - 512)) c else I.wo (q * 128 + (r - 1024)) c
/-- Block `q` of the packed up projection. -/
def wup (q r e : ℕ) : EReal := I.wu (q % 2 * 512 + r) (q / 2 * 1024 + e)
/-- Block `q` of the packed down projection. -/
def wdn (q r e : ℕ) : EReal := I.wd (q * 512 + r) e

end Cert.Fwd

end
-- ==== Proof.Wg.Acc.lean ====
/- What the weight-gradient call's output block holds after each point: the sum over the rows of the tiles so far. -/
module

public import proofs.«01_k».proof.Proof.Wg.Value
public import proofs.«01_k».proof.Proof.Fwd.Spec
public import Idealize.ShloMosaic.Lib.StableHlo.RunRead
public import Idealize.ShloMosaic.Lib.Pipeline.ValueKit.Acc

@[expose] public section

set_option maxRecDepth 16384

noncomputable section

namespace Cert.Wg

open Cert.Kernel3Ideal Cert.Kernel3Ideal.Gen Idealize.ShloMosaic Idealize.ShloMosaic.TcCoe Idealize.SL.Sem
open Cert.Fwd

/-- The activation at row `k`, unit `e`. -/
def act (u : ℕ → ℕ → EReal) (k e : ℕ) : EReal := max (u k e) 0 * max (u k e) 0
/-- The gradient's entry for unit `e` and feature `x`, of the layer's input `f` and the gradient `d` at its result, summed
    over the first `n` rows. -/
def grad (f d : ℕ → ℕ → EReal) (n e x : ℕ) : EReal := ∑ k ∈ Finset.range n, f k e * d k x

theorem grad_add (f d : ℕ → ℕ → EReal) (n e x : ℕ) :
    grad f d (n + 2048) e x = grad f d n e x + ∑ q : Fin 2048, f (n + q) e * d (n + q) x := by
  unfold grad
  rw [Finset.sum_range_add, Fin.sum_univ_eq_sum_range (fun q => f (n + q) e * d (n + q) x)]

theorem pay1 : k0_pay1 (F := Ideal) = at3 fun _ _ _ => 0 := by
  funext j; idx_vars j; pointwise [k0_pay1, at2, at3]

theorem pay2 (a b : ℕ → ℕ → EReal) (z : ℕ → ℕ → ℕ → EReal) :
    k0_pay2 (F := Ideal) (at2 a) (at2 b) (at3 z) = at3 fun _ r x => z 0 r x + ∑ q : Fin 2048, act a q r * b q x := by
  funext j; idx_vars j; pointwise [k0_pay2, at2, at3]; rfl

variable (m : (ℓ : Loc nD τ sig) → Buf (Elt Ideal) ℓ) (c : Dev nD)

theorem v0 : (V m c main_v0 : S8192x4096.Idx → EReal) = m (c, Proc.devRef .tc main_arg0) := by
  funext j
  unfold V
  simp only [hostOps0, StableHlo.TRef.unary, StableHlo.TRef.toBuf, StableHlo.TRef.ofBuf, cast_eq]
  after_results
  rfl

theorem v1 : (V m c main_v1 : S8192x1024.Idx → EReal) = m (c, Proc.devRef .tc main_arg1) := by
  funext j
  unfold V
  simp only [hostOps0, StableHlo.TRef.unary, StableHlo.TRef.toBuf, StableHlo.TRef.ofBuf, cast_eq]
  after_results
  rfl

theorem v2 : (V m c main_v2 : S8x1152x1024.Idx → EReal) = m (c, Proc.devRef .tc main_arg2) := by
  funext j
  unfold V
  simp only [hostOps0, StableHlo.TRef.unary, StableHlo.TRef.toBuf, StableHlo.TRef.ofBuf, cast_eq]
  after_results
  rfl

/-- The arguments hold the numbers of `u`, `d` and `w`. -/
structure Holds (u d : ℕ → ℕ → EReal) (w : ℕ → ℕ → ℕ → EReal) : Prop where
  a0 : (m (c, Proc.devRef .tc main_arg0) : S8192x4096.Idx → EReal) = at2 u
  a1 : (m (c, Proc.devRef .tc main_arg1) : S8192x1024.Idx → EReal) = at2 d
  a2 : (m (c, Proc.devRef .tc main_arg2) : S8x1152x1024.Idx → EReal) = at3 w

variable {u d : ℕ → ℕ → EReal} {w : ℕ → ℕ → ℕ → EReal}

theorem i0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

theorem b0 (h : Holds m c u d w) (t : Fin cfg0.N) :
    (iblk m c 0 t : S2048x512.Idx → EReal) = at2 fun q r => u (2048 * (t.val % 4) + q) (512 * (t.val / 4) + r) := by
  have hi := i0 t
  funext j
  unfold iblk
  rw [View.read_apply]
  show V m c main_v0 _ = _
  rw [v0, h.a0]
  show u (win0_0.index t 0 * 2048 + 1 * (j 0).val) (win0_0.index t 1 * 512 + 1 * (j 1).val) = u (2048 * (t.val % 4) + (j 0).val) (512 * (t.val / 4) + (j 1).val)
  rw [hi.1, hi.2]
  congr 1 <;> omega

theorem i1 : ∀ t : Fin cfg0.N, win0_1.index t 0 = t.val % 4 ∧ win0_1.index t 1 = 0 :=
  (by decide +kernel : ∀ t : Fin grid0.N, win0_1.index t 0 = t.val % 4 ∧ win0_1.index t 1 = 0)

theorem b1 (h : Holds m c u d w) (t : Fin cfg0.N) :
    (iblk m c 1 t : S2048x1024.Idx → EReal) = at2 fun q x => d (2048 * (t.val % 4) + q) x := by
  have hi := i1 t
  funext j
  unfold iblk
  rw [View.read_apply]
  show V m c main_v1 _ = _
  rw [v1, h.a1]
  show d (win0_1.index t 0 * 2048 + 1 * (j 0).val) (win0_1.index t 1 * 1024 + 1 * (j 1).val) = d (2048 * (t.val % 4) + (j 0).val) (j 1).val
  rw [hi.1, hi.2]
  congr 1 <;> omega

theorem outA (h : Holds m c u d w) (t : Fin cfg0.N) (h0 : t.val % 4 = 0) :
    outsAt0 m c t.val t.isLt = at3 fun _ r x => grad (act u) d (2048 * (t.val % 4 + 1)) (512 * (t.val / 4) + r) x := by
  rw [outsAt0_A m c t h0]
  frame_out
  rw [b0 m c h t, b1 m c h t, pay1, pay2]
  refine at3_congr fun _ _ r _ x _ => ?_
  rw [h0, show 2048 * (0 + 1) = 0 + 2048 from rfl, grad_add]
  unfold grad
  rw [Finset.sum_range_zero]
  rfl

theorem outB (h : Holds m c u d w) (t : Fin cfg0.N) (h0 : ¬ t.val % 4 = 0)
    (ih : outsAt0 m c (t.val - 1) (Nat.lt_of_le_of_lt (Nat.sub_le _ _) t.isLt)
      = at3 fun _ r x => grad (act u) d (2048 * (t.val % 4)) (512 * (t.val / 4) + r) x) :
    outsAt0 m c t.val t.isLt = at3 fun _ r x => grad (act u) d (2048 * (t.val % 4 + 1)) (512 * (t.val / 4) + r) x := by
  rw [outsAt0_B m c t h0]
  frame_out
  rw [b0 m c h t, b1 m c h t, ih, pay2]
  refine at3_congr fun _ _ r _ x _ => ?_
  rw [Nat.mul_succ, grad_add]
  rfl

/-- After a point, the block holds its gradient summed over the row tiles up to the point's. -/
theorem out (h : Holds m c u d w) : ∀ (n : ℕ) (hn : n < cfg0.N),
    outsAt0 m c n hn = at3 fun _ r x => grad (act u) d (2048 * (n % 4 + 1)) (512 * (n / 4) + r) x
  | 0, hn => outA m c h ⟨0, hn⟩ rfl
  | n + 1, hn => by
    by_cases h0 : (n + 1) % 4 = 0
    · exact outA m c h ⟨n + 1, hn⟩ h0
    · refine outB m c h ⟨n + 1, hn⟩ h0 ?_
      have ih := out h n (Nat.lt_of_succ_lt hn)
      rw [show n % 4 + 1 = (n + 1) % 4 by omega, show n / 4 = (n + 1) / 4 by omega] at ih
      exact ih

end Cert.Wg

end
-- ==== Proof.Wg.Final.lean ====
/- The weight-gradient call's output array: the down projection's gradient in rows 512 to 1023 of each slot, the other
   rows as they came in; and the reference's result, the same array. -/
module

public import proofs.«01_k».proof.Proof.Wg.Acc
public import proofs.«01_k».proof.Proof.Gen.Reference3Ideal.Run

@[expose] public section

set_option maxRecDepth 16384

noncomputable section

namespace Cert.Wg

open Idealize.ShloMosaic Idealize.ShloMosaic.TcCoe Idealize.SL.Sem
open Cert.Fwd

/-- The packed gradients after the call. -/
def packed (u d : ℕ → ℕ → EReal) (w : ℕ → ℕ → ℕ → EReal) (q r x : ℕ) : EReal :=
  if 512 ≤ r ∧ r < 1024 then grad (act u) d 8192 (512 * q + (r - 512)) x else w q r x

variable {u d : ℕ → ℕ → EReal} {w : ℕ → ℕ → ℕ → EReal}

section
open Cert.Kernel3Ideal Cert.Kernel3Ideal.Gen Cert.Kernel3Ideal.Value

variable (m : (ℓ : Loc nD τ sig) → Buf (Elt Ideal) ℓ) (c : Dev nD)

theorem j2 : ∀ t : Fin cfg0.N, win0_2.index t 0 = t.val / 4 ∧ win0_2.index t 1 = 1 ∧ win0_2.index t 2 = 0 :=
  (by decide +kernel : ∀ t : Fin grid0.N, win0_2.index t 0 = t.val / 4 ∧ win0_2.index t 1 = 1 ∧ win0_2.index t 2 = 0)
theorem k2 : ∀ t : Fin cfg0.N, win0_2.xsize (grid0.coords t) 0 = 1 ∧ win0_2.xsize (grid0.coords t) 1 = 512 ∧ win0_2.xsize (grid0.coords t) 2 = 1024 :=
  (by decide +kernel : ∀ t : Fin grid0.N, win0_2.xsize (grid0.coords t) 0 = 1 ∧ win0_2.xsize (grid0.coords t) 1 = 512 ∧ win0_2.xsize (grid0.coords t) 2 = 1024)

/-- The indices point `t`'s block covers. -/
theorem cov (t : Fin cfg0.N) (i : S8x1152x1024.Idx) :
    i ∈ ((cfg0.win 2).blk t).view.set ↔ (i 0).val = t.val / 4 ∧ 512 ≤ (i 1).val ∧ (i 1).val < 1024 := by
  have hi := j2 t
  have hk := k2 t
  have h2 : (i 2).val < 1024 := (i 2).isLt
  show i ∈ ((View.whole main_v2).slice (win0_2.rect t)).set ↔ _
  rw [View.set_slice_whole, Rect.mem_set_unit]
  constructor
  · intro h
    have e0 : win0_2.index t 0 * 1 ≤ (i 0).val ∧ (i 0).val < win0_2.index t 0 * 1 + win0_2.xsize (grid0.coords t) 0 := h 0
    have e1 : win0_2.index t 1 * 512 ≤ (i 1).val ∧ (i 1).val < win0_2.index t 1 * 512 + win0_2.xsize (grid0.coords t) 1 := h 1
    rw [hi.1, hk.1] at e0
    rw [hi.2.1, hk.2.1] at e1
    omega
  · intro h a
    match a with
    | ⟨0, _⟩ =>
      show win0_2.index t 0 * 1 ≤ (i 0).val ∧ (i 0).val < win0_2.index t 0 * 1 + win0_2.xsize (grid0.coords t) 0
      rw [hi.1, hk.1]
      omega
    | ⟨1, _⟩ =>
      show win0_2.index t 1 * 512 ≤ (i 1).val ∧ (i 1).val < win0_2.index t 1 * 512 + win0_2.xsize (grid0.coords t) 1
      rw [hi.2.1, hk.2.1]
      omega
    | ⟨2, _⟩ =>
      show win0_2.index t 2 * 1024 ≤ (i 2).val ∧ (i 2).val < win0_2.index t 2 * 1024 + win0_2.xsize (grid0.coords t) 2
      rw [hi.2.2, hk.2.2]
      omega

/-- What a block's write-back writes are the packed gradients there. -/
theorem wrote (h : Holds m c u d w) (t : Fin cfg0.N) (hf : (cfg0.win 2).flush t = true) :
    (dats m 0 c).flushed 2 t = ((cfg0.win 2).blk t).view.read (Elt Ideal) (at3 (packed u d w) : S8x1152x1024.Idx → EReal) := by
  have ht : t.val % 4 = 3 := (flush0_2 t).mp hf
  rw [flushed2, out m c h t.val t.isLt]
  have hi := j2 t
  have hk := k2 t
  funext j
  have h0 : (j 0).val < 1 := (congrArg (fun n => (j 0).val < n) hk.1).mp (j 0).isLt
  have h1 : (j 1).val < 512 := (congrArg (fun n => (j 1).val < n) hk.2.1).mp (j 1).isLt
  rw [View.read_apply]
  show grad (act u) d (2048 * (t.val % 4 + 1)) (512 * (t.val / 4) + (j 1).val) (j 2).val
    = packed u d w (win0_2.index t 0 * 1 + 1 * (j 0).val) (win0_2.index t 1 * 512 + 1 * (j 1).val) (win0_2.index t 2 * 1024 + 1 * (j 2).val)
  rw [hi.1, hi.2.1, hi.2.2]
  unfold packed
  rw [if_pos (by omega), ht]
  congr 1 <;> omega

/-- The kernel's result. -/
theorem final (h : Holds m c u d w) :
    (dats m 0 c).arrAt 2 cfg0.N = (at3 (packed u d w) : S8x1152x1024.Idx → EReal) := by
  refine funext fun (i : S8x1152x1024.Idx) => ?_
  have h0 : (i 0).val < 8 := (i 0).isLt
  have hN : cfg0.N = 32 := N_0
  by_cases hr : 512 ≤ (i 1).val ∧ (i 1).val < 1024
  · have ht : 4 * (i 0).val + 3 < cfg0.N := by rw [hN]; omega
    refine (dats m 0 c).arrAt_apply_of_mem 2 _ (fun t hf => wrote m c h t hf) cfg0.N ⟨4 * (i 0).val + 3, ht⟩ i ht ((flush0_2 _).mpr ?_) ((cov _ i).mpr ⟨?_, hr⟩)
    · show (4 * (i 0).val + 3) % 4 = 3
      omega
    · show (i 0).val = (4 * (i 0).val + 3) / 4
      omega
  · rw [entry2 m c i fun t _ hc => hr ((cov t i).mp hc).2]
    show V m c main_v2 i = _
    rw [v2, h.a2]
    exact (if_neg hr).symm

end

section
open Cert.Reference3Ideal Cert.Reference3Ideal.Gen

/-- The product of the reference, cut into the eight slots. -/
theorem prod {X0 : FVec Ideal S8192x4096 .f32} {X1 : FVec Ideal S8192x1024 .f32} (h0 : X0 = at2 u) (h1 : X1 = at2 d) :
    shapeCast S8x512x1024 (Host.dotGeneral dot_S4096x8192_S8192x1024_S4096x1024_1_0_0_1_n_n none (transpose S4096x8192 [1, 0] (mulf (maximumf X0 (broadcastInDim S8192x4096 ![] bcast_S_S8192x4096 (constant S_ .f32 0x00000000#32))) (maximumf X0 (broadcastInDim S8192x4096 ![] bcast_S_S8192x4096 (constant S_ .f32 0x00000000#32)))) transposes_S8192x4096_S4096x8192_1_0) X1) shapeCasts_S4096x1024_S8x512x1024
      = (at3 fun q r x => grad (act u) d 8192 (512 * q + r) x : FVec Ideal S8x512x1024 .f32) := by
  rw [h0, h1]
  funext j; idx_vars j
  pointwise [at2, at3]
  unfold grad
  rw [mul_comm 512, ← Fin.sum_univ_eq_sum_range (fun k => act u k _ * d k _)]
  rfl

theorem reference {X0 : FVec Ideal S8192x4096 .f32} {X1 : FVec Ideal S8192x1024 .f32} {X2 : FVec Ideal S8x1152x1024 .f32}
    (h0 : X0 = at2 u) (h1 : X1 = at2 d) (h2 : X2 = at3 w) :
    concatenate S8x1152x1024 1 [⟨S8x512x1024, extractStridedSlice S8x512x1024 ![0, 0, 0] X2 slices_S8x1152x1024_S8x512x1024_0_0_0⟩, ⟨S8x512x1024, shapeCast S8x512x1024 (Host.dotGeneral dot_S4096x8192_S8192x1024_S4096x1024_1_0_0_1_n_n none (transpose S4096x8192 [1, 0] (mulf (maximumf X0 (broadcastInDim S8192x4096 ![] bcast_S_S8192x4096 (constant S_ .f32 0x00000000#32))) (maximumf X0 (broadcastInDim S8192x4096 ![] bcast_S_S8192x4096 (constant S_ .f32 0x00000000#32)))) transposes_S8192x4096_S4096x8192_1_0) X1) shapeCasts_S4096x1024_S8x512x1024⟩, ⟨S8x128x1024, extractStridedSlice S8x128x1024 ![0, 1024, 0] X2 slices_S8x1152x1024_S8x128x1024_0_1024_0⟩] concatenates_S8x512x1024_S8x512x1024_S8x128x1024_S8x1152x1024_d1
      = (at3 (packed u d w) : FVec Ideal S8x1152x1024 .f32) := by
  rw [prod h0 h1, h2]
  funext j; idx_vars j
  pointwise [at2, at3]
  have hj : j1.val < 1152 := j1.isLt
  unfold packed
  by_cases a : j1.val < 512
  · rw [dif_pos a, if_neg (by omega)]
  · by_cases b : j1.val - 512 < 512
    · rw [dif_neg a, dif_pos b, if_pos (by omega)]
    · rw [dif_neg a, dif_neg b, if_neg (by omega), show 1024 + (j1.val - 512 - 512) = j1.val by omega]

end

end Cert.Wg

end
-- ==== Proof.Wu.Run.lean ====
/- The body of the up projection's weight-gradient call in its two cases, as for the down projection's (`Wg/Run.lean`). -/
module

public import proofs.«01_k».proof.Proof.Gen.Kernel4Ideal.Frame
public import proofs.«01_k».proof.Proof.Gen.Kernel4Ideal.Points
public import proofs.«01_k».proof.Proof.Gen.Kernel4Ideal.Skeleton

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-! ## The kernel body on any staging memrefs: a subtype the run finds -/

/-- One staging buffer of output window 2, through which its contents are stated (`View.read_writes_of_cover`: the
    choice does not matter). -/
abbrev VO0_2 : View sig .tc .vmem S1x512x1024 .f32 := (Memref.whole cc0_stg2_0 : Memref sig .tc .vmem S1x512x1024 .f32).view
/-- Each window's current staging memref at point `t`, spelled as the pipeline passes it (`bodyAt0`), and its wholeness. -/
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)

/-- What the body's stores leave in each output's staging memref, as pieces (last first) IN CASE A (`scf.if` 0 taken: points 0, 4, … 28: 8 of 32), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S1x512x1024 .f32) (harg5 : arg5.IsWhole) (hc0 : cond0_0 i)
    (x0 : Vec F S2048x512 .bf16) (x1 : Vec F S2048x1024 .bf16) :
    { L2 : List (View.Piece (Elt F) S1x512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0_wgrad_up i arg3 harg3 arg4 harg4 arg5 harg5) K } := by
  refine ⟨?_, fun E K => ?run⟩
  case run =>
    simp only [cc0_wgrad_up_eq_skeleton]; unfold cc0_wgrad_up_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- What the body's stores leave in each output's staging memref, as pieces (last first) IN CASE B (`scf.if` 0 not taken: points 1, 2, … 31: 24 of 32), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S1x512x1024 .f32) (harg5 : arg5.IsWhole) (hc0 : ¬cond0_0 i)
    (x0 : Vec F S2048x512 .bf16) (x1 : Vec F S2048x1024 .bf16) (xo2 : Vec F S1x512x1024 .f32) :
    { L2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc0_wgrad_up i arg3 harg3 arg4 harg4 arg5 harg5) K } := by
  refine ⟨?_, fun E K => ?run⟩
  case run =>
    simp only [cc0_wgrad_up_eq_skeleton]; unfold cc0_wgrad_up_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel4Ideal.Gen

end
-- ==== Proof.Wu.Frame.lean ====
/- The frame of the up projection's weight-gradient call: what its output window holds point by point, and the run of the pipeline. -/
module

public import proofs.«01_k».proof.Proof.Wu.Run
public import Idealize.ShloMosaic.Lib.Claim

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- No block the grid reaches overhangs the array. -/
theorem uncut : ∀ (i : cfg0.grid.Coords) a, (cfg0.win 2).clip i a = none :=
  (by decide +kernel : ∀ (i : grid0.Coords) a, win0_2.clip i a = none)

/-- Case A's pieces for output 2 tile its block (2 stores of `S1x512x1024`, checked by the kernel's evaluation: Lib/Ring.lean `Piece.tiledL`, linear in the pieces, through a loop's `@[irreducible]` trip theorem too), so they cover it. -/
theorem cover0_A_2 (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S1x512x1024 .f32) (harg5 : arg5.IsWhole) (hc0 : cond0_0 i)
    (x0 : Vec F S2048x512 .bf16) (x1 : Vec F S2048x1024 .bf16) (y : S1x512x1024.Idx) :
    ∃ pc ∈ (kernelRun0_A c i arg3 harg3 arg4 harg4 arg5 harg5 hc0 x0 x1).1, y ∈ pc.1.set :=
  View.cover_of_tiledL (kernelRun0_A c i arg3 harg3 arg4 harg4 arg5 harg5 hc0 x0 x1).1 S1x512x1024.size (by sl_kernel_rfl) y

/-- What case A leaves in output 2's staging buffer: its pieces read back over junk. -/
def out0_A_2 (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S1x512x1024 .f32) (harg5 : arg5.IsWhole) (hc0 : cond0_0 i)
    (x0 : Vec F S2048x512 .bf16) (x1 : Vec F S2048x1024 .bf16) : Vec F S1x512x1024 .f32 :=
  VO0_2.read (Elt F) (VO0_2.writes (Elt F) VO0_2.junk (kernelRun0_A c i arg3 harg3 arg4 harg4 arg5 harg5 hc0 x0 x1).1)

/-- Case B's pieces for output 2 tile its block (1 store of `S1x512x1024`, checked by the kernel's evaluation: Lib/Ring.lean `Piece.tiledL`, linear in the pieces, through a loop's `@[irreducible]` trip theorem too), so they cover it. -/
theorem cover0_B_2 (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S1x512x1024 .f32) (harg5 : arg5.IsWhole) (hc0 : ¬cond0_0 i)
    (x0 : Vec F S2048x512 .bf16) (x1 : Vec F S2048x1024 .bf16) (xo2 : Vec F S1x512x1024 .f32) (y : S1x512x1024.Idx) :
    ∃ pc ∈ (kernelRun0_B c i arg3 harg3 arg4 harg4 arg5 harg5 hc0 x0 x1 xo2).1, y ∈ pc.1.set :=
  View.cover_of_tiledL (kernelRun0_B c i arg3 harg3 arg4 harg4 arg5 harg5 hc0 x0 x1 xo2).1 S1x512x1024.size (by sl_kernel_rfl) y

/-- What case B leaves in output 2's staging buffer: its pieces read back over junk. -/
def out0_B_2 (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S1x512x1024 .f32) (harg5 : arg5.IsWhole) (hc0 : ¬cond0_0 i)
    (x0 : Vec F S2048x512 .bf16) (x1 : Vec F S2048x1024 .bf16) (xo2 : Vec F S1x512x1024 .f32) : Vec F S1x512x1024 .f32 :=
  VO0_2.read (Elt F) (VO0_2.writes (Elt F) VO0_2.junk (kernelRun0_B c i arg3 harg3 arg4 harg4 arg5 harg5 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 4 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of case B output 2's current staging buffer holds what the body left at the point before: the point is
    not the first, the buffer was not written back between (`flush0_2`), the window is live and uncut (Lib/Pipeline/Frame.lean
    `Dat.before_out_kept`). -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) uncut]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 4 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel4Ideal.Gen

end
-- ==== Proof.Wu.Final.lean ====
/- The up projection's weight-gradient call: what its blocks hold point by point, its result once the rows it does not
   write are cut off, and the reference's result, the same array. -/
module

public import proofs.«01_k».proof.Proof.Wu.Frame
public import proofs.«01_k».proof.Proof.Wg.Acc
public import proofs.«01_k».proof.Proof.Gen.Reference4Ideal.Run

@[expose] public section

set_option maxRecDepth 16384

noncomputable section

namespace Cert.Wu

open Idealize.ShloMosaic Idealize.ShloMosaic.TcCoe Idealize.SL.Sem
open Cert.Fwd
open Cert.Wg (grad grad_add)

/-- Slot `q` of the packed gradient: a half of the input's features by a quarter of the units. -/
def slots (f d : ℕ → ℕ → EReal) (q r x : ℕ) : EReal := grad f d 8192 (512 * (q % 2) + r) (1024 * (q / 2) + x)

section
open Cert.Kernel4Ideal Cert.Kernel4Ideal.Gen

theorem pay1 : k0_pay1 (F := Ideal) = at3 fun _ _ _ => 0 := by
  funext j; idx_vars j; pointwise [k0_pay1, at2, at3]

theorem pay2 (a b : ℕ → ℕ → EReal) (z : ℕ → ℕ → ℕ → EReal) :
    k0_pay2 (F := Ideal) (at2 a) (at2 b) (at3 z) = at3 fun _ r x => z 0 r x + ∑ q : Fin 2048, a q r * b q x := by
  funext j; idx_vars j; pointwise [k0_pay2, at2, at3]

variable (m : (ℓ : Loc nD τ sig) → Buf (Elt Ideal) ℓ) (c : Dev nD)

theorem v0 : (V m c main_v0 : S8192x1024.Idx → EReal) = m (c, Proc.devRef .tc main_arg0) := by
  funext j
  unfold V V0
  simp only [hostOps0, List.flatten_cons, List.flatten_nil, List.append_nil]
  after_results
  rfl

theorem v1 : (V m c main_v1 : S8192x4096.Idx → EReal) = m (c, Proc.devRef .tc main_arg1) := by
  funext j
  unfold V V0
  simp only [hostOps0, List.flatten_cons, List.flatten_nil, List.append_nil]
  after_results
  rfl

/-- The arguments hold the numbers of `f` and `d`. -/
structure Holds (f d : ℕ → ℕ → EReal) : Prop where
  a0 : (m (c, Proc.devRef .tc main_arg0) : S8192x1024.Idx → EReal) = at2 f
  a1 : (m (c, Proc.devRef .tc main_arg1) : S8192x4096.Idx → EReal) = at2 d

variable {f d : ℕ → ℕ → EReal}

theorem i0 : ∀ t : Fin cfg0.N, win0_0.index t 0 = t.val % 4 ∧ win0_0.index t 1 = t.val / 16 :=
  (by decide +kernel : ∀ t : Fin grid0.N, win0_0.index t 0 = t.val % 4 ∧ win0_0.index t 1 = t.val / 16)

theorem b0 (h : Holds m c f d) (t : Fin cfg0.N) :
    (iblk m c 0 t : S2048x512.Idx → EReal) = at2 fun q r => f (2048 * (t.val % 4) + q) (512 * (t.val / 16) + r) := by
  have hi := i0 t
  funext j
  unfold iblk
  rw [View.read_apply]
  show V m c main_v0 _ = _
  rw [v0, h.a0]
  show f (win0_0.index t 0 * 2048 + 1 * (j 0).val) (win0_0.index t 1 * 512 + 1 * (j 1).val) = f (2048 * (t.val % 4) + (j 0).val) (512 * (t.val / 16) + (j 1).val)
  rw [hi.1, hi.2]
  congr 1 <;> omega

theorem i1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)

theorem b1 (h : Holds m c f d) (t : Fin cfg0.N) :
    (iblk m c 1 t : S2048x1024.Idx → EReal) = at2 fun q x => d (2048 * (t.val % 4) + q) (1024 * (t.val / 4 % 4) + x) := by
  have hi := i1 t
  funext j
  unfold iblk
  rw [View.read_apply]
  show V m c main_v1 _ = _
  rw [v1, h.a1]
  show d (win0_1.index t 0 * 2048 + 1 * (j 0).val) (win0_1.index t 1 * 1024 + 1 * (j 1).val) = d (2048 * (t.val % 4) + (j 0).val) (1024 * (t.val / 4 % 4) + (j 1).val)
  rw [hi.1, hi.2]
  congr 1 <;> omega

theorem outA (h : Holds m c f d) (t : Fin cfg0.N) (h0 : t.val % 4 = 0) :
    outsAt0 m c t.val t.isLt = at3 fun _ r x => grad f d (2048 * (t.val % 4 + 1)) (512 * (t.val / 16) + r) (1024 * (t.val / 4 % 4) + x) := by
  rw [outsAt0_A m c t h0]
  frame_out
  rw [b0 m c h t, b1 m c h t, pay1, pay2]
  refine at3_congr fun _ _ r _ x _ => ?_
  rw [h0, show 2048 * (0 + 1) = 0 + 2048 from rfl, grad_add]
  unfold grad
  rw [Finset.sum_range_zero]

theorem outB (h : Holds m c f d) (t : Fin cfg0.N) (h0 : ¬ t.val % 4 = 0)
    (ih : outsAt0 m c (t.val - 1) (Nat.lt_of_le_of_lt (Nat.sub_le _ _) t.isLt)
      = at3 fun _ r x => grad f d (2048 * (t.val % 4)) (512 * (t.val / 16) + r) (1024 * (t.val / 4 % 4) + x)) :
    outsAt0 m c t.val t.isLt = at3 fun _ r x => grad f d (2048 * (t.val % 4 + 1)) (512 * (t.val / 16) + r) (1024 * (t.val / 4 % 4) + x) := by
  rw [outsAt0_B m c t h0]
  frame_out
  rw [b0 m c h t, b1 m c h t, ih, pay2]
  refine at3_congr fun _ _ r _ x _ => ?_
  rw [Nat.mul_succ, grad_add]

/-- After a point, the block holds its gradient summed over the row tiles up to the point's. -/
theorem out (h : Holds m c f d) : ∀ (n : ℕ) (hn : n < cfg0.N),
    outsAt0 m c n hn = at3 fun _ r x => grad f d (2048 * (n % 4 + 1)) (512 * (n / 16) + r) (1024 * (n / 4 % 4) + x)
  | 0, hn => outA m c h ⟨0, hn⟩ rfl
  | n + 1, hn => by
    by_cases h0 : (n + 1) % 4 = 0
    · exact outA m c h ⟨n + 1, hn⟩ h0
    · refine outB m c h ⟨n + 1, hn⟩ h0 ?_
      have ih := out h n (Nat.lt_of_succ_lt hn)
      rw [show n % 4 + 1 = (n + 1) % 4 by omega, show n / 16 = (n + 1) / 16 by omega, show n / 4 % 4 = (n + 1) / 4 % 4 by omega] at ih
      exact ih

theorem j2 : ∀ t : Fin cfg0.N, win0_2.index t 0 = 2 * (t.val / 4 % 4) + t.val / 16 ∧ win0_2.index t 1 = 0 ∧ win0_2.index t 2 = 0 :=
  (by decide +kernel : ∀ t : Fin grid0.N, win0_2.index t 0 = 2 * (t.val / 4 % 4) + t.val / 16 ∧ win0_2.index t 1 = 0 ∧ win0_2.index t 2 = 0)
theorem k2 : ∀ t : Fin cfg0.N, win0_2.xsize (grid0.coords t) 0 = 1 ∧ win0_2.xsize (grid0.coords t) 1 = 512 ∧ win0_2.xsize (grid0.coords t) 2 = 1024 :=
  (by decide +kernel : ∀ t : Fin grid0.N, win0_2.xsize (grid0.coords t) 0 = 1 ∧ win0_2.xsize (grid0.coords t) 1 = 512 ∧ win0_2.xsize (grid0.coords t) 2 = 1024)

/-- What a block's write-back writes are the slots there. -/
theorem wrote (h : Holds m c f d) (t : Fin cfg0.N) (hf : (cfg0.win 2).flush t = true) :
    (dats m 0 c).flushed 2 t = ((cfg0.win 2).blk t).view.read (Elt Ideal) (at3 (slots f d) : S8x1152x1024.Idx → EReal) := by
  have ht : t.val % 4 = 3 := (flush0_2 t).mp hf
  have hN : t.val < 32 := lt_of_lt_of_eq t.isLt (show cfg0.N = 32 from N_0)
  show (cfg0.win 2).cut (grid0.coords t) ((dats m 0 c).after 2 t) = _
  rw [after0_2, out m c h t.val t.isLt]
  have hi := j2 t
  have hk := k2 t
  funext j
  have h0 : (j 0).val < 1 := (congrArg (fun n => (j 0).val < n) hk.1).mp (j 0).isLt
  rw [View.read_apply]
  show grad f d (2048 * (t.val % 4 + 1)) (512 * (t.val / 16) + (j 1).val) (1024 * (t.val / 4 % 4) + (j 2).val)
    = slots f d (win0_2.index t 0 * 1 + 1 * (j 0).val) (win0_2.index t 1 * 512 + 1 * (j 1).val) (win0_2.index t 2 * 1024 + 1 * (j 2).val)
  rw [hi.1, hi.2.1, hi.2.2]
  unfold slots
  rw [ht]
  congr 1 <;> omega

theorem slot (q : ℕ) (hq : q < 8) : 2 * ((16 * (q % 2) + 4 * (q / 2) + 3) / 4 % 4) + (16 * (q % 2) + 4 * (q / 2) + 3) / 16 = q := by
  revert q; decide

/-- The rows the call writes, in its output array. -/
theorem covered (h : Holds m c f d) (i : S8x1152x1024.Idx) (hr : (i 1).val < 512) :
    (dats m 0 c).arrAt 2 cfg0.N i = (at3 (slots f d) : S8x1152x1024.Idx → EReal) i := by
  have h0 : (i 0).val < 8 := (i 0).isLt
  have h2 : (i 2).val < 1024 := (i 2).isLt
  have hN : cfg0.N = 32 := N_0
  have ht : 16 * ((i 0).val % 2) + 4 * ((i 0).val / 2) + 3 < cfg0.N := by rw [hN]; omega
  have hi := j2 ⟨_, ht⟩
  have hk := k2 ⟨_, ht⟩
  refine (dats m 0 c).arrAt_apply_of_mem 2 _ (fun t hf => wrote m c h t hf) cfg0.N ⟨_, ht⟩ i ht ((flush0_2 _).mpr ?_) ?_
  · show (16 * ((i 0).val % 2) + 4 * ((i 0).val / 2) + 3) % 4 = 3
    omega
  · show i ∈ ((View.whole main_v2).slice (win0_2.rect ⟨_, ht⟩)).set
    rw [View.set_slice_whole, Rect.mem_set_unit]
    intro a
    match a with
    | ⟨0, _⟩ =>
      show win0_2.index ⟨_, ht⟩ 0 * 1 ≤ (i 0).val ∧ (i 0).val < win0_2.index ⟨_, ht⟩ 0 * 1 + win0_2.xsize (grid0.coords ⟨_, ht⟩) 0
      rw [hi.1, hk.1]
      show (2 * ((16 * ((i 0).val % 2) + 4 * ((i 0).val / 2) + 3) / 4 % 4) + (16 * ((i 0).val % 2) + 4 * ((i 0).val / 2) + 3) / 16) * 1 ≤ (i 0).val
        ∧ (i 0).val < (2 * ((16 * ((i 0).val % 2) + 4 * ((i 0).val / 2) + 3) / 4 % 4) + (16 * ((i 0).val % 2) + 4 * ((i 0).val / 2) + 3) / 16) * 1 + 1
      rw [slot _ h0]
      omega
    | ⟨1, _⟩ =>
      show win0_2.index ⟨_, ht⟩ 1 * 512 ≤ (i 1).val ∧ (i 1).val < win0_2.index ⟨_, ht⟩ 1 * 512 + win0_2.xsize (grid0.coords ⟨_, ht⟩) 1
      rw [hi.2.1, hk.2.1]
      omega
    | ⟨2, _⟩ =>
      show win0_2.index ⟨_, ht⟩ 2 * 1024 ≤ (i 2).val ∧ (i 2).val < win0_2.index ⟨_, ht⟩ 2 * 1024 + win0_2.xsize (grid0.coords ⟨_, ht⟩) 2
      rw [hi.2.2, hk.2.2]
      omega

/-- The program's result: the slots, the rows the call does not write cut off. -/
theorem final (h : Holds m c f d) :
    (Pipeline.afterTail₀ cfgs (dats m) 0 (V0 m) [hostOps1] c main_v3 : S8x512x1024.Idx → EReal) = at3 (slots f d) := by
  unfold Pipeline.afterTail₀
  simp only [hostOps1, List.flatten_cons, List.flatten_nil, List.append_nil]
  after_results
  funext j
  show Pipeline.withArrays spec0 c (V0 m c) (fun w => (dats m 0 c).arrAt w cfg0.N) (Proc.devRef .tc (Pipeline.arrRef spec0 2)) _ = _
  rw [Pipeline.withArrays_arr spec0 launch0.win.arr_inj]
  have hr : (j 1).val < 512 := (j 1).isLt
  refine (covered m c h _ ?_).trans ?_
  · show 0 + (j 1).val < 512
    omega
  · idx_vars j
    pointwise [at3]

/-- The run: the result as the lines after the call leave it, and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v3) = Pipeline.afterTail₀ cfgs (dats m) 0 (V0 m) [hostOps1] c main_v3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2 main_v3 (Pipeline.mem_restRefs_of main_v3 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end

section
open Cert.Reference4Ideal Cert.Reference4Ideal.Gen

theorem reference {f d : ℕ → ℕ → EReal} {X0 : FVec Ideal S8192x1024 .f32} {X1 : FVec Ideal S8192x4096 .f32} (h0 : X0 = at2 f) (h1 : X1 = at2 d) :
    shapeCast S8x512x1024 (transpose S4x2x512x1024 [2, 0, 1, 3] (shapeCast S2x512x4x1024 (Host.dotGeneral dot_S1024x8192_S8192x4096_S1024x4096_1_0_0_1_n_n none (transpose S1024x8192 [1, 0] X0 transposes_S8192x1024_S1024x8192_1_0) X1) shapeCasts_S1024x4096_S2x512x4x1024) transposes_S2x512x4x1024_S4x2x512x1024_2_0_1_3) shapeCasts_S4x2x512x1024_S8x512x1024
      = (at3 (slots f d) : FVec Ideal S8x512x1024 .f32) := by
  rw [h0, h1]
  funext j; idx_vars j
  pointwise [at2, at3]
  unfold slots grad
  rw [mul_comm 512, mul_comm 1024, ← Fin.sum_univ_eq_sum_range (fun k => f k _ * d k _)]

end

end Cert.Wu

end
-- ==== Proof.Fwd.Pay.lean ====
/- What each payload of the forward call's body computes on arrays given by coordinates. -/
module

public import proofs.«01_k».proof.Proof.Fwd.Spec
public import proofs.«01_k».proof.Proof.Gen.Kernel2Ideal.Skeleton

@[expose] public section

set_option maxRecDepth 16384

noncomputable section

namespace Cert.Fwd

open Idealize.ShloMosaic Cert.Up Cert.Kernel2Ideal Cert.Kernel2Ideal.Gen

/-- A product summing over half the features. -/
def dot (f w : ℕ → ℕ → EReal) (i c : ℕ) : EReal := ∑ k : Fin 512, f i k * w k c
/-- The right half of a row. -/
def rh (f : ℕ → ℕ → EReal) (i c : ℕ) : EReal := f i (512 + c)
/-- The activation. -/
def sq (f : ℕ → ℕ → EReal) (i c : ℕ) : EReal := max (f i c) 0 * max (f i c) 0
/-- One chip's part of the hidden layer. -/
def hid (l h w w' : ℕ → ℕ → EReal) (i c : ℕ) : EReal := dot l w i c + dot h w' i c
/-- One chip's part of the feed-forward result, added to the parts before. -/
def add2 (z a w w' : ℕ → ℕ → EReal) (i c : ℕ) : EReal := z i c + dot a w i c + dot (rh a) w' i c

variable (s l w w' x y a a' z g b : ℕ → ℕ → EReal) (v v' p q q' r r' : ℕ → ℕ → ℕ → EReal)

theorem pay1 : k0_pay1 (F := Ideal) (at2 s) (at2 w) (at2 l) (at2 w') = at2 (hid s l w w') := by
  funext j; idx_vars j; pointwise [k0_pay1, at2, at3]; rfl

theorem pay2 : k0_pay2 (F := Ideal) (at2 s) (at2 w) (at2 l) (at2 w') (at2 x) (at3 v) = at2 (fun i c => ((alpha : ℝ) : EReal) * x i c + (1 + v 0 0 c) * hid s l w w' i c) := by
  funext j; idx_vars j; unfold k0_pay2; rw [pay1]; pointwise [at2, at3]

theorem pay3 : k0_pay3 (F := Ideal) (at2 s) (at2 w) (at2 l) (at2 w') (at2 x) (at3 v) = at2 (fun i _ => ∑ k : Fin 1024, (((alpha : ℝ) : EReal) * x i k + (1 + v 0 0 k) * hid s l w w' i k)) := by
  funext j; idx_vars j; unfold k0_pay3; rw [pay2]; pointwise [at2, at3]

theorem pay4 : k0_pay4 (F := Ideal) = at2 (fun _ _ => ((1024 : ℝ) : EReal)) := by
  funext j; idx_vars j; pointwise [k0_pay4, at2, at3]

theorem pay5 : k0_pay5 (F := Ideal) (at2 y) (at2 g) (at2 b) (at2 fun i _ => ∑ k : Fin 1024, y i k) (at2 fun _ _ => ((1024 : ℝ) : EReal)) = at2 (fun i c => unit (y i) c * g 0 c + b 0 c) := by
  funext j; idx_vars j; pointwise [k0_pay5, at2, at3]; rfl

/-- The feed-forward input. -/
def inp (i c : ℕ) : EReal := (unit (y i) c * g 0 c + b 0 c) * (1 + v 0 0 c) + v' 0 0 c

theorem pay6 : k0_pay6 (F := Ideal) (at2 y) (at2 g) (at2 b) (at2 fun i _ => ∑ k : Fin 1024, y i k) (at2 fun _ _ => ((1024 : ℝ) : EReal)) (at3 v) (at3 v') = at2 (inp y g b v v') := by
  funext j; idx_vars j; unfold k0_pay6; rw [pay5]; pointwise [at2, at3]; rfl

theorem pay7 : k0_pay7 (F := Ideal) (at2 y) (at2 g) (at2 b) (at2 fun i _ => ∑ k : Fin 1024, y i k) (at2 fun _ _ => ((1024 : ℝ) : EReal)) (at3 v) (at3 v') = at2 (inp y g b v v') := by
  funext j; idx_vars j; unfold k0_pay7; rw [pay6]; pointwise [at2, at3]

theorem pay8 : k0_pay8 (F := Ideal) (at2 y) (at2 g) (at2 b) (at2 fun i _ => ∑ k : Fin 1024, y i k) (at2 fun _ _ => ((1024 : ℝ) : EReal)) (at3 v) (at3 v') = at2 (rh (inp y g b v v')) := by
  funext j; idx_vars j; unfold k0_pay8; rw [pay6]; pointwise [at2, at3]; rfl

theorem pay9 : k0_pay9 (F := Ideal) = at2 (fun _ _ => 0) := by
  funext j; idx_vars j; pointwise [k0_pay9, at2, at3]

theorem pay10 : k0_pay10 (F := Ideal) (at2 y) (at2 g) (at2 b) (at2 fun i _ => ∑ k : Fin 1024, y i k) (at2 fun _ _ => ((1024 : ℝ) : EReal)) (at3 v) (at3 v') (at3 q) = at2 (dot (inp y g b v v') (q 0)) := by
  funext j; idx_vars j; unfold k0_pay10; rw [pay7]; pointwise [at2, at3]; rfl

theorem pay11 : k0_pay11 (F := Ideal) (at2 y) (at2 g) (at2 b) (at2 fun i _ => ∑ k : Fin 1024, y i k) (at2 fun _ _ => ((1024 : ℝ) : EReal)) (at3 v) (at3 v') (at3 q) = at2 (dot (rh (inp y g b v v')) (q 0)) := by
  funext j; idx_vars j; unfold k0_pay11; rw [pay8]; pointwise [at2, at3]; rfl

theorem pay12 : k0_pay12 (F := Ideal) (at2 x) (at2 y) = at2 (fun i c => x i c + y i c) := by
  funext j; idx_vars j; pointwise [k0_pay12, at2, at3]

theorem pay13 : k0_pay13 (F := Ideal) (at2 x) (at2 y) = at2 (fun i c => x i c + y i c) := by
  funext j; idx_vars j; unfold k0_pay13; rw [pay12]; pointwise [at2, at3]

theorem pay14 : k0_pay14 (F := Ideal) (at2 z) (at2 x) (at2 y) (at3 q) (at3 q') = at2 (add2 z (sq fun i c => x i c + y i c) (q 0) (q' 0)) := by
  funext j; idx_vars j; unfold k0_pay14; rw [pay12]; pointwise [at2, at3]; rfl

theorem pay15 : k0_pay15 (F := Ideal) (at2 s) (at2 l) (at3 q) (at3 q') = at2 (hid s l (q 0) (q' 0)) := by
  funext j; idx_vars j; pointwise [k0_pay15, at2, at3]; rfl

theorem pay16 : k0_pay16 (F := Ideal) (at2 s) (at2 l) (at3 q) (at3 q') = at2 (hid s l (q 0) (q' 0)) := by
  funext j; idx_vars j; unfold k0_pay16; rw [pay15]; pointwise [at2, at3]

theorem pay17 : k0_pay17 (F := Ideal) (at2 s) (at2 l) (at3 q) (at3 q') = at2 (sq (hid s l (q 0) (q' 0))) := by
  funext j; idx_vars j; unfold k0_pay17; rw [pay15]; pointwise [at2, at3]; rfl

theorem pay18 : k0_pay18 (F := Ideal) (at2 s) (at2 l) (at3 q) (at3 q') = at2 (sq (hid s l (q 0) (q' 0))) := by
  funext j; idx_vars j; unfold k0_pay18; rw [pay17]; pointwise [at2, at3]

theorem pay19 : k0_pay19 (F := Ideal) (at3 q) = at2 (q 0) := by
  funext j; idx_vars j; pointwise [k0_pay19, at2, at3]

theorem pay20 : k0_pay20 (F := Ideal) (at2 s) (at2 l) (at3 q) (at3 q') = at2 (hid s l (q 0) (q' 0)) := by
  funext j; idx_vars j; pointwise [k0_pay20, at2, at3]; rfl

theorem pay21 : k0_pay21 (F := Ideal) (at2 s) (at2 l) (at3 q) (at3 q') = at2 (hid s l (q 0) (q' 0)) := by
  funext j; idx_vars j; unfold k0_pay21; rw [pay20]; pointwise [at2, at3]

theorem pay22 : k0_pay22 (F := Ideal) (at2 s) (at2 l) (at2 z) (at2 a) (at2 a) (at2 w) (at3 p) (at3 q) (at3 q') (at3 r) (at3 r') = at2 (add2 (add2 z a w (p 0)) (sq (hid s l (q 0) (q' 0))) (r 0) (r' 0)) := by
  funext j; idx_vars j; unfold k0_pay22; rw [pay20]; pointwise [at2, at3]; rfl

theorem pay23 : k0_pay23 (F := Ideal) (at3 q) = at2 (q 0) := by
  funext j; idx_vars j; pointwise [k0_pay23, at2, at3]

theorem pay24 : k0_pay24 (F := Ideal) (at2 s) (at2 l) (at2 w) (at3 q') = at2 (hid s l w (q' 0)) := by
  funext j; idx_vars j; pointwise [k0_pay24, at2, at3]; rfl

theorem pay25 : k0_pay25 (F := Ideal) (at2 s) (at2 l) (at2 w) (at3 q') = at2 (hid s l w (q' 0)) := by
  funext j; idx_vars j; unfold k0_pay25; rw [pay24]; pointwise [at2, at3]

theorem pay26 : k0_pay26 (F := Ideal) (at2 s) (at2 l) (at2 z) (at2 w) (at3 q') (at3 r) (at3 r') = at2 (add2 z (sq (hid s l w (q' 0))) (r 0) (r' 0)) := by
  funext j; idx_vars j; unfold k0_pay26; rw [pay24]; pointwise [at2, at3]; rfl

theorem pay27 : k0_pay27 (F := Ideal) (at2 x) (at2 s) (at2 l) (at2 z) (at2 w) (at3 q') (at3 r) (at3 r') (at3 v) = at2 (fun i c => ((alpha : ℝ) : EReal) * x i c + (1 + v 0 0 c) * add2 z (sq (hid s l w (q' 0))) (r 0) (r' 0) i c) := by
  funext j; idx_vars j; unfold k0_pay27; rw [pay26]; pointwise [at2, at3]

end Cert.Fwd

end
-- ==== Proof.Fwd.Tile.lean ====
/- What the forward call's payloads compute at one point, from the parts of its blocks: 256 positions of batch row `b` from `s0` on. -/
module

public import proofs.«01_k».proof.Proof.Fwd.Pay
public import Idealize.ShloMosaic.Lib.Pipeline.ValueKit.Acc

@[expose] public section

set_option maxRecDepth 16384

noncomputable section

namespace Cert.Fwd

open Cert.Kernel2Ideal Cert.Kernel2Ideal.Gen Idealize.ShloMosaic Idealize.ShloMosaic.TcCoe

/-! ## Loads of a part of a block -/

/-- Some rows of a block. -/
theorem ldRows {A B A' r : ℕ} (f : ℕ → ℕ → EReal)
    (inb : ∀ a, (![r, 0] : Fin _ → ℕ) a + (![A', B] : Fin _ → ℕ) a ≤ (![A, B] : Fin _ → ℕ) a) :
    View.ld (Val := Elt Ideal) (e' := .bf16) (at2 f : (⟨2, ![A, B]⟩ : Shape).Idx → EReal) (Rect.unit ![r, 0] ![A', B] inb)
      = (at2 fun i c => f (r + i) c : (⟨2, ![A', B]⟩ : Shape).Idx → EReal) := by
  funext j
  show f (r + 1 * (j 0).val) (0 + 1 * (j 1).val) = f (r + (j 0).val) (j 1).val
  rw [Nat.one_mul, Nat.one_mul, Nat.zero_add]

/-- One part of the packed weights. -/
theorem ldPart {A B C q : ℕ} (f : ℕ → ℕ → ℕ → EReal)
    (inb : ∀ a, (![q, 0, 0] : Fin _ → ℕ) a + (![1, B, C] : Fin _ → ℕ) a ≤ (![A, B, C] : Fin _ → ℕ) a) :
    View.ld (Val := Elt Ideal) (e' := .bf16) (at3 f : (⟨3, ![A, B, C]⟩ : Shape).Idx → EReal) (Rect.unit ![q, 0, 0] ![1, B, C] inb)
      = (at3 fun _ => f q : (⟨3, ![1, B, C]⟩ : Shape).Idx → EReal) := by
  funext j
  have h0 : (j 0).val = 0 := Nat.lt_one_iff.1 (j 0).isLt
  show f (q + 1 * (j 0).val) (0 + 1 * (j 1).val) (0 + 1 * (j 2).val) = f q (j 1).val (j 2).val
  simp only [h0, Nat.one_mul, Nat.zero_add, Nat.add_zero]

/-- One row of the modulation. -/
theorem ldMod {B C k : ℕ} (f : ℕ → ℕ → EReal)
    (inb : ∀ a, (![0, k, 0] : Fin _ → ℕ) a + (![1, 1, C] : Fin _ → ℕ) a ≤ (![1, B, C] : Fin _ → ℕ) a) :
    View.ld (Val := Elt Ideal) (e' := .f32) (at3 fun _ => f : (⟨3, ![1, B, C]⟩ : Shape).Idx → EReal) (Rect.unit ![0, k, 0] ![1, 1, C] inb)
      = (at3 fun _ _ => f k : (⟨3, ![1, 1, C]⟩ : Shape).Idx → EReal) := by
  funext j
  have h0 : (j 1).val = 0 := Nat.lt_one_iff.1 (j 1).isLt
  show f (k + 1 * (j 1).val) (0 + 1 * (j 2).val) = f k (j 2).val
  simp only [h0, Nat.one_mul, Nat.zero_add, Nat.add_zero]

/-! ## The hidden layer, stored four column parts at a time -/

section
variable (D : ℕ → ℕ → EReal)
  (i0 : ∀ a, (![0, 0] : Fin 2 → ℕ) a + (![256, 1024] : Fin 2 → ℕ) a ≤ S256x4096.size a)
  (i1 : ∀ a, (![0, 1024] : Fin 2 → ℕ) a + (![256, 1024] : Fin 2 → ℕ) a ≤ S256x4096.size a)
  (i2 : ∀ a, (![0, 2048] : Fin 2 → ℕ) a + (![256, 1024] : Fin 2 → ℕ) a ≤ S256x4096.size a)
  (i3 : ∀ a, (![0, 3072] : Fin 2 → ℕ) a + (![256, 1024] : Fin 2 → ℕ) a ≤ S256x4096.size a)

/-- The four parts of `D`, as they were stored. -/
abbrev parts : List (View.Piece (Elt Ideal) S256x4096 .bf16) :=
  [⟨Rect.unit ![0, 3072] ![256, 1024] i3, (at2 fun i c => D i (3072 + c) : S256x1024.Idx → EReal)⟩,
   ⟨Rect.unit ![0, 2048] ![256, 1024] i2, (at2 fun i c => D i (2048 + c) : S256x1024.Idx → EReal)⟩,
   ⟨Rect.unit ![0, 1024] ![256, 1024] i1, (at2 fun i c => D i (1024 + c) : S256x1024.Idx → EReal)⟩,
   ⟨Rect.unit ![0, 0] ![256, 1024] i0, (at2 fun i c => D i (0 + c) : S256x1024.Idx → EReal)⟩]

theorem part_cover (y : S256x4096.Idx) : ∃ p ∈ parts D i0 i1 i2 i3, y ∈ p.1.set := by
  have hy : (y 1).val < 4096 := (y 1).isLt
  have hx : (y 0).val < 256 := (y 0).isLt
  have key : ∀ (o : ℕ) (inb : ∀ a, (![0, o] : Fin 2 → ℕ) a + (![256, 1024] : Fin 2 → ℕ) a ≤ S256x4096.size a),
      o ≤ (y 1).val → (y 1).val < o + 1024 → y ∈ (Rect.unit (s := S256x4096) ![0, o] ![256, 1024] inb).set := by
    intro o inb h1 h2
    rw [Rect.mem_set_unit]
    intro a
    match a with
    | ⟨0, _⟩ => exact ⟨Nat.zero_le _, by show (y 0).val < 0 + 256; omega⟩
    | ⟨1, _⟩ => exact ⟨h1, h2⟩
  rcases (by omega : (y 1).val < 1024 ∨ (1024 ≤ (y 1).val ∧ (y 1).val < 2048) ∨ (2048 ≤ (y 1).val ∧ (y 1).val < 3072) ∨ (3072 ≤ (y 1).val ∧ (y 1).val < 4096))
    with h | h | h | h
  · exact ⟨_, List.Mem.tail _ (List.Mem.tail _ (List.Mem.tail _ (List.Mem.head _))), key 0 i0 (Nat.zero_le _) (by omega)⟩
  · exact ⟨_, List.Mem.tail _ (List.Mem.tail _ (List.Mem.head _)), key 1024 i1 h.1 (by omega)⟩
  · exact ⟨_, List.Mem.tail _ (List.Mem.head _), key 2048 i2 h.1 (by omega)⟩
  · exact ⟨_, List.Mem.head _, key 3072 i3 h.1 (by omega)⟩

theorem parts_canon : View.canon (parts D i0 i1 i2 i3) = (at2 D : S256x4096.Idx → EReal) := funext fun y => by
  refine View.canon_apply_of_pieces (Val := Elt Ideal) (e := .bf16) (at2 D : S256x4096.Idx → EReal) _ ?_ y (part_cover D i0 i1 i2 i3 y)
  have key : ∀ (o : ℕ) (inb : ∀ a, (![0, o] : Fin 2 → ℕ) a + (![256, 1024] : Fin 2 → ℕ) a ≤ S256x4096.size a) (x : S256x1024.Idx),
      (at2 (fun i c => D i (o + c)) : S256x1024.Idx → EReal) x = (at2 D : S256x4096.Idx → EReal) ((Rect.unit (s := S256x4096) ![0, o] ![256, 1024] inb).emb x) := by
    intro o inb x
    show D (x 0).val (o + (x 1).val) = D (0 + 1 * (x 0).val) (o + 1 * (x 1).val)
    rw [Nat.one_mul, Nat.one_mul, Nat.zero_add]
  intro p hp
  simp only [List.mem_cons, List.not_mem_nil, or_false] at hp
  rcases hp with rfl | rfl | rfl | rfl
  · exact key 3072 i3
  · exact key 2048 i2
  · exact key 1024 i1
  · exact key 0 i0
end

/-! ## The rows' values -/

variable (I : In) (b s0 : ℕ)

/-- The feed-forward result of the first `n` chips. -/
def pf : ℕ → ℕ → ℕ → EReal
  | 0, _, _ => 0
  | n + 1, i, c => pf n i c + ∑ k : Fin 1024, act I b (s0 + i) (1024 * n + k) * I.wd (1024 * n + k) c

theorem uq (n i c : ℕ) : hid (tl b s0 (h2 I)) (rh (tl b s0 (h2 I))) (wup I (2 * n)) (wup I (2 * n + 1)) i c = tl b s0 (u I) i (1024 * n + c) := by
  refine Eq.trans ?_ (sum2 fun k => h2 I b (s0 + i) k * I.wu k (1024 * n + c)).symm
  unfold hid dot wup rh tl
  rw [show 2 * n % 2 = 0 by omega, show 2 * n / 2 = n by omega, show (2 * n + 1) % 2 = 1 by omega, show (2 * n + 1) / 2 = n by omega, Nat.mul_comm n]
  simp only [Nat.zero_mul, Nat.zero_add, Nat.one_mul]

theorem fq (n i c : ℕ) : add2 (pf I b s0 n) (sq fun i c => tl b s0 (u I) i (1024 * n + c)) (wdn I (2 * n)) (wdn I (2 * n + 1)) i c = pf I b s0 (n + 1) i c := by
  refine Eq.trans ?_ (congrArg (pf I b s0 n i c + ·) (sum2 fun k => act I b (s0 + i) (1024 * n + k) * I.wd (1024 * n + k) c)).symm
  unfold add2 dot wdn rh
  rw [add_assoc, show 2 * n * 512 = 1024 * n by omega, show (2 * n + 1) * 512 = 1024 * n + 512 by omega]
  simp only [Nat.add_assoc]
  rfl

theorem pf4 (i c : ℕ) : pf I b s0 4 i c = tl b s0 (ff I) i c := by
  refine Eq.trans ?_ (sum4 fun e => act I b (s0 + i) e * I.wd e c).symm
  show (((0 + _) + _) + _) + _ = _
  rw [zero_add]

local notation "Y" => (at2 (tl b s0 (y1 I)) : S256x1024.Idx → EReal)
local notation "H" => (at2 (tl b s0 (h2 I)) : S256x512.Idx → EReal)
local notation "R" => (at2 (rh (tl b s0 (h2 I))) : S256x512.Idx → EReal)

theorem t1 : k0_pay1 (F := Ideal) (at2 (tl b s0 I.sb)) (at2 fun i c => I.wo (0 + i) c) (at2 (tl b s0 I.ml)) (at2 fun i c => I.wo (512 + i) c)
    = at2 (tl b s0 (mix I)) := (pay1 ..).trans (at2_congr fun i _ c _ => by unfold hid dot; simp only [Nat.zero_add]; rfl)

theorem t2 : k0_pay2 (F := Ideal) (at2 (tl b s0 I.sb)) (at2 fun i c => I.wo (0 + i) c) (at2 (tl b s0 I.ml)) (at2 fun i c => I.wo (512 + i) c)
    (at2 (tl b s0 I.x)) (at3 fun _ _ => mrow I b 2) = Y := by
  unfold k0_pay2; rw [t1]
  funext j; idx_vars j; pointwise [at2, at3]; rfl

theorem t3 : k0_pay3 (F := Ideal) (at2 (tl b s0 I.sb)) (at2 fun i c => I.wo (0 + i) c) (at2 (tl b s0 I.ml)) (at2 fun i c => I.wo (512 + i) c)
    (at2 (tl b s0 I.x)) (at3 fun _ _ => mrow I b 2) = at2 fun i _ => ∑ k : Fin 1024, tl b s0 (y1 I) i k := by
  unfold k0_pay3; rw [t2]
  funext j; idx_vars j; pointwise [at2, at3]

theorem t5 : k0_pay5 (F := Ideal) Y (at2 fun _ => I.g) (at2 fun _ => I.b) (at2 fun i _ => ∑ k : Fin 1024, tl b s0 (y1 I) i k)
    (at2 fun _ _ => ((1024 : ℝ) : EReal)) = at2 (tl b s0 (x1 I)) := pay5 ..

theorem t6 : k0_pay6 (F := Ideal) Y (at2 fun _ => I.g) (at2 fun _ => I.b) (at2 fun i _ => ∑ k : Fin 1024, tl b s0 (y1 I) i k)
    (at2 fun _ _ => ((1024 : ℝ) : EReal)) (at3 fun _ _ => mrow I b 4) (at3 fun _ _ => mrow I b 3) = at2 (tl b s0 (h2 I)) := pay6 ..

theorem t7 : k0_pay7 (F := Ideal) Y (at2 fun _ => I.g) (at2 fun _ => I.b) (at2 fun i _ => ∑ k : Fin 1024, tl b s0 (y1 I) i k)
    (at2 fun _ _ => ((1024 : ℝ) : EReal)) (at3 fun _ _ => mrow I b 4) (at3 fun _ _ => mrow I b 3) = H := pay7 ..

theorem t8 : k0_pay8 (F := Ideal) Y (at2 fun _ => I.g) (at2 fun _ => I.b) (at2 fun i _ => ∑ k : Fin 1024, tl b s0 (y1 I) i k)
    (at2 fun _ _ => ((1024 : ℝ) : EReal)) (at3 fun _ _ => mrow I b 4) (at3 fun _ _ => mrow I b 3) = R := pay8 ..

theorem t10 : k0_pay10 (F := Ideal) Y (at2 fun _ => I.g) (at2 fun _ => I.b) (at2 fun i _ => ∑ k : Fin 1024, tl b s0 (y1 I) i k)
    (at2 fun _ _ => ((1024 : ℝ) : EReal)) (at3 fun _ _ => mrow I b 4) (at3 fun _ _ => mrow I b 3) (at3 fun _ => wup I 0)
    = at2 (dot (tl b s0 (h2 I)) (wup I 0)) := pay10 ..

theorem t11 : k0_pay11 (F := Ideal) Y (at2 fun _ => I.g) (at2 fun _ => I.b) (at2 fun i _ => ∑ k : Fin 1024, tl b s0 (y1 I) i k)
    (at2 fun _ _ => ((1024 : ℝ) : EReal)) (at3 fun _ _ => mrow I b 4) (at3 fun _ _ => mrow I b 3) (at3 fun _ => wup I 1)
    = at2 (dot (rh (tl b s0 (h2 I))) (wup I 1)) := pay11 ..

theorem t13 : k0_pay13 (F := Ideal) (at2 (dot (tl b s0 (h2 I)) (wup I 0))) (at2 (dot (rh (tl b s0 (h2 I))) (wup I 1)))
    = at2 fun i c => tl b s0 (u I) i (0 + c) := (pay13 ..).trans (at2_congr fun i _ c _ => uq I b s0 0 i c)

theorem t14 : k0_pay14 (F := Ideal) (at2 fun _ _ => 0) (at2 (dot (tl b s0 (h2 I)) (wup I 0))) (at2 (dot (rh (tl b s0 (h2 I))) (wup I 1)))
    (at3 fun _ => wdn I 0) (at3 fun _ => wdn I 1) = at2 (pf I b s0 1) :=
  (pay14 ..).trans (at2_congr fun i _ c _ =>
    (congrArg (fun f => add2 (pf I b s0 0) (sq f) (wdn I 0) (wdn I 1) i c) (funext fun i => funext fun c => uq I b s0 0 i c)).trans (fq I b s0 0 i c))

theorem t16 : k0_pay16 (F := Ideal) H R (at3 fun _ => wup I 2) (at3 fun _ => wup I 3) = at2 fun i c => tl b s0 (u I) i (1024 + c) :=
  (pay16 ..).trans (at2_congr fun i _ c _ => uq I b s0 1 i c)

theorem t17 : k0_pay17 (F := Ideal) H R (at3 fun _ => wup I 2) (at3 fun _ => wup I 3) = at2 (sq fun i c => tl b s0 (u I) i (1024 + c)) :=
  (pay17 ..).trans (congrArg (fun f => at2 (sq f)) (funext fun i => funext fun c => uq I b s0 1 i c))

theorem t18 : k0_pay18 (F := Ideal) H R (at3 fun _ => wup I 2) (at3 fun _ => wup I 3) = at2 (sq fun i c => tl b s0 (u I) i (1024 + c)) :=
  (pay18 ..).trans (congrArg (fun f => at2 (sq f)) (funext fun i => funext fun c => uq I b s0 1 i c))

theorem t21 : k0_pay21 (F := Ideal) H R (at3 fun _ => wup I 4) (at3 fun _ => wup I 5) = at2 fun i c => tl b s0 (u I) i (2048 + c) :=
  (pay21 ..).trans (at2_congr fun i _ c _ => uq I b s0 2 i c)

theorem t22 : k0_pay22 (F := Ideal) H R (at2 (pf I b s0 1)) (at2 (sq fun i c => tl b s0 (u I) i (1024 + c)))
    (at2 (sq fun i c => tl b s0 (u I) i (1024 + c))) (at2 (wdn I 2)) (at3 fun _ => wdn I 3) (at3 fun _ => wup I 4) (at3 fun _ => wup I 5)
    (at3 fun _ => wdn I 4) (at3 fun _ => wdn I 5) = at2 (pf I b s0 3) :=
  (pay22 ..).trans (at2_congr fun i _ c _ =>
    (congrArg₂ (fun z f => add2 z (sq f) (wdn I 4) (wdn I 5) i c) (funext fun i => funext fun c => fq I b s0 1 i c)
      (funext fun i => funext fun c => uq I b s0 2 i c)).trans (fq I b s0 2 i c))

theorem t25 : k0_pay25 (F := Ideal) H R (at2 (wup I 6)) (at3 fun _ => wup I 7) = at2 fun i c => tl b s0 (u I) i (3072 + c) :=
  (pay25 ..).trans (at2_congr fun i _ c _ => uq I b s0 3 i c)

theorem t26 : k0_pay26 (F := Ideal) H R (at2 (pf I b s0 3)) (at2 (wup I 6)) (at3 fun _ => wup I 7) (at3 fun _ => wdn I 6) (at3 fun _ => wdn I 7)
    = at2 (tl b s0 (ff I)) :=
  (pay26 ..).trans (at2_congr fun i _ c _ =>
    (congrArg (fun f => add2 (pf I b s0 3) (sq f) (wdn I 6) (wdn I 7) i c) (funext fun i => funext fun c => uq I b s0 3 i c)).trans
      ((fq I b s0 3 i c).trans (pf4 I b s0 i c)))

theorem t27 : k0_pay27 (F := Ideal) (at2 (tl b s0 (x1 I))) H R (at2 (pf I b s0 3)) (at2 (wup I 6)) (at3 fun _ => wup I 7) (at3 fun _ => wdn I 6)
    (at3 fun _ => wdn I 7) (at3 fun _ _ => mrow I b 5) = at2 (tl b s0 (y2 I)) := by
  unfold k0_pay27; rw [t26]
  funext j; idx_vars j; pointwise [at2, at3]; rfl

end Cert.Fwd

end
-- ==== Proof.Fwd.HostEq.lean ====
/- Each operation of the host program before the kernel read once, over what that program leaves in its buffers. -/
module

public import proofs.«01_k».proof.Proof.Gen.Kernel2Ideal.Launch
public import Idealize.ShloMosaic.Lib.StableHlo.RunRead

@[expose] public section

set_option maxRecDepth 16384

noncomputable section

namespace Cert.Fwd.HostEq

open Cert.Kernel2Ideal Cert.Kernel2Ideal.Gen Idealize.ShloMosaic Idealize.ShloMosaic.TcCoe Idealize.SL.Sem
open StableHlo

variable {F : FTy → Type} [FloatOps F]

/-- What the host operations write, in order. -/
def outs : List (Ref sig .tc) := [main_v0, main_cst, main_v1, main_v2, main_v3, main_v4, main_v5, main_v6, main_v7, main_v8, main_v9, main_v10, main_v11, main_v12, main_v13, main_v14]

theorem writes_eq : (hostOps0 : List (HloOp τ sig (Elt F))).map HloOp.writes = outs.map fun w => {Proc.devRef (τ := τ) .tc w} := rfl

/-- A buffer not written from operation `i` on holds at the end what it held before operation `i`. -/
theorem upto_after (W : Valuation τ sig (Elt F)) (i : ℕ) {a : Ref sig .tc} (h : a ∉ outs.drop i) :
    upto hostOps0 W i (Proc.devRef .tc a) = after hostOps0 W (Proc.devRef .tc a) := by
  have e : after hostOps0 W = after ((hostOps0 (F := F)).drop i) (upto hostOps0 W i) := by
    have gen : ∀ (l₁ l₂ : List (HloOp τ sig (Elt F))) (V : Valuation τ sig (Elt F)), after (l₁ ++ l₂) V = after l₂ (after l₁ V) := by
      intro l₁
      induction l₁ with
      | nil => intro l₂ V; rfl
      | cons op l ih => intro l₂ V; exact ih _ _
    have := gen ((hostOps0 (F := F)).take i) ((hostOps0 (F := F)).drop i) W
    rwa [List.take_append_drop] at this
  rw [e, after_unwritten (outs.drop i) (by rw [List.map_drop, writes_eq, List.map_drop]) h]

/-- The buffer operation `i` writes last holds its result. -/
theorem last (W : Valuation τ sig (Elt F)) (i : ℕ) {op : HloOp τ sig (Elt F)} {rest : List (HloOp τ sig (Elt F))} {r : Ref sig .tc}
    (hseg : (hostOps0 (F := F)).drop i = op :: rest) (h : r ∉ outs.drop (i + 1)) :
    after hostOps0 W (Proc.devRef .tc r) = op.result (upto hostOps0 W i) (Proc.devRef .tc r) := by
  refine after_last_write (outs.drop (i + 1)) hseg ?_ h W
  have : rest = (hostOps0 (F := F)).drop (i + 1) := by rw [← List.drop_drop, hseg]; rfl
  rw [this, List.map_drop, writes_eq, List.map_drop]

variable (W : Valuation τ sig (Elt F))

theorem e_v0 : after hostOps0 W (Proc.devRef .tc main_v0) = shapeCast S4x6x1024 (after hostOps0 W (Proc.devRef .tc main_arg3)) shapeCasts_S4x6144_S4x6x1024 := by
  refine (last W 0 rfl (by decide)).trans ?_
  refine (reshape_result ..).trans ?_
  rw [upto_after W 0 (a := main_arg3) (by decide)]
  rfl

theorem e_cst : after hostOps0 W (Proc.devRef .tc main_cst) = (constant S_ .f32 0x00000000#32) := by
  refine (last W 1 rfl (by decide)).trans ?_
  refine (nullary_result ..).trans ?_
  rfl

theorem e_v1 : after hostOps0 W (Proc.devRef .tc main_v1) = ((fun x v => pad S4x8x1024 ![0, 0, 0] ![0, 2, 0] ![0, 0, 0] x v pads_S4x6x1024_S4x8x1024_000_020_000 h_S_) : (⟨S4x6x1024, .f32⟩ : BufTy).Contents (Elt F) → (⟨S_, .f32⟩ : BufTy).Contents (Elt F) → (⟨S4x8x1024, .f32⟩ : BufTy).Contents (Elt F)) (after hostOps0 W (Proc.devRef .tc main_v0)) (after hostOps0 W (Proc.devRef .tc main_cst)) := by
  refine (last W 2 rfl (by decide)).trans ?_
  refine (binary_result ..).trans ?_
  rw [upto_after W 2 (a := main_v0) (by decide), upto_after W 2 (a := main_cst) (by decide)]

theorem e_v2 : after hostOps0 W (Proc.devRef .tc main_v2) = ((truncf .bf16 · bitsLt_bf16_f32) : (⟨S1024x1024, .f32⟩ : BufTy).Contents (Elt F) → (⟨S1024x1024, .bf16⟩ : BufTy).Contents (Elt F)) (after hostOps0 W (Proc.devRef .tc main_arg4)) := by
  refine (last W 3 rfl (by decide)).trans ?_
  refine (unary_result ..).trans ?_
  rw [upto_after W 3 (a := main_arg4) (by decide)]

theorem e_v3 : after hostOps0 W (Proc.devRef .tc main_v3) = ((truncf .bf16 · bitsLt_bf16_f32) : (⟨S1024x4096, .f32⟩ : BufTy).Contents (Elt F) → (⟨S1024x4096, .bf16⟩ : BufTy).Contents (Elt F)) (after hostOps0 W (Proc.devRef .tc main_arg7)) := by
  refine (last W 4 rfl (by decide)).trans ?_
  refine (unary_result ..).trans ?_
  rw [upto_after W 4 (a := main_arg7) (by decide)]

theorem e_v4 : after hostOps0 W (Proc.devRef .tc main_v4) = shapeCast S1024x4x1024 (after hostOps0 W (Proc.devRef .tc main_v3)) shapeCasts_S1024x4096_S1024x4x1024 := by
  refine (last W 5 rfl (by decide)).trans ?_
  refine (reshape_result ..).trans ?_
  rw [upto_after W 5 (a := main_v3) (by decide)]
  rfl

theorem e_v5 : after hostOps0 W (Proc.devRef .tc main_v5) = ((transpose S4x1024x1024 [1, 0, 2] · transposes_S1024x4x1024_S4x1024x1024_1_0_2) : (⟨S1024x4x1024, .bf16⟩ : BufTy).Contents (Elt F) → (⟨S4x1024x1024, .bf16⟩ : BufTy).Contents (Elt F)) (after hostOps0 W (Proc.devRef .tc main_v4)) := by
  refine (last W 6 rfl (by decide)).trans ?_
  refine (unary_result ..).trans ?_
  rw [upto_after W 6 (a := main_v4) (by decide)]

theorem e_v6 : after hostOps0 W (Proc.devRef .tc main_v6) = shapeCast S8x512x1024 (after hostOps0 W (Proc.devRef .tc main_v5)) shapeCasts_S4x1024x1024_S8x512x1024 := by
  refine (last W 7 rfl (by decide)).trans ?_
  refine (reshape_result ..).trans ?_
  rw [upto_after W 7 (a := main_v5) (by decide)]
  rfl

theorem e_v7 : after hostOps0 W (Proc.devRef .tc main_v7) = ((truncf .bf16 · bitsLt_bf16_f32) : (⟨S4096x1024, .f32⟩ : BufTy).Contents (Elt F) → (⟨S4096x1024, .bf16⟩ : BufTy).Contents (Elt F)) (after hostOps0 W (Proc.devRef .tc main_arg8)) := by
  refine (last W 8 rfl (by decide)).trans ?_
  refine (unary_result ..).trans ?_
  rw [upto_after W 8 (a := main_arg8) (by decide)]

theorem e_v8 : after hostOps0 W (Proc.devRef .tc main_v8) = shapeCast S8x512x1024 (after hostOps0 W (Proc.devRef .tc main_v7)) shapeCasts_S4096x1024_S8x512x1024 := by
  refine (last W 9 rfl (by decide)).trans ?_
  refine (reshape_result ..).trans ?_
  rw [upto_after W 9 (a := main_v7) (by decide)]
  rfl

theorem e_v9 : after hostOps0 W (Proc.devRef .tc main_v9) = shapeCast S8x128x1024 (after hostOps0 W (Proc.devRef .tc main_v2)) shapeCasts_S1024x1024_S8x128x1024 := by
  refine (last W 10 rfl (by decide)).trans ?_
  refine (reshape_result ..).trans ?_
  rw [upto_after W 10 (a := main_v2) (by decide)]
  rfl

theorem e_v10 : after hostOps0 W (Proc.devRef .tc main_v10) = ((concatenate S8x1152x1024 1 [⟨S8x512x1024, (after hostOps0 W (Proc.devRef .tc main_v6) : (⟨S8x512x1024, .bf16⟩ : BufTy).Contents (Elt F))⟩, ⟨S8x512x1024, (after hostOps0 W (Proc.devRef .tc main_v8) : (⟨S8x512x1024, .bf16⟩ : BufTy).Contents (Elt F))⟩, ⟨S8x128x1024, (after hostOps0 W (Proc.devRef .tc main_v9) : (⟨S8x128x1024, .bf16⟩ : BufTy).Contents (Elt F))⟩] concatenates_S8x512x1024_S8x512x1024_S8x128x1024_S8x1152x1024_d1 : (⟨S8x1152x1024, .bf16⟩ : BufTy).Contents (Elt F))) := by
  refine (last W 11 rfl (by decide)).trans ?_
  refine (nary_result ..).trans ?_
  rw [← upto_after W 11 (a := main_v6) (by decide), ← upto_after W 11 (a := main_v8) (by decide), ← upto_after W 11 (a := main_v9) (by decide)]
  rfl

theorem e_v11 : after hostOps0 W (Proc.devRef .tc main_v11) = shapeCast S8192x512 (after hostOps0 W (Proc.devRef .tc main_arg1)) shapeCasts_S4x2048x512_S8192x512 := by
  refine (last W 12 rfl (by decide)).trans ?_
  refine (reshape_result ..).trans ?_
  rw [upto_after W 12 (a := main_arg1) (by decide)]
  rfl

theorem e_v12 : after hostOps0 W (Proc.devRef .tc main_v12) = ((truncf .bf16 · bitsLt_bf16_f32) : (⟨S8192x512, .f32⟩ : BufTy).Contents (Elt F) → (⟨S8192x512, .bf16⟩ : BufTy).Contents (Elt F)) (after hostOps0 W (Proc.devRef .tc main_v11)) := by
  refine (last W 13 rfl (by decide)).trans ?_
  refine (unary_result ..).trans ?_
  rw [upto_after W 13 (a := main_v11) (by decide)]

theorem e_v13 : after hostOps0 W (Proc.devRef .tc main_v13) = shapeCast S8192x512 (after hostOps0 W (Proc.devRef .tc main_arg2)) shapeCasts_S4x2048x512_S8192x512 := by
  refine (last W 14 rfl (by decide)).trans ?_
  refine (reshape_result ..).trans ?_
  rw [upto_after W 14 (a := main_arg2) (by decide)]
  rfl

theorem e_v14 : after hostOps0 W (Proc.devRef .tc main_v14) = shapeCast S8192x1024 (after hostOps0 W (Proc.devRef .tc main_arg0)) shapeCasts_S4x2048x1024_S8192x1024 := by
  refine (last W 15 rfl (by decide)).trans ?_
  refine (reshape_result ..).trans ?_
  rw [upto_after W 15 (a := main_arg0) (by decide)]
  rfl

end Cert.Fwd.HostEq

end
-- ==== Proof.Fwd.Host.lean ====
/- What the host program before the forward call leaves in each buffer its windows read. -/
module

public import proofs.«01_k».proof.Proof.Fwd.Spec
public import proofs.«01_k».proof.Proof.Fwd.HostEq

@[expose] public section

set_option maxRecDepth 16384

noncomputable section

namespace Cert.Fwd

open Cert.Kernel2Ideal Cert.Kernel2Ideal.Gen Idealize.ShloMosaic Idealize.ShloMosaic.TcCoe Idealize.SL.Sem
open StableHlo Cert.Fwd.HostEq Cert.Up

variable (W : Valuation τ sig (Elt Ideal)) (I : In)

/-- The program's arguments are those of `I`. -/
structure Holds : Prop where
  a0 : (after hostOps0 W (Proc.devRef .tc main_arg0) : S4x2048x1024.Idx → EReal) = at3 I.x
  a1 : (after hostOps0 W (Proc.devRef .tc main_arg1) : S4x2048x512.Idx → EReal) = at3 I.sb
  a2 : (after hostOps0 W (Proc.devRef .tc main_arg2) : S4x2048x512.Idx → EReal) = at3 I.ml
  a3 : (after hostOps0 W (Proc.devRef .tc main_arg3) : S4x6144.Idx → EReal) = at2 I.mod
  a4 : (after hostOps0 W (Proc.devRef .tc main_arg4) : S1024x1024.Idx → EReal) = at2 I.wo
  a5 : (after hostOps0 W (Proc.devRef .tc main_arg5) : S1x1024.Idx → EReal) = at2 fun _ c => I.g c
  a6 : (after hostOps0 W (Proc.devRef .tc main_arg6) : S1x1024.Idx → EReal) = at2 fun _ c => I.b c
  a7 : (after hostOps0 W (Proc.devRef .tc main_arg7) : S1024x4096.Idx → EReal) = at2 I.wu
  a8 : (after hostOps0 W (Proc.devRef .tc main_arg8) : S4096x1024.Idx → EReal) = at2 I.wd

variable {W I}

theorem v1 (h : Holds W I) : (after hostOps0 W (Proc.devRef .tc main_v1) : S4x8x1024.Idx → EReal) = at3 (mrow I) := by
  rw [e_v1, e_cst, e_v0]
  rw [h.a3]
  funext j; idx_vars j
  pointwise [at2, at3]
  unfold mrow md
  rw [mul_comm 1024]
  split_ifs <;> rfl

theorem v2 (h : Holds W I) : (after hostOps0 W (Proc.devRef .tc main_v2) : S1024x1024.Idx → EReal) = at2 I.wo := by
  rw [e_v2]
  rw [h.a4]
  funext j; idx_vars j
  pointwise [at2, at3]

theorem v6 (h : Holds W I) : (after hostOps0 W (Proc.devRef .tc main_v6) : S8x512x1024.Idx → EReal) = at3 fun q r c => I.wu (q % 2 * 512 + r) (q / 2 * 1024 + c) := by
  rw [e_v6, e_v5, e_v4, e_v3]
  rw [h.a7]
  funext j; idx_vars j
  pointwise [at2, at3]

theorem v8 (h : Holds W I) : (after hostOps0 W (Proc.devRef .tc main_v8) : S8x512x1024.Idx → EReal) = at3 fun q r c => I.wd (q * 512 + r) c := by
  rw [e_v8, e_v7]
  rw [h.a8]
  funext j; idx_vars j
  pointwise [at2, at3]

theorem v9 (h : Holds W I) : (after hostOps0 W (Proc.devRef .tc main_v9) : S8x128x1024.Idx → EReal) = at3 fun q r c => I.wo (q * 128 + r) c := by
  rw [e_v9]
  rw [v2 h]
  funext j; idx_vars j
  pointwise [at2, at3]

theorem v10 (h : Holds W I) : (after hostOps0 W (Proc.devRef .tc main_v10) : S8x1152x1024.Idx → EReal) = at3 (wts I) := by
  rw [e_v10]
  rw [v6 h, v8 h, v9 h]
  funext j; idx_vars j
  pointwise [at2, at3]
  simp only [dite_eq_ite]
  unfold wts
  split_ifs <;> first | rfl | omega

theorem v12 (h : Holds W I) : (after hostOps0 W (Proc.devRef .tc main_v12) : S8192x512.Idx → EReal) = at2 (flat I.sb) := by
  rw [e_v12, e_v11]
  rw [h.a1]
  funext j; idx_vars j
  pointwise [at2, at3]
  rfl

theorem v13 (h : Holds W I) : (after hostOps0 W (Proc.devRef .tc main_v13) : S8192x512.Idx → EReal) = at2 (flat I.ml) := by
  rw [e_v13]
  rw [h.a2]
  funext j; idx_vars j
  pointwise [at2, at3]
  rfl

theorem v14 (h : Holds W I) : (after hostOps0 W (Proc.devRef .tc main_v14) : S8192x1024.Idx → EReal) = at2 (flat I.x) := by
  rw [e_v14]
  rw [h.a0]
  funext j; idx_vars j
  pointwise [at2, at3]
  rfl

end Cert.Fwd

end
-- ==== Proof.Fwd.Blk.lean ====
/- What each window's block of the forward call holds at a point: the rows of the array it is cut from. -/
module

public import proofs.«01_k».proof.Proof.Fwd.Host
public import proofs.«01_k».proof.Proof.Gen.Kernel2Ideal.Frame

@[expose] public section

set_option maxRecDepth 16384

noncomputable section

namespace Cert.Fwd

open Cert.Kernel2Ideal Cert.Kernel2Ideal.Gen Idealize.ShloMosaic Idealize.ShloMosaic.TcCoe Idealize.SL.Sem

variable (m : (ℓ : Loc nD τ sig) → Buf (Elt Ideal) ℓ) (c : Dev nD) {I : In}

theorem i0 : ∀ t : Fin cfg0.N, win0_0.index t 0 = t.val ∧ win0_0.index t 1 = 0 :=
  (by decide +kernel : ∀ t : Fin grid0.N, win0_0.index t 0 = t.val ∧ win0_0.index t 1 = 0)

theorem b0 (h : Holds (fun b => m (c, b)) I) (t : Fin cfg0.N) :
    (iblk m c 0 t : S256x512.Idx → EReal) = at2 (tl (t.val / 8) (256 * (t.val % 8)) I.sb) := by
  have hi := i0 t
  funext j
  unfold iblk
  rw [View.read_apply]
  show V m c main_v12 _ = _
  unfold V
  rw [v12 h]
  show flat I.sb (win0_0.index t 0 * 256 + 1 * (j 0).val) (win0_0.index t 1 * 512 + 1 * (j 1).val) = I.sb (t.val / 8) (256 * (t.val % 8) + (j 0).val) (j 1).val
  have h0 : (j 0).val < 256 := (j 0).isLt
  rw [hi.1, hi.2]
  unfold flat
  congr 1 <;> omega

theorem i1 : ∀ t : Fin cfg0.N, win0_1.index t 0 = t.val ∧ win0_1.index t 1 = 0 :=
  (by decide +kernel : ∀ t : Fin grid0.N, win0_1.index t 0 = t.val ∧ win0_1.index t 1 = 0)

theorem b1 (h : Holds (fun b => m (c, b)) I) (t : Fin cfg0.N) :
    (iblk m c 1 t : S256x512.Idx → EReal) = at2 (tl (t.val / 8) (256 * (t.val % 8)) I.ml) := by
  have hi := i1 t
  funext j
  unfold iblk
  rw [View.read_apply]
  show V m c main_v13 _ = _
  unfold V
  rw [v13 h]
  show flat I.ml (win0_1.index t 0 * 256 + 1 * (j 0).val) (win0_1.index t 1 * 512 + 1 * (j 1).val) = I.ml (t.val / 8) (256 * (t.val % 8) + (j 0).val) (j 1).val
  have h0 : (j 0).val < 256 := (j 0).isLt
  rw [hi.1, hi.2]
  unfold flat
  congr 1 <;> omega

theorem i2 : ∀ t : Fin cfg0.N, win0_2.index t 0 = t.val ∧ win0_2.index t 1 = 0 :=
  (by decide +kernel : ∀ t : Fin grid0.N, win0_2.index t 0 = t.val ∧ win0_2.index t 1 = 0)

theorem b2 (h : Holds (fun b => m (c, b)) I) (t : Fin cfg0.N) :
    (iblk m c 2 t : S256x1024.Idx → EReal) = at2 (tl (t.val / 8) (256 * (t.val % 8)) I.x) := by
  have hi := i2 t
  funext j
  unfold iblk
  rw [View.read_apply]
  show V m c main_v14 _ = _
  unfold V
  rw [v14 h]
  show flat I.x (win0_2.index t 0 * 256 + 1 * (j 0).val) (win0_2.index t 1 * 1024 + 1 * (j 1).val) = I.x (t.val / 8) (256 * (t.val % 8) + (j 0).val) (j 1).val
  have h0 : (j 0).val < 256 := (j 0).isLt
  rw [hi.1, hi.2]
  unfold flat
  congr 1 <;> omega

theorem i3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

theorem b3 (h : Holds (fun b => m (c, b)) I) (t : Fin cfg0.N) :
    (iblk m c 3 t : S1x8x1024.Idx → EReal) = at3 fun _ k e => mrow I (t.val / 8) k e := by
  have hi := i3 t
  funext j
  unfold iblk
  rw [View.read_apply]
  show V m c main_v1 _ = _
  unfold V
  rw [v1 h]
  show mrow I (win0_3.index t 0 * 1 + 1 * (j 0).val) (win0_3.index t 1 * 8 + 1 * (j 1).val) (win0_3.index t 2 * 1024 + 1 * (j 2).val) = mrow I (t.val / 8) (j 1).val (j 2).val
  have h0 : (j 0).val < 1 := (j 0).isLt
  rw [hi.1, hi.2.1, hi.2.2]
  congr 1 <;> omega

theorem i4 : ∀ t : Fin cfg0.N, win0_4.index t 0 = 0 ∧ win0_4.index t 1 = 0 :=
  (by decide +kernel : ∀ t : Fin grid0.N, win0_4.index t 0 = 0 ∧ win0_4.index t 1 = 0)

theorem b4 (h : Holds (fun b => m (c, b)) I) (t : Fin cfg0.N) :
    (iblk m c 4 t : S1024x1024.Idx → EReal) = at2 I.wo := by
  have hi := i4 t
  funext j
  unfold iblk
  rw [View.read_apply]
  show V m c main_v2 _ = _
  unfold V
  rw [v2 h]
  show I.wo (win0_4.index t 0 * 1024 + 1 * (j 0).val) (win0_4.index t 1 * 1024 + 1 * (j 1).val) = I.wo (j 0).val (j 1).val
  rw [hi.1, hi.2]
  congr 1 <;> omega

theorem i5 : ∀ t : Fin cfg0.N, win0_5.index t 1 = 0 :=
  (by decide +kernel : ∀ t : Fin grid0.N, win0_5.index t 1 = 0)

theorem b5 (h : Holds (fun b => m (c, b)) I) (t : Fin cfg0.N) :
    (iblk m c 5 t : S1x1024.Idx → EReal) = at2 fun _ k => I.g k := by
  have hi := i5 t
  funext j
  unfold iblk
  rw [View.read_apply]
  show V m c main_arg5 _ = _
  unfold V
  rw [h.a5]
  show I.g (win0_5.index t 1 * 1024 + 1 * (j 1).val) = I.g (j 1).val
  rw [hi]
  congr 1; omega

theorem i6 : ∀ t : Fin cfg0.N, win0_6.index t 1 = 0 :=
  (by decide +kernel : ∀ t : Fin grid0.N, win0_6.index t 1 = 0)

theorem b6 (h : Holds (fun b => m (c, b)) I) (t : Fin cfg0.N) :
    (iblk m c 6 t : S1x1024.Idx → EReal) = at2 fun _ k => I.b k := by
  have hi := i6 t
  funext j
  unfold iblk
  rw [View.read_apply]
  show V m c main_arg6 _ = _
  unfold V
  rw [h.a6]
  show I.b (win0_6.index t 1 * 1024 + 1 * (j 1).val) = I.b (j 1).val
  rw [hi]
  congr 1; omega

theorem i7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem b7 (h : Holds (fun b => m (c, b)) I) (t : Fin cfg0.N) :
    (X0_7 m c t : S8x512x1024.Idx → EReal) = at3 (wup I) := by
  have hi := i7 t
  refine funext fun (j : S8x512x1024.Idx) => ?_
  unfold X0_7 Pipeline.Window.fill
  rw [dif_pos (moved0_7 t j)]
  unfold iblk
  rw [View.read_apply]
  show V m c main_v10 _ = _
  unfold V
  rw [v10 h]
  have h1 : (j 1).val < 512 := (j 1).isLt
  have e0 : win0_7.index t 0 * 8 + 1 * (j 0).val = (j 0).val := by rw [hi.1, Nat.zero_mul, Nat.zero_add, Nat.one_mul]
  have e1 : win0_7.index t 1 * 512 + 1 * (j 1).val = (j 1).val := by rw [hi.2.1, Nat.zero_mul, Nat.zero_add, Nat.one_mul]
  have e2 : win0_7.index t 2 * 1024 + 1 * (j 2).val = (j 2).val := by rw [hi.2.2, Nat.zero_mul, Nat.zero_add, Nat.one_mul]
  show wts I (win0_7.index t 0 * 8 + 1 * (j 0).val) (win0_7.index t 1 * 512 + 1 * (j 1).val) (win0_7.index t 2 * 1024 + 1 * (j 2).val) = _
  rw [e0, e1, e2]
  unfold wts
  rw [if_pos (by omega)]
  rfl

theorem i8 : ∀ t : Fin cfg0.N, win0_8.index t 0 = 0 ∧ win0_8.index t 1 = 1 ∧ win0_8.index t 2 = 0 :=
  (by decide +kernel : ∀ t : Fin grid0.N, win0_8.index t 0 = 0 ∧ win0_8.index t 1 = 1 ∧ win0_8.index t 2 = 0)

theorem b8 (h : Holds (fun b => m (c, b)) I) (t : Fin cfg0.N) :
    (X0_8 m c t : S8x512x1024.Idx → EReal) = at3 (wdn I) := by
  have hi := i8 t
  refine funext fun (j : S8x512x1024.Idx) => ?_
  unfold X0_8 Pipeline.Window.fill
  rw [dif_pos (moved0_8 t j)]
  unfold iblk
  rw [View.read_apply]
  show V m c main_v10 _ = _
  unfold V
  rw [v10 h]
  have h1 : (j 1).val < 512 := (j 1).isLt
  have e0 : win0_8.index t 0 * 8 + 1 * (j 0).val = (j 0).val := by rw [hi.1, Nat.zero_mul, Nat.zero_add, Nat.one_mul]
  have e1 : win0_8.index t 1 * 512 + 1 * (j 1).val = 512 + (j 1).val := by rw [hi.2.1]; simp only [Nat.one_mul]
  have e2 : win0_8.index t 2 * 1024 + 1 * (j 2).val = (j 2).val := by rw [hi.2.2, Nat.zero_mul, Nat.zero_add, Nat.one_mul]
  show wts I (win0_8.index t 0 * 8 + 1 * (j 0).val) (win0_8.index t 1 * 512 + 1 * (j 1).val) (win0_8.index t 2 * 1024 + 1 * (j 2).val) = _
  rw [e0, e1, e2]
  unfold wts
  rw [if_neg (by omega), if_pos (by omega), Nat.add_sub_cancel_left]
  rfl

end Cert.Fwd

end
-- ==== Proof.Fwd.Out.lean ====
module
public import proofs.«01_k».proof.Proof.Fwd.Tile
public import proofs.«01_k».proof.Proof.Fwd.Blk
@[expose] public section
set_option maxRecDepth 16384
noncomputable section
/-! What the forward call leaves in its result windows at each point. -/
namespace Cert.Fwd
open Cert.Kernel2Ideal Cert.Kernel2Ideal.Gen Idealize.ShloMosaic Idealize.ShloMosaic.TcCoe Idealize.SL.Sem
variable (m : (ℓ : Loc nD τ sig) → Buf (Elt Ideal) ℓ) (c : Dev nD) {I : In}

theorem x9 (h : Holds (fun b => m (c, b)) I) (t : Fin cfg0.N) :
    (outsAt0 m c t).1 = at2 (tl (t.val / 8) (256 * (t.val % 8)) (mix I)) := by
  unfold outsAt0
  frame_out
  rw [b0 m c h t, b1 m c h t, b4 m c h t]
  generalize t.val / 8 = b
  generalize 256 * (t.val % 8) = s0
  simp only [ldRows]
  simp only [t1]

theorem x10 (h : Holds (fun b => m (c, b)) I) (t : Fin cfg0.N) :
    (outsAt0 m c t).2.1 = at2 (tl (t.val / 8) (256 * (t.val % 8)) (y1 I)) := by
  unfold outsAt0
  frame_out
  rw [b0 m c h t, b1 m c h t, b2 m c h t, b3 m c h t, b4 m c h t]
  generalize t.val / 8 = b
  generalize 256 * (t.val % 8) = s0
  simp only [ldRows, ldMod]
  simp only [t2]

theorem x11 (h : Holds (fun b => m (c, b)) I) (t : Fin cfg0.N) :
    (outsAt0 m c t).2.2.1 = at2 (tl (t.val / 8) (256 * (t.val % 8)) (h2 I)) := by
  unfold outsAt0
  frame_out
  rw [b0 m c h t, b1 m c h t, b2 m c h t, b3 m c h t, b4 m c h t, b5 m c h t, b6 m c h t]
  generalize t.val / 8 = b
  generalize 256 * (t.val % 8) = s0
  simp only [ldRows, ldMod]
  simp only [t2, t3, pay4, t6]

theorem x12 (h : Holds (fun b => m (c, b)) I) (t : Fin cfg0.N) :
    (outsAt0 m c t).2.2.2.1 = at2 (tl (t.val / 8) (256 * (t.val % 8)) (u I)) := by
  unfold outsAt0
  frame_out
  rw [b0 m c h t, b1 m c h t, b2 m c h t, b3 m c h t, b4 m c h t, b5 m c h t, b6 m c h t, b7 m c h t]
  generalize t.val / 8 = b
  generalize 256 * (t.val % 8) = s0
  simp only [ldRows, ldMod, ldPart]
  simp only [t2, t3, pay4, t7, t8, t10, t11]
  simp only [t13, t16, t21, pay23, t25]
  exact parts_canon ..

theorem x13 (h : Holds (fun b => m (c, b)) I) (t : Fin cfg0.N) :
    (outsAt0 m c t).2.2.2.2.1 = at2 (tl (t.val / 8) (256 * (t.val % 8)) (ff I)) := by
  unfold outsAt0
  frame_out
  rw [b0 m c h t, b1 m c h t, b2 m c h t, b3 m c h t, b4 m c h t, b5 m c h t, b6 m c h t, b7 m c h t, b8 m c h t]
  generalize t.val / 8 = b
  generalize 256 * (t.val % 8) = s0
  simp only [ldRows, ldMod, ldPart]
  simp only [t2, t3, pay4, t7, t8, t10, t11]
  simp only [pay9, t14, t17, t18, pay19, pay23]
  simp only [t22, t26]

theorem x14 (h : Holds (fun b => m (c, b)) I) (t : Fin cfg0.N) :
    (outsAt0 m c t).2.2.2.2.2 = at2 (tl (t.val / 8) (256 * (t.val % 8)) (y2 I)) := by
  unfold outsAt0
  frame_out
  rw [b0 m c h t, b1 m c h t, b2 m c h t, b3 m c h t, b4 m c h t, b5 m c h t, b6 m c h t, b7 m c h t, b8 m c h t]
  generalize t.val / 8 = b
  generalize 256 * (t.val % 8) = s0
  simp only [ldRows, ldMod, ldPart]
  simp only [t2, t3, pay4, t5, t7, t8, t10, t11]
  simp only [pay9, t14, t17, t18, pay19, pay23]
  simp only [t22, t27]

end Cert.Fwd
end
-- ==== Proof.Fwd.Final.lean ====
module
public import proofs.«01_k».proof.Proof.Fwd.Out
public import proofs.«01_k».proof.Proof.Gen.Kernel2Ideal.Value
@[expose] public section
set_option maxRecDepth 16384
noncomputable section
/-! The forward call's result arrays, whole. -/
namespace Cert.Fwd
open Cert.Kernel2Ideal Cert.Kernel2Ideal.Gen Cert.Kernel2Ideal.Value Idealize.ShloMosaic Idealize.ShloMosaic.TcCoe Idealize.SL.Sem
variable (m : (ℓ : Loc nD τ sig) → Buf (Elt Ideal) ℓ) (c : Dev nD) {I : In}

theorem j9 : ∀ t : Fin cfg0.N, win0_9.index t 0 = t.val ∧ win0_9.index t 1 = 0 :=
  (by decide +kernel : ∀ t : Fin grid0.N, win0_9.index t 0 = t.val ∧ win0_9.index t 1 = 0)
theorem k9 : ∀ t : Fin cfg0.N, win0_9.xsize (grid0.coords t) 0 = 256 ∧ win0_9.xsize (grid0.coords t) 1 = 1024 :=
  (by decide +kernel : ∀ t : Fin grid0.N, win0_9.xsize (grid0.coords t) 0 = 256 ∧ win0_9.xsize (grid0.coords t) 1 = 1024)

theorem f9 (h : Holds (fun b => m (c, b)) I) :
    (dats m 0 c).arrAt 9 cfg0.N = (at2 (flat (mix I)) : S8192x1024.Idx → EReal) := by
  refine (dats m 0 c).arrAt_eq_of_cover 9 _ (fun t _ => ?_) fun i => ?_
  · rw [flushed9, x9 m c h t]
    have hi := j9 t
    funext j
    have h0 : (j 0).val < 256 := (congrArg (fun n => (j 0).val < n) (k9 t).1).mp (j 0).isLt
    rw [View.read_apply]
    show (mix I) (t.val / 8) (256 * (t.val % 8) + (j 0).val) (j 1).val = flat (mix I) (win0_9.index t 0 * 256 + 1 * (j 0).val) (win0_9.index t 1 * 1024 + 1 * (j 1).val)
    rw [hi.1, hi.2]
    unfold flat
    congr 1 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_9 _, ?_⟩
    have hi := j9 ⟨(i 0).val / 256, ht⟩
    have hk := k9 ⟨(i 0).val / 256, ht⟩
    show i ∈ ((View.whole main_v15_0).slice (win0_9.rect ⟨(i 0).val / 256, ht⟩)).set
    rw [View.set_slice_whole, Rect.mem_set_unit]
    intro a
    match a with
    | ⟨0, _⟩ =>
      show win0_9.index ⟨(i 0).val / 256, ht⟩ 0 * 256 ≤ (i 0).val ∧ (i 0).val < win0_9.index ⟨(i 0).val / 256, ht⟩ 0 * 256 + win0_9.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_9.index ⟨(i 0).val / 256, ht⟩ 1 * 1024 ≤ (i 1).val ∧ (i 1).val < win0_9.index ⟨(i 0).val / 256, ht⟩ 1 * 1024 + win0_9.xsize (grid0.coords ⟨(i 0).val / 256, ht⟩) 1
      rw [hi.2, hk.2]
      omega

theorem j10 : ∀ t : Fin cfg0.N, win0_10.index t 0 = t.val ∧ win0_10.index t 1 = 0 :=
  (by decide +kernel : ∀ t : Fin grid0.N, win0_10.index t 0 = t.val ∧ win0_10.index t 1 = 0)
theorem k10 : ∀ t : Fin cfg0.N, win0_10.xsize (grid0.coords t) 0 = 256 ∧ win0_10.xsize (grid0.coords t) 1 = 1024 :=
  (by decide +kernel : ∀ t : Fin grid0.N, win0_10.xsize (grid0.coords t) 0 = 256 ∧ win0_10.xsize (grid0.coords t) 1 = 1024)

theorem f10 (h : Holds (fun b => m (c, b)) I) :
    (dats m 0 c).arrAt 10 cfg0.N = (at2 (flat (y1 I)) : S8192x1024.Idx → EReal) := by
  refine (dats m 0 c).arrAt_eq_of_cover 10 _ (fun t _ => ?_) fun i => ?_
  · rw [flushed10, x10 m c h t]
    have hi := j10 t
    funext j
    have h0 : (j 0).val < 256 := (congrArg (fun n => (j 0).val < n) (k10 t).1).mp (j 0).isLt
    rw [View.read_apply]
    show (y1 I) (t.val / 8) (256 * (t.val % 8) + (j 0).val) (j 1).val = flat (y1 I) (win0_10.index t 0 * 256 + 1 * (j 0).val) (win0_10.index t 1 * 1024 + 1 * (j 1).val)
    rw [hi.1, hi.2]
    unfold flat
    congr 1 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_10 _, ?_⟩
    have hi := j10 ⟨(i 0).val / 256, ht⟩
    have hk := k10 ⟨(i 0).val / 256, ht⟩
    show i ∈ ((View.whole main_v15_1).slice (win0_10.rect ⟨(i 0).val / 256, ht⟩)).set
    rw [View.set_slice_whole, Rect.mem_set_unit]
    intro a
    match a with
    | ⟨0, _⟩ =>
      show win0_10.index ⟨(i 0).val / 256, ht⟩ 0 * 256 ≤ (i 0).val ∧ (i 0).val < win0_10.index ⟨(i 0).val / 256, ht⟩ 0 * 256 + win0_10.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_10.index ⟨(i 0).val / 256, ht⟩ 1 * 1024 ≤ (i 1).val ∧ (i 1).val < win0_10.index ⟨(i 0).val / 256, ht⟩ 1 * 1024 + win0_10.xsize (grid0.coords ⟨(i 0).val / 256, ht⟩) 1
      rw [hi.2, hk.2]
      omega

theorem j11 : ∀ t : Fin cfg0.N, win0_11.index t 0 = t.val ∧ win0_11.index t 1 = 0 :=
  (by decide +kernel : ∀ t : Fin grid0.N, win0_11.index t 0 = t.val ∧ win0_11.index t 1 = 0)
theorem k11 : ∀ t : Fin cfg0.N, win0_11.xsize (grid0.coords t) 0 = 256 ∧ win0_11.xsize (grid0.coords t) 1 = 1024 :=
  (by decide +kernel : ∀ t : Fin grid0.N, win0_11.xsize (grid0.coords t) 0 = 256 ∧ win0_11.xsize (grid0.coords t) 1 = 1024)

theorem f11 (h : Holds (fun b => m (c, b)) I) :
    (dats m 0 c).arrAt 11 cfg0.N = (at2 (flat (h2 I)) : S8192x1024.Idx → EReal) := by
  refine (dats m 0 c).arrAt_eq_of_cover 11 _ (fun t _ => ?_) fun i => ?_
  · rw [flushed11, x11 m c h t]
    have hi := j11 t
    funext j
    have h0 : (j 0).val < 256 := (congrArg (fun n => (j 0).val < n) (k11 t).1).mp (j 0).isLt
    rw [View.read_apply]
    show (h2 I) (t.val / 8) (256 * (t.val % 8) + (j 0).val) (j 1).val = flat (h2 I) (win0_11.index t 0 * 256 + 1 * (j 0).val) (win0_11.index t 1 * 1024 + 1 * (j 1).val)
    rw [hi.1, hi.2]
    unfold flat
    congr 1 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_11 _, ?_⟩
    have hi := j11 ⟨(i 0).val / 256, ht⟩
    have hk := k11 ⟨(i 0).val / 256, ht⟩
    show i ∈ ((View.whole main_v15_2).slice (win0_11.rect ⟨(i 0).val / 256, ht⟩)).set
    rw [View.set_slice_whole, Rect.mem_set_unit]
    intro a
    match a with
    | ⟨0, _⟩ =>
      show win0_11.index ⟨(i 0).val / 256, ht⟩ 0 * 256 ≤ (i 0).val ∧ (i 0).val < win0_11.index ⟨(i 0).val / 256, ht⟩ 0 * 256 + win0_11.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_11.index ⟨(i 0).val / 256, ht⟩ 1 * 1024 ≤ (i 1).val ∧ (i 1).val < win0_11.index ⟨(i 0).val / 256, ht⟩ 1 * 1024 + win0_11.xsize (grid0.coords ⟨(i 0).val / 256, ht⟩) 1
      rw [hi.2, hk.2]
      omega

theorem j12 : ∀ t : Fin cfg0.N, win0_12.index t 0 = t.val ∧ win0_12.index t 1 = 0 :=
  (by decide +kernel : ∀ t : Fin grid0.N, win0_12.index t 0 = t.val ∧ win0_12.index t 1 = 0)
theorem k12 : ∀ t : Fin cfg0.N, win0_12.xsize (grid0.coords t) 0 = 256 ∧ win0_12.xsize (grid0.coords t) 1 = 4096 :=
  (by decide +kernel : ∀ t : Fin grid0.N, win0_12.xsize (grid0.coords t) 0 = 256 ∧ win0_12.xsize (grid0.coords t) 1 = 4096)

theorem f12 (h : Holds (fun b => m (c, b)) I) :
    (dats m 0 c).arrAt 12 cfg0.N = (at2 (flat (u I)) : S8192x4096.Idx → EReal) := by
  refine (dats m 0 c).arrAt_eq_of_cover 12 _ (fun t _ => ?_) fun i => ?_
  · rw [flushed12, x12 m c h t]
    have hi := j12 t
    funext j
    have h0 : (j 0).val < 256 := (congrArg (fun n => (j 0).val < n) (k12 t).1).mp (j 0).isLt
    rw [View.read_apply]
    show (u I) (t.val / 8) (256 * (t.val % 8) + (j 0).val) (j 1).val = flat (u I) (win0_12.index t 0 * 256 + 1 * (j 0).val) (win0_12.index t 1 * 4096 + 1 * (j 1).val)
    rw [hi.1, hi.2]
    unfold flat
    congr 1 <;> omega
  · have hN : cfg0.N = 32 := N_0
    have h0 : (i 0).val < 8192 := (i 0).isLt
    have h1 : (i 1).val < 4096 := (i 1).isLt
    have ht : (i 0).val / 256 < cfg0.N := by rw [hN]; omega
    refine ⟨⟨(i 0).val / 256, ht⟩, flush0_12 _, ?_⟩
    have hi := j12 ⟨(i 0).val / 256, ht⟩
    have hk := k12 ⟨(i 0).val / 256, ht⟩
    show i ∈ ((View.whole main_v15_3).slice (win0_12.rect ⟨(i 0).val / 256, ht⟩)).set
    rw [View.set_slice_whole, Rect.mem_set_unit]
    intro a
    match a with
    | ⟨0, _⟩ =>
      show win0_12.index ⟨(i 0).val / 256, ht⟩ 0 * 256 ≤ (i 0).val ∧ (i 0).val < win0_12.index ⟨(i 0).val / 256, ht⟩ 0 * 256 + win0_12.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_12.index ⟨(i 0).val / 256, ht⟩ 1 * 4096 ≤ (i 1).val ∧ (i 1).val < win0_12.index ⟨(i 0).val / 256, ht⟩ 1 * 4096 + win0_12.xsize (grid0.coords ⟨(i 0).val / 256, ht⟩) 1
      rw [hi.2, hk.2]
      omega

theorem j13 : ∀ t : Fin cfg0.N, win0_13.index t 0 = t.val ∧ win0_13.index t 1 = 0 :=
  (by decide +kernel : ∀ t : Fin grid0.N, win0_13.index t 0 = t.val ∧ win0_13.index t 1 = 0)
theorem k13 : ∀ t : Fin cfg0.N, win0_13.xsize (grid0.coords t) 0 = 256 ∧ win0_13.xsize (grid0.coords t) 1 = 1024 :=
  (by decide +kernel : ∀ t : Fin grid0.N, win0_13.xsize (grid0.coords t) 0 = 256 ∧ win0_13.xsize (grid0.coords t) 1 = 1024)

theorem f13 (h : Holds (fun b => m (c, b)) I) :
    (dats m 0 c).arrAt 13 cfg0.N = (at2 (flat (ff I)) : S8192x1024.Idx → EReal) := by
  refine (dats m 0 c).arrAt_eq_of_cover 13 _ (fun t _ => ?_) fun i => ?_
  · rw [flushed13, x13 m c h t]
    have hi := j13 t
    funext j
    have h0 : (j 0).val < 256 := (congrArg (fun n => (j 0).val < n) (k13 t).1).mp (j 0).isLt
    rw [View.read_apply]
    show (ff I) (t.val / 8) (256 * (t.val % 8) + (j 0).val) (j 1).val = flat (ff I) (win0_13.index t 0 * 256 + 1 * (j 0).val) (win0_13.index t 1 * 1024 + 1 * (j 1).val)
    rw [hi.1, hi.2]
    unfold flat
    congr 1 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_13 _, ?_⟩
    have hi := j13 ⟨(i 0).val / 256, ht⟩
    have hk := k13 ⟨(i 0).val / 256, ht⟩
    show i ∈ ((View.whole main_v15_4).slice (win0_13.rect ⟨(i 0).val / 256, ht⟩)).set
    rw [View.set_slice_whole, Rect.mem_set_unit]
    intro a
    match a with
    | ⟨0, _⟩ =>
      show win0_13.index ⟨(i 0).val / 256, ht⟩ 0 * 256 ≤ (i 0).val ∧ (i 0).val < win0_13.index ⟨(i 0).val / 256, ht⟩ 0 * 256 + win0_13.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_13.index ⟨(i 0).val / 256, ht⟩ 1 * 1024 ≤ (i 1).val ∧ (i 1).val < win0_13.index ⟨(i 0).val / 256, ht⟩ 1 * 1024 + win0_13.xsize (grid0.coords ⟨(i 0).val / 256, ht⟩) 1
      rw [hi.2, hk.2]
      omega

theorem j14 : ∀ t : Fin cfg0.N, win0_14.index t 0 = t.val ∧ win0_14.index t 1 = 0 :=
  (by decide +kernel : ∀ t : Fin grid0.N, win0_14.index t 0 = t.val ∧ win0_14.index t 1 = 0)
theorem k14 : ∀ t : Fin cfg0.N, win0_14.xsize (grid0.coords t) 0 = 256 ∧ win0_14.xsize (grid0.coords t) 1 = 1024 :=
  (by decide +kernel : ∀ t : Fin grid0.N, win0_14.xsize (grid0.coords t) 0 = 256 ∧ win0_14.xsize (grid0.coords t) 1 = 1024)

theorem f14 (h : Holds (fun b => m (c, b)) I) :
    (dats m 0 c).arrAt 14 cfg0.N = (at2 (flat (y2 I)) : S8192x1024.Idx → EReal) := by
  refine (dats m 0 c).arrAt_eq_of_cover 14 _ (fun t _ => ?_) fun i => ?_
  · rw [flushed14, x14 m c h t]
    have hi := j14 t
    funext j
    have h0 : (j 0).val < 256 := (congrArg (fun n => (j 0).val < n) (k14 t).1).mp (j 0).isLt
    rw [View.read_apply]
    show (y2 I) (t.val / 8) (256 * (t.val % 8) + (j 0).val) (j 1).val = flat (y2 I) (win0_14.index t 0 * 256 + 1 * (j 0).val) (win0_14.index t 1 * 1024 + 1 * (j 1).val)
    rw [hi.1, hi.2]
    unfold flat
    congr 1 <;> omega
  · have hN : cfg0.N = 32 := N_0
    have h0 : (i 0).val < 8192 := (i 0).isLt
    have h1 : (i 1).val < 1024 := (i 1).isLt
    have ht : (i 0).val / 256 < cfg0.N := by rw [hN]; omega
    refine ⟨⟨(i 0).val / 256, ht⟩, flush0_14 _, ?_⟩
    have hi := j14 ⟨(i 0).val / 256, ht⟩
    have hk := k14 ⟨(i 0).val / 256, ht⟩
    show i ∈ ((View.whole main_v15_5).slice (win0_14.rect ⟨(i 0).val / 256, ht⟩)).set
    rw [View.set_slice_whole, Rect.mem_set_unit]
    intro a
    match a with
    | ⟨0, _⟩ =>
      show win0_14.index ⟨(i 0).val / 256, ht⟩ 0 * 256 ≤ (i 0).val ∧ (i 0).val < win0_14.index ⟨(i 0).val / 256, ht⟩ 0 * 256 + win0_14.xsize (grid0.coords ⟨(i 0).val / 256, ht⟩) 0
      rw [hi.1, hk.1]
      show (i 0).val / 256 * 256 ≤ (i 0).val ∧ (i 0).val < (i 0).val / 256 * 256 + 256
      omega
    | ⟨1, _⟩ =>
      show win0_14.index ⟨(i 0).val / 256, ht⟩ 1 * 1024 ≤ (i 1).val ∧ (i 1).val < win0_14.index ⟨(i 0).val / 256, ht⟩ 1 * 1024 + win0_14.xsize (grid0.coords ⟨(i 0).val / 256, ht⟩) 1
      rw [hi.2, hk.2]
      omega

end Cert.Fwd
end
-- ==== Proof.Fwd.Ref.lean ====
/- Each stage of the forward reference, over arrays given by natural-number coordinates. -/
module

public import proofs.«01_k».proof.Proof.Fwd.Spec
public import proofs.«01_k».proof.Proof.Gen.Reference2Ideal.Run

@[expose] public section

set_option maxRecDepth 16384

noncomputable section

namespace Cert.Fwd.Ref

open Cert.Reference2Ideal Cert.Reference2Ideal.Gen Cert.Reference2Ideal.Value Idealize.ShloMosaic Idealize.ShloMosaic.TcCoe Idealize.SL.Sem
open Cert.Up Cert.Fwd

variable {I : In}

theorem emix {X1 : FVec Ideal S4x2048x512 .f32} {X2 : FVec Ideal S4x2048x512 .f32} {X4 : FVec Ideal S1024x1024 .f32}
    (hX1 : X1 = at3 I.sb) (hX2 : X2 = at3 I.ml) (hX4 : X4 = at2 I.wo) :
    (Host.dotGeneral dot_S4x2048x1024_S1024x1024_S4x2048x1024_2_0_01_1_n_n none (concatenate S4x2048x1024 2 [⟨S4x2048x512, X1⟩, ⟨S4x2048x512, X2⟩] concatenates_S4x2048x512_S4x2048x512_S4x2048x1024_d2) X4)
      = (at3 (mix I) : FVec Ideal S4x2048x1024 .f32) := by
  rw [hX1, hX2, hX4]
  funext j; idx_vars j
  pointwise [at2, at3]
  rfl

theorem ey1 {X0 : FVec Ideal S4x2048x1024 .f32} {X3 : FVec Ideal S4x6144 .f32} {MX : FVec Ideal S4x2048x1024 .f32}
    (hX0 : X0 = at3 I.x) (hX3 : X3 = at2 I.mod) (hMX : MX = at3 (mix I)) :
    (addf (mulf (broadcastInDim S4x2048x1024 ![] bcast_S_S4x2048x1024 (constant S_ .f32 0x3F9837F0#32)) X0) (mulf (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 2048] X3 slices_S4x6144_S4x1024_0_2048)))) MX))
      = (at3 (y1 I) : FVec Ideal S4x2048x1024 .f32) := by
  rw [hX0, hX3, hMX]
  funext j; idx_vars j
  pointwise [at2, at3]
  rfl

theorem ecen {Y1 : FVec Ideal S4x2048x1024 .f32}
    (hY1 : Y1 = at3 (y1 I)) :
    (subf Y1 (broadcastInDim S4x2048x1024 ![0, 1, 2] bcast_S4x2048x1_S4x2048x1024_0_1_2 (Host.divf (broadcastInDim S4x2048x1 ![0, 1] bcast_S4x2048_S4x2048x1_0_1 (Host.reduceAdd Y1 (constant S_ .f32 0x00000000#32) reducesTo_S4x2048x1024_S4x2048_d2 h_S_)) (broadcastInDim S4x2048x1 ![] bcast_S_S4x2048x1 (constant S_ .f32 0x44800000#32)))))
      = (at3 fun b s c => cen (y1 I b s) c : FVec Ideal S4x2048x1024 .f32) := by
  rw [hY1]
  funext j; idx_vars j
  pointwise [at2, at3]
  rfl

theorem ersd {CE : FVec Ideal S4x2048x1024 .f32}
    (hCE : CE = at3 fun b s c => cen (y1 I b s) c) :
    (Host.rsqrt (addf (Host.divf (broadcastInDim S4x2048x1 ![0, 1] bcast_S4x2048_S4x2048x1_0_1 (Host.reduceAdd (mulf CE CE) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x3727C5AC#32))))
      = (at3 fun b s _ => rsd (y1 I b s) : FVec Ideal S4x2048x1 .f32) := by
  rw [hCE]
  funext j; idx_vars j
  pointwise [at2, at3]
  rfl

theorem ex1 {X5 : FVec Ideal S1x1024 .f32} {X6 : FVec Ideal S1x1024 .f32} {CE : FVec Ideal S4x2048x1024 .f32} {RS : FVec Ideal S4x2048x1 .f32}
    (hX5 : X5 = at2 fun _ c => I.g c) (hX6 : X6 = at2 fun _ c => I.b c) (hCE : CE = at3 fun b s c => cen (y1 I b s) c) (hRS : RS = at3 fun b s _ => rsd (y1 I b s)) :
    (addf (mulf (mulf CE (broadcastInDim S4x2048x1024 ![0, 1, 2] bcast_S4x2048x1_S4x2048x1024_0_1_2 RS)) (broadcastInDim S4x2048x1024 ![0, 1, 2] bcast_S1x1x1024_S4x2048x1024_0_1_2 (broadcastInDim S1x1x1024 ![2] bcast_S1024_S1x1x1024_2 (shapeCast _ X5 shapeCasts_S1x1024_S1024)))) (broadcastInDim S4x2048x1024 ![0, 1, 2] bcast_S1x1x1024_S4x2048x1024_0_1_2 (broadcastInDim S1x1x1024 ![2] bcast_S1024_S1x1x1024_2 (shapeCast _ X6 shapeCasts_S1x1024_S1024))))
      = (at3 (x1 I) : FVec Ideal S4x2048x1024 .f32) := by
  rw [hX5, hX6, hCE, hRS]
  funext j; idx_vars j
  pointwise [at2, at3]
  rfl

theorem eh2 {X3 : FVec Ideal S4x6144 .f32} {X1N : FVec Ideal S4x2048x1024 .f32}
    (hX3 : X3 = at2 I.mod) (hX1N : X1N = at3 (x1 I)) :
    (addf (mulf X1N (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] X3 slices_S4x6144_S4x1024_0_4096))))) (broadcastInDim S4x2048x1024 ![0, 1, 2] bcast_S4x1x1024_S4x2048x1024_0_1_2 (broadcastInDim S4x1x1024 ![0, 2] bcast_S4x1024_S4x1x1024_0_2 (extractStridedSlice S4x1024 ![0, 3072] X3 slices_S4x6144_S4x1024_0_3072))))
      = (at3 (h2 I) : FVec Ideal S4x2048x1024 .f32) := by
  rw [hX3, hX1N]
  funext j; idx_vars j
  pointwise [at2, at3]
  rfl

theorem eu {X7 : FVec Ideal S1024x4096 .f32} {H2 : FVec Ideal S4x2048x1024 .f32}
    (hX7 : X7 = at2 I.wu) (hH2 : H2 = at3 (h2 I)) :
    (Host.dotGeneral dot_S4x2048x1024_S1024x4096_S4x2048x4096_2_0_01_1_n_n none H2 X7)
      = (at3 (u I) : FVec Ideal S4x2048x4096 .f32) := by
  rw [hX7, hH2]
  funext j; idx_vars j
  pointwise [at2, at3]
  rfl

theorem eact {U : FVec Ideal S4x2048x4096 .f32}
    (hU : U = at3 (u I)) :
    (mulf (maximumf U (broadcastInDim S4x2048x4096 ![] bcast_S_S4x2048x4096 (constant S_ .f32 0x00000000#32))) (maximumf U (broadcastInDim S4x2048x4096 ![] bcast_S_S4x2048x4096 (constant S_ .f32 0x00000000#32))))
      = (at3 (act I) : FVec Ideal S4x2048x4096 .f32) := by
  rw [hU]
  funext j; idx_vars j
  pointwise [at2, at3]
  rfl

theorem eff {X8 : FVec Ideal S4096x1024 .f32} {AC : FVec Ideal S4x2048x4096 .f32}
    (hX8 : X8 = at2 I.wd) (hAC : AC = at3 (act I)) :
    (Host.dotGeneral dot_S4x2048x4096_S4096x1024_S4x2048x1024_2_0_01_1_n_n none AC X8)
      = (at3 (ff I) : FVec Ideal S4x2048x1024 .f32) := by
  rw [hX8, hAC]
  funext j; idx_vars j
  pointwise [at2, at3]
  rfl

theorem ey2 {X3 : FVec Ideal S4x6144 .f32} {X1N : FVec Ideal S4x2048x1024 .f32} {FF : FVec Ideal S4x2048x1024 .f32}
    (hX3 : X3 = at2 I.mod) (hX1N : X1N = at3 (x1 I)) (hFF : FF = at3 (ff I)) :
    (addf (mulf (broadcastInDim S4x2048x1024 ![] bcast_S_S4x2048x1024 (constant S_ .f32 0x3F9837F0#32)) X1N) (mulf (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 5120] X3 slices_S4x6144_S4x1024_0_5120)))) FF))
      = (at3 (y2 I) : FVec Ideal S4x2048x1024 .f32) := by
  rw [hX3, hX1N, hFF]
  funext j; idx_vars j
  pointwise [at2, at3]
  rfl

/-- Rows laid out batch row after batch row. -/
theorem rows {N : ℕ} {X : FVec Ideal ⟨3, ![4, 2048, N]⟩ .f32} {f : ℕ → ℕ → ℕ → EReal} (h : X = at3 f) (hN : N = 1024 ∨ N = 4096)
    (hc : (⟨3, ![4, 2048, N]⟩ : Shape).ShapeCasts ⟨2, ![8192, N]⟩) :
    shapeCast ⟨2, ![8192, N]⟩ X hc = (at2 (flat f) : FVec Ideal ⟨2, ![8192, N]⟩ .f32) := by
  rw [h]
  rcases hN with rfl | rfl
  · funext j; idx_vars j
    pointwise [at2, at3]
    rfl
  · funext j; idx_vars j
    pointwise [at2, at3]
    rfl

/-- The program's arguments hold the numbers of `I`. -/
structure Holds (m : (ℓ : Loc nD τ sig) → Buf (Elt Ideal) ℓ) (c : Dev nD) (I : In) : Prop where
  a0 : (m ((c.tc : Thread nD τ).loc main_arg0) : FVec Ideal S4x2048x1024 .f32) = at3 I.x
  a1 : (m ((c.tc : Thread nD τ).loc main_arg1) : FVec Ideal S4x2048x512 .f32) = at3 I.sb
  a2 : (m ((c.tc : Thread nD τ).loc main_arg2) : FVec Ideal S4x2048x512 .f32) = at3 I.ml
  a3 : (m ((c.tc : Thread nD τ).loc main_arg3) : FVec Ideal S4x6144 .f32) = at2 I.mod
  a4 : (m ((c.tc : Thread nD τ).loc main_arg4) : FVec Ideal S1024x1024 .f32) = at2 I.wo
  a5 : (m ((c.tc : Thread nD τ).loc main_arg5) : FVec Ideal S1x1024 .f32) = at2 fun _ c => I.g c
  a6 : (m ((c.tc : Thread nD τ).loc main_arg6) : FVec Ideal S1x1024 .f32) = at2 fun _ c => I.b c
  a7 : (m ((c.tc : Thread nD τ).loc main_arg7) : FVec Ideal S1024x4096 .f32) = at2 I.wu
  a8 : (m ((c.tc : Thread nD τ).loc main_arg8) : FVec Ideal S4096x1024 .f32) = at2 I.wd

variable {m : (ℓ : Loc nD τ sig) → Buf (Elt Ideal) ℓ} {c : Dev nD}

/-- The four results that rest on the norm. -/
theorem results (h : Holds m c I) :
    (res_main_v67 m c : FVec Ideal S8192x1024 .f32) = at2 (flat (h2 I))
    ∧ (res_main_v69 m c : FVec Ideal S8192x4096 .f32) = at2 (flat (u I))
    ∧ (res_main_v70 m c : FVec Ideal S8192x1024 .f32) = at2 (flat (ff I))
    ∧ (res_main_v71 m c : FVec Ideal S8192x1024 .f32) = at2 (flat (y2 I)) := by
  have kmix := emix h.a1 h.a2 h.a4
  have ky1 := ey1 h.a0 h.a3 kmix
  have kcen := ecen ky1
  have krsd := ersd kcen
  have kx1 := ex1 h.a5 h.a6 kcen krsd
  have kh2 := eh2 h.a3 kx1
  have ku := eu h.a7 kh2
  have kact := eact ku
  have kff := eff h.a8 kact
  have ky2 := ey2 h.a3 kx1 kff
  exact ⟨rows kh2 (.inl rfl) _, rows ku (.inr rfl) _, rows kff (.inl rfl) _, rows ky2 (.inl rfl) _⟩

end Cert.Fwd.Ref

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bwd.Frame
public import proofs.«01_k».proof.Proof.Bwd.Blocks
public import proofs.«01_k».proof.Proof.Up.Final
public import proofs.«01_k».proof.Proof.Up.Ref
public import proofs.«01_k».proof.Proof.Up.Pre
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Wg.Final
public import proofs.«01_k».proof.Proof.Gen.Kernel4
public import proofs.«01_k».proof.Proof.Gen.Kernel4Ideal
public import proofs.«01_k».proof.Proof.Gen.Reference4Ideal
public import proofs.«01_k».proof.Proof.Wu.Final
public import proofs.«01_k».proof.Proof.Fwd.Final
public import proofs.«01_k».proof.Proof.Fwd.Ref
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Up Cert.Spec

/-- The real numbers the kernel's arguments hold on device `c`. -/
def inOf (m : (ℓ : Loc Cert.KernelIdeal.nD Cert.KernelIdeal.τ Cert.KernelIdeal.sig) → Buf (Elt Ideal) ℓ) (c : Dev Cert.KernelIdeal.nD) : In :=
  Cert.Pre.ofArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

theorem kHolds (m : (ℓ : Loc Cert.KernelIdeal.nD Cert.KernelIdeal.τ Cert.KernelIdeal.sig) → Buf (Elt Ideal) ℓ) (h : Cert.Pre_KernelIdeal_finite m) (c : Dev Cert.KernelIdeal.nD) :
    Cert.HostLift.Holds (fun b => m (c, b)) (inOf m c) := by
  obtain ⟨h0, h1, h2, h3, h4, h5, h6, h7, h8, h9, h10⟩ := Cert.Pre.reals _ _ _ _ _ _ _ _ _ _ _ (h c)
  exact ⟨(Cert.KernelIdeal.Gen.V_main_arg0 m c).trans (Cert.Pre.up3_of3 _ h0).symm,
    (Cert.KernelIdeal.Gen.V_main_arg1 m c).trans (Cert.Pre.up3_of3 _ h1).symm,
    (Cert.KernelIdeal.Gen.V_main_arg2 m c).trans (Cert.Pre.up2_of2 _ h2).symm,
    (Cert.KernelIdeal.Gen.V_main_arg3 m c).trans (Cert.Pre.up2_of2 _ h3).symm,
    (Cert.KernelIdeal.Gen.V_main_arg4 m c).trans (Cert.Pre.up1_of2 _ h4).symm,
    (Cert.KernelIdeal.Gen.V_main_arg5 m c).trans (Cert.Pre.up1_of2 _ h5).symm,
    (Cert.KernelIdeal.Gen.V_main_arg6 m c).trans (Cert.Pre.up2_of2 _ h6).symm,
    (Cert.KernelIdeal.Gen.V_main_arg7 m c).trans (Cert.Pre.up2_of2 _ h7).symm,
    (Cert.KernelIdeal.Gen.V_main_arg8 m c).trans (Cert.Pre.up1_of2 _ h8).symm,
    (Cert.KernelIdeal.Gen.V_main_arg9 m c).trans (Cert.Pre.up1_of2 _ h9).symm,
    (Cert.KernelIdeal.Gen.V_main_arg10 m c).trans (Cert.Pre.up3_of3 _ h10).symm⟩

theorem rHolds (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (h : Cert.Pre_KernelIdeal_finite m) (c : Dev Cert.KernelIdeal.nD) (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.RefLift.Holds (StableHlo.launchContents m' c) (inOf m c) := by
  obtain ⟨h0, h1, h2, h3, h4, h5, h6, h7, h8, h9, h10⟩ := Cert.Pre.reals _ _ _ _ _ _ _ _ _ _ _ (h c)
  obtain ⟨e0, e1, e2, e3, e4, e5, e6, e7, e8, e9, e10⟩ := e
  exact ⟨e0.trans (Cert.Pre.up3_of3 _ h0).symm,
    e1.trans (Cert.Pre.up3_of3 _ h1).symm,
    e2.trans (Cert.Pre.up2_of2 _ h2).symm,
    e3.trans (Cert.Pre.up2_of2 _ h3).symm,
    e4.trans (Cert.Pre.up1_of2 _ h4).symm,
    e5.trans (Cert.Pre.up1_of2 _ h5).symm,
    e6.trans (Cert.Pre.up2_of2 _ h6).symm,
    e7.trans (Cert.Pre.up2_of2 _ h7).symm,
    e8.trans (Cert.Pre.up1_of2 _ h8).symm,
    e9.trans (Cert.Pre.up1_of2 _ h9).symm,
    e10.trans (Cert.Pre.up3_of3 _ h10).symm⟩

/-- The kernel as compiled is the ideal kernel's text, so it ends as that does, over any float values. -/
theorem frame_kernel : Cert.quiescent_Kernel :=
  Eq.mp (by sl_kernel_rfl) fun (m : (ℓ : Loc Cert.KernelIdeal.nD Cert.KernelIdeal.τ Cert.KernelIdeal.sig) → Buf (Elt Bits) ℓ) ρ (_ : True) =>
    Cert.KernelIdeal.Gen.frame (F := Bits) m ρ

theorem frame_reference : Cert.quiescent_ReferenceIdeal := fun m g _ =>
  (θ_run Cert.ReferenceIdeal.defs _ _).mono (fun r h => ⟨fun c => (h c).2.2.2.2.2.2.2, funext fun x => by
    rcases x with ⟨_, s | s⟩ <;> exact s.elim0⟩) (Cert.ReferenceIdeal.Value.run (F := Ideal) m g)

theorem algebraic : Cert.algebraic_KernelIdeal_ReferenceIdeal_pre_finite := by
  intro m g m' g' hp he
  refine ⟨fun c => (up2 (flat (dy1 (inOf m c))) : Cert.KernelIdeal.S8192x1024.Idx → EReal), fun c => (up2 (flat (dmix (inOf m c))) : Cert.KernelIdeal.S8192x1024.Idx → EReal),
    fun c => (up2 (flat (dat (inOf m c))) : Cert.KernelIdeal.S8192x1024.Idx → EReal), fun c => (up2 (flat (dff (inOf m c))) : Cert.KernelIdeal.S8192x1024.Idx → EReal),
    fun c => (up2 (flat (du (inOf m c))) : Cert.KernelIdeal.S8192x4096.Idx → EReal), fun c => (up2 (accs (inOf m c)) : Cert.KernelIdeal.S8x1024.Idx → EReal),
    fun c => (up3 (dmods (inOf m c)) : Cert.KernelIdeal.S4x8x1024.Idx → EReal), ?_, ?_⟩
  · refine (θ_run _ _ _).mono (fun r h c => ?_) (Cert.KernelIdeal.Value.run_blocks (F := Ideal) m g)
    obtain ⟨h0, h1, h2, h3, h4, h5, h6, ha⟩ := h c
    have k := kHolds m hp c
    exact ⟨h0.trans (Cert.Final.f14 m c k), h1.trans (Cert.Final.f15 m c k), h2.trans (Cert.Final.f16 m c k), h3.trans (Cert.Final.f17 m c k),
      h4.trans (Cert.Final.f18 m c k), h5.trans (Cert.Final.f19 m c k), h6.trans (Cert.Final.f20 m c k), ha⟩
  · refine (θ_run _ _ _).mono (fun r h c => ?_) (Cert.ReferenceIdeal.Value.run (F := Ideal) m' g')
    obtain ⟨h0, h1, h2, h3, h4, h5, h6, ha⟩ := h c
    have k := rHolds m m' hp c (he c)
    exact ⟨h0.trans (Cert.RefLift.rDy1 k), h1.trans (Cert.RefLift.rDmix k), h2.trans (Cert.RefLift.rDat k), h3.trans (Cert.RefLift.rDff k),
      h4.trans (Cert.RefLift.rDu k), h5.trans (Cert.RefLift.rAcc k), h6.trans (Cert.RefLift.rDmod k), ha⟩

/-! ## The forward call -/

/-- The forward call's arguments on device `c`. -/
def fwdIn (m : (ℓ : Loc Cert.Kernel2Ideal.nD Cert.Kernel2Ideal.τ Cert.Kernel2Ideal.sig) → Buf (Elt Ideal) ℓ) (c : Dev Cert.Kernel2Ideal.nD) : Cert.Fwd.In where
  x := Cert.Fwd.nat3 (A := 4) (B := 2048) (C := 1024) (m ((c.tc : Thread Cert.Kernel2Ideal.nD Cert.Kernel2Ideal.τ).loc Cert.Kernel2Ideal.main_arg0))
  sb := Cert.Fwd.nat3 (A := 4) (B := 2048) (C := 512) (m ((c.tc : Thread Cert.Kernel2Ideal.nD Cert.Kernel2Ideal.τ).loc Cert.Kernel2Ideal.main_arg1))
  ml := Cert.Fwd.nat3 (A := 4) (B := 2048) (C := 512) (m ((c.tc : Thread Cert.Kernel2Ideal.nD Cert.Kernel2Ideal.τ).loc Cert.Kernel2Ideal.main_arg2))
  mod := Cert.Fwd.nat2 (A := 4) (B := 6144) (m ((c.tc : Thread Cert.Kernel2Ideal.nD Cert.Kernel2Ideal.τ).loc Cert.Kernel2Ideal.main_arg3))
  wo := Cert.Fwd.nat2 (A := 1024) (B := 1024) (m ((c.tc : Thread Cert.Kernel2Ideal.nD Cert.Kernel2Ideal.τ).loc Cert.Kernel2Ideal.main_arg4))
  g := Cert.Fwd.nat2 (A := 1) (B := 1024) (m ((c.tc : Thread Cert.Kernel2Ideal.nD Cert.Kernel2Ideal.τ).loc Cert.Kernel2Ideal.main_arg5)) 0
  b := Cert.Fwd.nat2 (A := 1) (B := 1024) (m ((c.tc : Thread Cert.Kernel2Ideal.nD Cert.Kernel2Ideal.τ).loc Cert.Kernel2Ideal.main_arg6)) 0
  wu := Cert.Fwd.nat2 (A := 1024) (B := 4096) (m ((c.tc : Thread Cert.Kernel2Ideal.nD Cert.Kernel2Ideal.τ).loc Cert.Kernel2Ideal.main_arg7))
  wd := Cert.Fwd.nat2 (A := 4096) (B := 1024) (m ((c.tc : Thread Cert.Kernel2Ideal.nD Cert.Kernel2Ideal.τ).loc Cert.Kernel2Ideal.main_arg8))

theorem kFwd (m : (ℓ : Loc Cert.Kernel2Ideal.nD Cert.Kernel2Ideal.τ Cert.Kernel2Ideal.sig) → Buf (Elt Ideal) ℓ) (c : Dev Cert.Kernel2Ideal.nD) :
    Cert.Fwd.Holds (fun b => m (c, b)) (fwdIn m c) :=
  ⟨(Cert.Kernel2Ideal.Gen.V_main_arg0 m c).trans (Cert.Fwd.at3_nat3 _).symm,
    (Cert.Kernel2Ideal.Gen.V_main_arg1 m c).trans (Cert.Fwd.at3_nat3 _).symm,
    (Cert.Kernel2Ideal.Gen.V_main_arg2 m c).trans (Cert.Fwd.at3_nat3 _).symm,
    (Cert.Kernel2Ideal.Gen.V_main_arg3 m c).trans (Cert.Fwd.at2_nat2 _).symm,
    (Cert.Kernel2Ideal.Gen.V_main_arg4 m c).trans (Cert.Fwd.at2_nat2 _).symm,
    (Cert.Kernel2Ideal.Gen.V_main_arg5 m c).trans (Cert.Fwd.at2_row _).symm,
    (Cert.Kernel2Ideal.Gen.V_main_arg6 m c).trans (Cert.Fwd.at2_row _).symm,
    (Cert.Kernel2Ideal.Gen.V_main_arg7 m c).trans (Cert.Fwd.at2_nat2 _).symm,
    (Cert.Kernel2Ideal.Gen.V_main_arg8 m c).trans (Cert.Fwd.at2_nat2 _).symm⟩

theorem algebraic2 : Cert.algebraic_Kernel2Ideal_Reference2Ideal := by
  intro m g m' g' _ he
  refine ⟨fun c => (Cert.Fwd.at2 (Cert.Fwd.flat (Cert.Fwd.mix (fwdIn m c))) : Cert.Kernel2Ideal.S8192x1024.Idx → EReal),
    fun c => (Cert.Fwd.at2 (Cert.Fwd.flat (Cert.Fwd.y1 (fwdIn m c))) : Cert.Kernel2Ideal.S8192x1024.Idx → EReal),
    fun c => (Cert.Fwd.at2 (Cert.Fwd.flat (Cert.Fwd.h2 (fwdIn m c))) : Cert.Kernel2Ideal.S8192x1024.Idx → EReal),
    fun c => (Cert.Fwd.at2 (Cert.Fwd.flat (Cert.Fwd.u (fwdIn m c))) : Cert.Kernel2Ideal.S8192x4096.Idx → EReal),
    fun c => (Cert.Fwd.at2 (Cert.Fwd.flat (Cert.Fwd.ff (fwdIn m c))) : Cert.Kernel2Ideal.S8192x1024.Idx → EReal),
    fun c => (Cert.Fwd.at2 (Cert.Fwd.flat (Cert.Fwd.y2 (fwdIn m c))) : Cert.Kernel2Ideal.S8192x1024.Idx → EReal), ?_, ?_⟩
  · refine (θ_run _ _ _).mono (fun r h c => ?_) (Cert.Kernel2Ideal.Value.run_blocks (F := Ideal) m g)
    obtain ⟨h0, h1, h2, h3, h4, h5, ha⟩ := h c
    have k := kFwd m c
    exact ⟨h0.trans (Cert.Fwd.f9 m c k), h1.trans (Cert.Fwd.f10 m c k), h2.trans (Cert.Fwd.f11 m c k), h3.trans (Cert.Fwd.f12 m c k),
      h4.trans (Cert.Fwd.f13 m c k), h5.trans (Cert.Fwd.f14 m c k), ha⟩
  · refine (θ_run _ _ _).mono (fun r h c => ?_) (Cert.Reference2Ideal.Value.run (F := Ideal) m' g')
    obtain ⟨h0, h1, h2, h3, h4, h5, ha⟩ := h c
    obtain ⟨e0, e1, e2, e3, e4, e5, e6, e7, e8⟩ := he c
    have k : Cert.Fwd.Ref.Holds m' c (fwdIn m c) := ⟨e0.trans (Cert.Fwd.at3_nat3 _).symm, e1.trans (Cert.Fwd.at3_nat3 _).symm, e2.trans (Cert.Fwd.at3_nat3 _).symm, e3.trans (Cert.Fwd.at2_nat2 _).symm, e4.trans (Cert.Fwd.at2_nat2 _).symm, e5.trans (Cert.Fwd.at2_row _).symm, e6.trans (Cert.Fwd.at2_row _).symm, e7.trans (Cert.Fwd.at2_nat2 _).symm, e8.trans (Cert.Fwd.at2_nat2 _).symm⟩
    obtain ⟨k2, k3, k4, k5⟩ := Cert.Fwd.Ref.results k
    have km := Cert.Fwd.Ref.emix k.a1 k.a2 k.a4
    exact ⟨h0.trans (Cert.Fwd.Ref.rows km (.inl rfl) _), h1.trans (Cert.Fwd.Ref.rows (Cert.Fwd.Ref.ey1 k.a0 k.a3 km) (.inl rfl) _),
      h2.trans k2, h3.trans k3, h4.trans k4, h5.trans k5, ha⟩

/-- The forward kernel as compiled is the ideal kernel's text, so it ends as that does, over any float values. -/
theorem frame_kernel2 : Cert.quiescent_Kernel2 :=
  Eq.mp (by sl_kernel_rfl) fun (m : (ℓ : Loc Cert.Kernel2Ideal.nD Cert.Kernel2Ideal.τ Cert.Kernel2Ideal.sig) → Buf (Elt Bits) ℓ) ρ (_ : True) =>
    Cert.Kernel2Ideal.Gen.frame (F := Bits) m ρ

theorem frame_reference2 : Cert.quiescent_Reference2Ideal := fun m g _ =>
  (θ_run Cert.Reference2Ideal.defs _ _).mono (fun r h => ⟨fun c => (h c).2.2.2.2.2.2, funext fun x => by
    rcases x with ⟨_, s | s⟩ <;> exact s.elim0⟩) (Cert.Reference2Ideal.Value.run (F := Ideal) m g)

/-! ## The down projection's weight gradient -/

/-- The kernel as compiled is the ideal kernel's text. -/
theorem frame_kernel3 : Cert.quiescent_Kernel3 :=
  Eq.mp (by sl_kernel_rfl) fun (m : (ℓ : Loc Cert.Kernel3Ideal.nD Cert.Kernel3Ideal.τ Cert.Kernel3Ideal.sig) → Buf (Elt Bits) ℓ) ρ (_ : True) =>
    Cert.Kernel3Ideal.Gen.frame (F := Bits) m ρ

theorem frame_reference3 : Cert.quiescent_Reference3Ideal := fun m g _ =>
  (θ_run Cert.Reference3Ideal.defs _ _).mono (fun r h => ⟨fun c => (h c).2, funext fun x => by
    rcases x with ⟨_, s | s⟩ <;> exact s.elim0⟩) (Cert.Reference3Ideal.Value.run (F := Ideal) m g)

theorem algebraic3 : Cert.algebraic_Kernel3Ideal_Reference3Ideal := by
  intro m g m' g' _ he
  have k (c) : Cert.Wg.Holds m c _ _ _ := ⟨(Cert.Fwd.at2_nat2 _).symm, (Cert.Fwd.at2_nat2 _).symm, (Cert.Fwd.at3_nat3 _).symm⟩
  refine ⟨_, (θ_run _ _ _).mono (fun r h c => ⟨(h c).1.trans (Cert.Wg.final m c (k c)), (h c).2⟩) (Cert.Kernel3Ideal.Value.run_blocks (F := Ideal) m g),
    (θ_run _ _ _).mono (fun r h c => ?_) (Cert.Reference3Ideal.Value.run (F := Ideal) m' g')⟩
  obtain ⟨e0, e1, e2⟩ := he c
  exact ⟨(h c).1.trans (Cert.Wg.reference (e0.trans (k c).a0) (e1.trans (k c).a1) (e2.trans (k c).a2)), (h c).2⟩

/-! ## The up projection's weight gradient -/

/-- The kernel as compiled is the ideal kernel's text. -/
theorem frame_kernel4 : Cert.quiescent_Kernel4 :=
  Eq.mp (by sl_kernel_rfl) fun (m : (ℓ : Loc Cert.Kernel4Ideal.nD Cert.Kernel4Ideal.τ Cert.Kernel4Ideal.sig) → Buf (Elt Bits) ℓ) ρ (_ : True) =>
    Cert.Kernel4Ideal.Gen.frame (F := Bits) m ρ

theorem frame_reference4 : Cert.quiescent_Reference4Ideal := fun m g _ =>
  (θ_run Cert.Reference4Ideal.defs _ _).mono (fun r h => ⟨fun c => (h c).2, funext fun x => by
    rcases x with ⟨_, s | s⟩ <;> exact s.elim0⟩) (Cert.Reference4Ideal.Value.run (F := Ideal) m g)

theorem algebraic4 : Cert.algebraic_Kernel4Ideal_Reference4Ideal := by
  intro m g m' g' _ he
  have k (c) : Cert.Wu.Holds m c _ _ := ⟨(Cert.Fwd.at2_nat2 _).symm, (Cert.Fwd.at2_nat2 _).symm⟩
  refine ⟨_, (θ_run _ _ _).mono (fun r h c => ⟨(h c).1.trans (Cert.Wu.final m c (k c)), (h c).2⟩) (Cert.Wu.run m g),
    (θ_run _ _ _).mono (fun r h c => ?_) (Cert.Reference4Ideal.Value.run (F := Ideal) m' g')⟩
  obtain ⟨e0, e1⟩ := he c
  exact ⟨(h c).1.trans (Cert.Wu.reference (e0.trans (k c).a0) (e1.trans (k c).a1)), (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre.facts,
  frame_kernel, fun m ρ _ => Cert.KernelIdeal.Gen.frame m ρ, fun m ρ _ => Cert.KernelIdeal.Gen.frame m ρ,
  frame_reference, fun m ρ _ => frame_reference m ρ trivial,
  frame_kernel2, fun m ρ _ => Cert.Kernel2Ideal.Gen.frame m ρ, frame_reference2,
  frame_kernel3, fun m ρ _ => Cert.Kernel3Ideal.Gen.frame m ρ, frame_reference3,
  frame_kernel4, fun m ρ _ => Cert.Kernel4Ideal.Gen.frame m ρ, frame_reference4,
  trivial, algebraic, trivial, algebraic2, trivial, algebraic3, trivial, algebraic4⟩

end Cert.Proof

end
